-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_KernelIdeal_rows_named_scores_finite [hPre_rows_named_scores_finite : Cert.Pre_rows_named_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named_scores_finite [hPre_rows_named_scores_finite : Cert.Pre_rows_named_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_rows_named_scores_finite [hKernelIdeal : Cert.KernelIdeal.Facts] [hPre_rows_named_scores_finite : Cert.Pre_rows_named_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_named_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_rows_named_scores_finite [hReferenceIdeal : Cert.ReferenceIdeal.Facts] [hPre_rows_named_scores_finite : Cert.Pre_rows_named_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_rows_named_scores_finite [hKernelIdeal : Cert.KernelIdeal.Facts] [hReferenceIdeal : Cert.ReferenceIdeal.Facts] [hPre_rows_named_scores_finite : Cert.Pre_rows_named_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_named_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_rows_named : Cert.Pre_rows_named.Facts) (hPre_rows_named_scores_finite : Cert.Pre_rows_named_scores_finite.Facts),
    quiescent_Kernel (hKernel := hKernel) (hPre_rows_named := hPre_rows_named)
    ∧ quiescent_KernelIdeal (hKernelIdeal := hKernelIdeal) (hPre_rows_named := hPre_rows_named)
    ∧ quiescent_KernelIdeal_pre_rows_named_scores_finite (hKernelIdeal := hKernelIdeal) (hPre_rows_named_scores_finite := hPre_rows_named_scores_finite)
    ∧ quiescent_ReferenceIdeal (hReferenceIdeal := hReferenceIdeal)
    ∧ quiescent_ReferenceIdeal_pre_rows_named_scores_finite (hReferenceIdeal := hReferenceIdeal) (hPre_rows_named_scores_finite := hPre_rows_named_scores_finite)
    ∧ preserves_Kernel_KernelIdeal
    ∧ algebraic_KernelIdeal_ReferenceIdeal_pre_rows_named_scores_finite (hKernelIdeal := hKernelIdeal) (hReferenceIdeal := hReferenceIdeal) (hPre_rows_named_scores_finite := hPre_rows_named_scores_finite)
-- ==== Pre_rows_named.lean ====
abbrev S32x1 : Shape := ⟨2, ![32, 1]⟩
abbrev S32x256 : Shape := ⟨2, ![32, 256]⟩
abbrev S32x2048x256 : Shape := ⟨3, ![32, 2048, 256]⟩
abbrev S100000x64 : Shape := ⟨2, ![100000, 64]⟩
abbrev S256x256 : Shape := ⟨2, ![256, 256]⟩
abbrev S256 : Shape := ⟨1, ![256]⟩
abbrev S256x1 : Shape := ⟨2, ![256, 1]⟩
abbrev S1 : Shape := ⟨1, ![1]⟩
abbrev S320x768 : Shape := ⟨2, ![320, 768]⟩
abbrev S256x768 : Shape := ⟨2, ![256, 768]⟩
abbrev S2x768 : Shape := ⟨2, ![2, 768]⟩
abbrev S256x100000 : Shape := ⟨2, ![256, 100000]⟩
abbrev S100000 : Shape := ⟨1, ![100000]⟩
abbrev S_ : Shape := ⟨0, ![]⟩

class Facts : Prop where
  bcast_S_S32x1 : S_.BroadcastsInDim S32x1 (![] : Fin 0 → Fin S32x1.rank)
  reducesTo_S32x1_S_d0_1 : S32x1.ReducesTo [0, 1] S_
  h_S_ : 0 < S_.numel

variable [Facts]

def fn {F : FTy → Type} [FloatOps F] (main_arg0 : IVec S32x1 32) (main_arg1 : FVec F S32x256 .f32) (main_arg2 : FVec F S32x2048x256 .f32) (main_arg3 : FVec F S100000x64 .f32) (main_arg4 : FVec F S256x256 .f32) (main_arg5 : FVec F S256 .f32) (main_arg6 : FVec F S256x256 .f32) (main_arg7 : FVec F S256 .f32) (main_arg8 : FVec F S256x1 .f32) (main_arg9 : FVec F S1 .f32) (main_arg10 : FVec F S320x768 .f32) (main_arg11 : FVec F S256x768 .f32) (main_arg12 : FVec F S2x768 .f32) (main_arg13 : FVec F S256x100000 .f32) (main_arg14 : FVec F S100000 .f32) : IVec S_ 1 :=
  let main_c : IVec S_ 32 := constantI S_ 32 0#32
  let main_v0 : IVec S32x1 32 := broadcastInDim S32x1 ![] bcast_S_S32x1 main_c
  let main_v1 : IVec S32x1 1 := cmpi .sge main_arg0 main_v0
  let main_c_0 : IVec S_ 32 := constantI S_ 32 100000#32
  let main_v2 : IVec S32x1 32 := broadcastInDim S32x1 ![] bcast_S_S32x1 main_c_0
  let main_v3 : IVec S32x1 1 := cmpi .slt main_arg0 main_v2
  let main_v4 : IVec S32x1 1 := andi main_v1 main_v3
  let main_c_1 : IVec S_ 1 := constantI S_ 1 1#1
  let main_v5 : IVec S_ 1 := (fun x v => Host.reduce IntOp.andi x v reducesTo_S32x1_S_d0_1 h_S_) main_v4 main_c_1
  main_v5
-- ==== Pre_rows_named_scores_finite.lean ====
abbrev S32x1 : Shape := ⟨2, ![32, 1]⟩
abbrev S32x256 : Shape := ⟨2, ![32, 256]⟩
abbrev S32x2048x256 : Shape := ⟨3, ![32, 2048, 256]⟩
abbrev S100000x64 : Shape := ⟨2, ![100000, 64]⟩
abbrev S256x256 : Shape := ⟨2, ![256, 256]⟩
abbrev S256 : Shape := ⟨1, ![256]⟩
abbrev S256x1 : Shape := ⟨2, ![256, 1]⟩
abbrev S1 : Shape := ⟨1, ![1]⟩
abbrev S320x768 : Shape := ⟨2, ![320, 768]⟩
abbrev S256x768 : Shape := ⟨2, ![256, 768]⟩
abbrev S2x768 : Shape := ⟨2, ![2, 768]⟩
abbrev S256x100000 : Shape := ⟨2, ![256, 100000]⟩
abbrev S100000 : Shape := ⟨1, ![100000]⟩
abbrev S_ : Shape := ⟨0, ![]⟩

class Facts : Prop where
  bcast_S_S32x1 : S_.BroadcastsInDim S32x1 (![] : Fin 0 → Fin S32x1.rank)
  reducesTo_S32x1_S_d0_1 : S32x1.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : IVec S32x1 32) (main_arg1 : FVec F S32x256 .f32) (main_arg2 : FVec F S32x2048x256 .f32) (main_arg3 : FVec F S100000x64 .f32) (main_arg4 : FVec F S256x256 .f32) (main_arg5 : FVec F S256 .f32) (main_arg6 : FVec F S256x256 .f32) (main_arg7 : FVec F S256 .f32) (main_arg8 : FVec F S256x1 .f32) (main_arg9 : FVec F S1 .f32) (main_arg10 : FVec F S320x768 .f32) (main_arg11 : FVec F S256x768 .f32) (main_arg12 : FVec F S2x768 .f32) (main_arg13 : FVec F S256x100000 .f32) (main_arg14 : FVec F S100000 .f32) : IVec S_ 1 :=
  let main_c : IVec S_ 32 := constantI S_ 32 0#32
  let main_v0 : IVec S32x1 32 := broadcastInDim S32x1 ![] bcast_S_S32x1 main_c
  let main_v1 : IVec S32x1 1 := cmpi .sge main_arg0 main_v0
  let main_c_0 : IVec S_ 32 := constantI S_ 32 100000#32
  let main_v2 : IVec S32x1 32 := broadcastInDim S32x1 ![] bcast_S_S32x1 main_c_0
  let main_v3 : IVec S32x1 1 := cmpi .slt main_arg0 main_v2
  let main_v4 : IVec S32x1 1 := andi main_v1 main_v3
  let main_c_1 : IVec S_ 1 := constantI S_ 1 1#1
  let main_v5 : IVec S_ 1 := (fun x v => Host.reduce IntOp.andi x v reducesTo_S32x1_S_d0_1 h_S_) main_v4 main_c_1
  let main_v6 : FVec F S256x1 .f32 := Host.absf main_arg8
  let main_cst : FVec F S_ .f32 := constant S_ .f32 0x7F800000#32
  let main_v7 : FVec F S256x1 .f32 := broadcastInDim S256x1 ![] bcast_S_S256x1 main_cst
  let main_v8 : IVec S256x1 1 := cmpf .olt main_v6 main_v7
  let main_c_2 : IVec S_ 1 := constantI S_ 1 1#1
  let main_v9 : IVec S_ 1 := (fun x v => Host.reduce IntOp.andi x v reducesTo_S256x1_S_d0_1 h_S_) main_v8 main_c_2
  let main_v10 : IVec S_ 1 := andi main_v5 main_v9
  let main_v11 : FVec F S1 .f32 := Host.absf main_arg9
  let main_cst_3 : FVec F S_ .f32 := constant S_ .f32 0x7F800000#32
  let main_v12 : FVec F S1 .f32 := broadcastInDim S1 ![] bcast_S_S1 main_cst_3
  let main_v13 : IVec S1 1 := cmpf .olt main_v11 main_v12
  let main_c_4 : IVec S_ 1 := constantI S_ 1 1#1
  let main_v14 : IVec S_ 1 := (fun x v => Host.reduce IntOp.andi x v reducesTo_S1_S_d0 h_S_) main_v13 main_c_4
  let main_v15 : IVec S_ 1 := andi main_v10 main_v14
  main_v15
-- ==== Kernel.lean ====
abbrev S32x1 : Shape := ⟨2, ![32, 1]⟩
abbrev S32x256 : Shape := ⟨2, ![32, 256]⟩
abbrev S32x2048x256 : Shape := ⟨3, ![32, 2048, 256]⟩
abbrev S100000x64 : Shape := ⟨2, ![100000, 64]⟩
abbrev S256x256 : Shape := ⟨2, ![256, 256]⟩
abbrev S256 : Shape := ⟨1, ![256]⟩
abbrev S256x1 : Shape := ⟨2, ![256, 1]⟩
abbrev S1 : Shape := ⟨1, ![1]⟩
abbrev S320x768 : Shape := ⟨2, ![320, 768]⟩
abbrev S256x768 : Shape := ⟨2, ![256, 768]⟩
abbrev S2x768 : Shape := ⟨2, ![2, 768]⟩
abbrev S256x100000 : Shape := ⟨2, ![256, 100000]⟩
abbrev S100000 : Shape := ⟨1, ![100000]⟩
abbrev S32 : Shape := ⟨1, ![32]⟩
abbrev S1x256 : Shape := ⟨2, ![1, 256]⟩
abbrev S1x1 : Shape := ⟨2, ![1, 1]⟩
abbrev S2048x32 : Shape := ⟨2, ![2048, 32]⟩
abbrev S32x64 : Shape := ⟨2, ![32, 64]⟩
abbrev S32x256x256 : Shape := ⟨3, ![32, 256, 256]⟩
abbrev S256x32 : Shape := ⟨2, ![256, 32]⟩
abbrev S_ : Shape := ⟨0, ![]⟩
abbrev S1x64 : Shape := ⟨2, ![1, 64]⟩
abbrev S1x256x256 : Shape := ⟨3, ![1, 256, 256]⟩
abbrev S1x256x1 : Shape := ⟨3, ![1, 256, 1]⟩
abbrev S1x1x1 : Shape := ⟨3, ![1, 1, 1]⟩
abbrev S1x100000 : Shape := ⟨2, ![1, 100000]⟩
abbrev S1x32 : Shape := ⟨2, ![1, 32]⟩
abbrev S32x100000 : Shape := ⟨2, ![32, 100000]⟩
abbrev S512x32 : Shape := ⟨2, ![512, 32]⟩
abbrev S256x2048 : Shape := ⟨2, ![256, 2048]⟩
abbrev S1x8192 : Shape := ⟨2, ![1, 8192]⟩
abbrev S32x8192 : Shape := ⟨2, ![32, 8192]⟩
abbrev S32x768 : Shape := ⟨2, ![32, 768]⟩
abbrev S64x768 : Shape := ⟨2, ![64, 768]⟩
abbrev S1x768 : Shape := ⟨2, ![1, 768]⟩
abbrev S32x2048 : Shape := ⟨2, ![32, 2048]⟩
abbrev S1x2048 : Shape := ⟨2, ![1, 2048]⟩
abbrev S32x2048x1 : Shape := ⟨3, ![32, 2048, 1]⟩

abbrev nBuf : Space → Nat
  | .hbm => 29
  | .vmem => 40
  | .smem => 1
  | _ => 0

abbrev bufTy : (tb : Table) → Fin (tcTables nBuf tb) → BufTy
  | .hbm, ⟨0, _⟩ => ⟨S32x1, .i32⟩
  | .hbm, ⟨1, _⟩ => ⟨S32x256, .f32⟩
  | .hbm, ⟨2, _⟩ => ⟨S32x2048x256, .f32⟩
  | .hbm, ⟨3, _⟩ => ⟨S100000x64, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S320x768, .f32⟩
  | .hbm, ⟨11, _⟩ => ⟨S256x768, .f32⟩
  | .hbm, ⟨12, _⟩ => ⟨S2x768, .f32⟩
  | .hbm, ⟨13, _⟩ => ⟨S256x100000, .f32⟩
  | .hbm, ⟨14, _⟩ => ⟨S100000, .f32⟩
  | .hbm, ⟨15, _⟩ => ⟨S256, .f32⟩
  | .hbm, ⟨16, _⟩ => ⟨S1x256, .f32⟩
  | .hbm, ⟨17, _⟩ => ⟨S1x1, .f32⟩
  | .hbm, ⟨18, _⟩ => ⟨S2048x32, .f32⟩
  | .hbm, ⟨19, _⟩ => ⟨S32x256, .f32⟩
  | .hbm, ⟨20, _⟩ => ⟨S32x1, .f32⟩
  | .hbm, ⟨21, _⟩ => ⟨S32x64, .f32⟩
  | .hbm, ⟨22, _⟩ => ⟨S1x100000, .f32⟩
  | .hbm, ⟨23, _⟩ => ⟨S1x32, .f32⟩
  | .hbm, ⟨24, _⟩ => ⟨S32x100000, .f32⟩
  | .hbm, ⟨25, _⟩ => ⟨S32x256, .f32⟩
  | .hbm, ⟨26, _⟩ => ⟨S2048x32, .f32⟩
  | .hbm, ⟨27, _⟩ => ⟨S32x2048, .f32⟩
  | .hbm, ⟨28, _⟩ => ⟨S32x2048x1, .f32⟩
  | .local _ .vmem, ⟨0, _⟩ => ⟨S32x256, .f32⟩
  | .local _ .vmem, ⟨1, _⟩ => ⟨S256x256, .f32⟩
  | .local _ .vmem, ⟨2, _⟩ => ⟨S1x256, .f32⟩
  | .local _ .vmem, ⟨3, _⟩ => ⟨S32x256x256, .f32⟩
  | .local _ .vmem, ⟨4, _⟩ => ⟨S32x256x256, .f32⟩
  | .local _ .vmem, ⟨5, _⟩ => ⟨S256x256, .f32⟩
  | .local _ .vmem, ⟨6, _⟩ => ⟨S256x1, .f32⟩
  | .local _ .vmem, ⟨7, _⟩ => ⟨S1x1, .f32⟩
  | .local _ .vmem, ⟨8, _⟩ => ⟨S256x32, .f32⟩
  | .local _ .vmem, ⟨9, _⟩ => ⟨S256x32, .f32⟩
  | .local _ .vmem, ⟨10, _⟩ => ⟨S32x256, .f32⟩
  | .local _ .vmem, ⟨11, _⟩ => ⟨S32x1, .f32⟩
  | .local _ .vmem, ⟨12, _⟩ => ⟨S32x64, .f32⟩
  | .local _ .vmem, ⟨13, _⟩ => ⟨S32x256, .f32⟩
  | .local _ .vmem, ⟨14, _⟩ => ⟨S32x256, .f32⟩
  | .local _ .vmem, ⟨15, _⟩ => ⟨S32x1, .f32⟩
  | .local _ .vmem, ⟨16, _⟩ => ⟨S32x256, .f32⟩
  | .local _ .vmem, ⟨17, _⟩ => ⟨S32x1, .f32⟩
  | .local _ .vmem, ⟨18, _⟩ => ⟨S1x32, .f32⟩
  | .local _ .vmem, ⟨19, _⟩ => ⟨S32x64, .f32⟩
  | .local _ .vmem, ⟨20, _⟩ => ⟨S320x768, .f32⟩
  | .local _ .vmem, ⟨21, _⟩ => ⟨S2x768, .f32⟩
  | .local _ .vmem, ⟨22, _⟩ => ⟨S512x32, .f32⟩
  | .local _ .vmem, ⟨23, _⟩ => ⟨S512x32, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S1x8192, .f32⟩
  | .local _ .vmem, ⟨33, _⟩ => ⟨S1x8192, .f32⟩
  | .local _ .vmem, ⟨34, _⟩ => ⟨S32x8192, .f32⟩
  | .local _ .vmem, ⟨35, _⟩ => ⟨S32x8192, .f32⟩
  | .local _ .vmem, ⟨36, _⟩ => ⟨S32x256, .f32⟩
  | .local _ .vmem, ⟨37, _⟩ => ⟨S512x32, .f32⟩
  | .local _ .vmem, ⟨38, _⟩ => ⟨S512x32, .f32⟩
  | .local _ .vmem, ⟨39, _⟩ => ⟨S32x256, .f32⟩
  | .local _ .smem, ⟨0, _⟩ => ⟨S32, .i32⟩
  | _, _ => ⟨S32x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v5 : Ref sig .tc := ⟨.hbm, 22, rfl⟩
abbrev main_v6 : Ref sig .tc := ⟨.hbm, 23, rfl⟩
abbrev main_v7_0 : Ref sig .tc := ⟨.hbm, 24, rfl⟩
abbrev main_v7_1 : Ref sig .tc := ⟨.hbm, 25, rfl⟩
abbrev main_v7_2 : Ref sig .tc := ⟨.hbm, 26, rfl⟩
abbrev main_v8 : Ref sig .tc := ⟨.hbm, 27, rfl⟩
abbrev main_v9 : Ref sig .tc := ⟨.hbm, 28, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc1_stg13_0 : Ref sig .tc := ⟨.vmem, 36, rfl⟩
abbrev cc1_stg14_0 : Ref sig .tc := ⟨.vmem, 37, rfl⟩
abbrev cc1_stg14_1 : Ref sig .tc := ⟨.vmem, 38, rfl⟩
abbrev cc1_scratch0 : Ref sig .tc := ⟨.vmem, 39, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc1_sem12_1 : DmaSem sig := 33
abbrev cc1_sem13_0 : DmaSem sig := 34
abbrev cc1_sem14_0 : DmaSem sig := 35
abbrev cc1_sem14_1 : DmaSem sig := 36

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v1128 : BitVec 32) : Fin 2 → Nat :=
  let c0_i32_710 : BitVec 32 := 0#32
  ![v1128.toNat, 0]

def k0_chk1 (i : grid0.Coords) (v1128 : BitVec 32) : Prop :=
  (∀ (k0_h1 : k0_cond1 i = 1#1), ∀ a, (k0_off1 v1128) a + S1x64.size a ≤ S100000x64.size a)
theorem k0_off1_inb : ∀ (i : grid0.Coords) (v1128 : BitVec 32) (k0_hw1 : k0_chk1 i v1128), ∀ (k0_h1 : k0_cond1 i = 1#1), ∀ a, (k0_off1 v1128) a + S1x64.size a ≤ S100000x64.size a := fun i v1128 k0_hw1 k0_h1 => k0_hw1 k0_h1

def k0_off2 (v1131 : BitVec 32) : Fin 2 → Nat :=
  let c0_i32_713 : BitVec 32 := 0#32
  ![v1131.toNat, 0]

def k0_chk2 (i : grid0.Coords) (v1131 : BitVec 32) : Prop :=
  (∀ (k0_h1 : k0_cond1 i = 1#1), ∀ a, (k0_off2 v1131) a + S1x64.size a ≤ S100000x64.size a)
theorem k0_off2_inb : ∀ (i : grid0.Coords) (v1131 : BitVec 32) (k0_hw2 : k0_chk2 i v1131), ∀ (k0_h1 : k0_cond1 i = 1#1), ∀ a, (k0_off2 v1131) a + S1x64.size a ≤ S100000x64.size a := fun i v1131 k0_hw2 k0_h1 => k0_hw2 k0_h1

def k0_off3 (v1134 : BitVec 32) : Fin 2 → Nat :=
  let c0_i32_716 : BitVec 32 := 0#32
  ![v1134.toNat, 0]

def k0_chk3 (i : grid0.Coords) (v1134 : BitVec 32) : Prop :=
  (∀ (k0_h1 : k0_cond1 i = 1#1), ∀ a, (k0_off3 v1134) a + S1x64.size a ≤ S100000x64.size a)
theorem k0_off3_inb : ∀ (i : grid0.Coords) (v1134 : BitVec 32) (k0_hw3 : k0_chk3 i v1134), ∀ (k0_h1 : k0_cond1 i = 1#1), ∀ a, (k0_off3 v1134) a + S1x64.size a ≤ S100000x64.size a := fun i v1134 k0_hw3 k0_h1 => k0_hw3 k0_h1

def k0_off4 (v1137 : BitVec 32) : Fin 2 → Nat :=
  let c0_i32_719 : BitVec 32 := 0#32
  ![v1137.toNat, 0]

def k0_chk4 (i : grid0.Coords) (v1137 : BitVec 32) : Prop :=
  (∀ (k0_h1 : k0_cond1 i = 1#1), ∀ a, (k0_off4 v1137) a + S1x64.size a ≤ S100000x64.size a)
theorem k0_off4_inb : ∀ (i : grid0.Coords) (v1137 : BitVec 32) (k0_hw4 : k0_chk4 i v1137), ∀ (k0_h1 : k0_cond1 i = 1#1), ∀ a, (k0_off4 v1137) a + S1x64.size a ≤ S100000x64.size a := fun i v1137 k0_hw4 k0_h1 => k0_hw4 k0_h1

def k0_off5 (v1140 : BitVec 32) : Fin 2 → Nat :=
  let c0_i32_722 : BitVec 32 := 0#32
  ![v1140.toNat, 0]

def k0_chk5 (i : grid0.Coords) (v1140 : BitVec 32) : Prop :=
  (∀ (k0_h1 : k0_cond1 i = 1#1), ∀ a, (k0_off5 v1140) a + S1x64.size a ≤ S100000x64.size a)
theorem k0_off5_inb : ∀ (i : grid0.Coords) (v1140 : BitVec 32) (k0_hw5 : k0_chk5 i v1140), ∀ (k0_h1 : k0_cond1 i = 1#1), ∀ a, (k0_off5 v1140) a + S1x64.size a ≤ S100000x64.size a := fun i v1140 k0_hw5 k0_h1 => k0_hw5 k0_h1

def k0_off6 (v1143 : BitVec 32) : Fin 2 → Nat :=
  let c0_i32_725 : BitVec 32 := 0#32
  ![v1143.toNat, 0]

def k0_chk6 (i : grid0.Coords) (v1143 : BitVec 32) : Prop :=
  (∀ (k0_h1 : k0_cond1 i = 1#1), ∀ a, (k0_off6 v1143) a + S1x64.size a ≤ S100000x64.size a)
theorem k0_off6_inb : ∀ (i : grid0.Coords) (v1143 : BitVec 32) (k0_hw6 : k0_chk6 i v1143), ∀ (k0_h1 : k0_cond1 i = 1#1), ∀ a, (k0_off6 v1143) a + S1x64.size a ≤ S100000x64.size a := fun i v1143 k0_hw6 k0_h1 => k0_hw6 k0_h1

def k0_off7 (v1146 : BitVec 32) : Fin 2 → Nat :=
  let c0_i32_728 : BitVec 32 := 0#32
  ![v1146.toNat, 0]

def k0_chk7 (i : grid0.Coords) (v1146 : BitVec 32) : Prop :=
  (∀ (k0_h1 : k0_cond1 i = 1#1), ∀ a, (k0_off7 v1146) a + S1x64.size a ≤ S100000x64.size a)
theorem k0_off7_inb : ∀ (i : grid0.Coords) (v1146 : BitVec 32) (k0_hw7 : k0_chk7 i v1146), ∀ (k0_h1 : k0_cond1 i = 1#1), ∀ a, (k0_off7 v1146) a + S1x64.size a ≤ S100000x64.size a := fun i v1146 k0_hw7 k0_h1 => k0_hw7 k0_h1

def k0_off8 (v1149 : BitVec 32) : Fin 2 → Nat :=
  let c0_i32_732 : BitVec 32 := 0#32
  ![v1149.toNat, 0]

def k0_chk8 (i : grid0.Coords) (v1149 : BitVec 32) : Prop :=
  (∀ (k0_h1 : k0_cond1 i = 1#1), ∀ a, (k0_off8 v1149) a + S1x64.size a ≤ S100000x64.size a)
theorem k0_off8_inb : ∀ (i : grid0.Coords) (v1149 : BitVec 32) (k0_hw8 : k0_chk8 i v1149), ∀ (k0_h1 : k0_cond1 i = 1#1), ∀ a, (k0_off8 v1149) a + S1x64.size a ≤ S100000x64.size a := fun i v1149 k0_hw8 k0_h1 => k0_hw8 k0_h1

def k0_off9 (v1152 : BitVec 32) : Fin 2 → Nat :=
  let c0_i32_735 : BitVec 32 := 0#32
  ![v1152.toNat, 0]

def k0_chk9 (i : grid0.Coords) (v1152 : BitVec 32) : Prop :=
  (∀ (k0_h1 : k0_cond1 i = 1#1), ∀ a, (k0_off9 v1152) a + S1x64.size a ≤ S100000x64.size a)
theorem k0_off9_inb : ∀ (i : grid0.Coords) (v1152 : BitVec 32) (k0_hw9 : k0_chk9 i v1152), ∀ (k0_h1 : k0_cond1 i = 1#1), ∀ a, (k0_off9 v1152) a + S1x64.size a ≤ S100000x64.size a := fun i v1152 k0_hw9 k0_h1 => k0_hw9 k0_h1

def k0_off10 (v1155 : BitVec 32) : Fin 2 → Nat :=
  let c0_i32_738 : BitVec 32 := 0#32
  ![v1155.toNat, 0]

def k0_chk10 (i : grid0.Coords) (v1155 : BitVec 32) : Prop :=
  (∀ (k0_h1 : k0_cond1 i = 1#1), ∀ a, (k0_off10 v1155) a + S1x64.size a ≤ S100000x64.size a)
theorem k0_off10_inb : ∀ (i : grid0.Coords) (v1155 : BitVec 32) (k0_hw10 : k0_chk10 i v1155), ∀ (k0_h1 : k0_cond1 i = 1#1), ∀ a, (k0_off10 v1155) a + S1x64.size a ≤ S100000x64.size a := fun i v1155 k0_hw10 k0_h1 => k0_hw10 k0_h1

def k0_off11 (v1158 : BitVec 32) : Fin 2 → Nat :=
  let c0_i32_741 : BitVec 32 := 0#32
  ![v1158.toNat, 0]

def k0_chk11 (i : grid0.Coords) (v1158 : BitVec 32) : Prop :=
  (∀ (k0_h1 : k0_cond1 i = 1#1), ∀ a, (k0_off11 v1158) a + S1x64.size a ≤ S100000x64.size a)
theorem k0_off11_inb : ∀ (i : grid0.Coords) (v1158 : BitVec 32) (k0_hw11 : k0_chk11 i v1158), ∀ (k0_h1 : k0_cond1 i = 1#1), ∀ a, (k0_off11 v1158) a + S1x64.size a ≤ S100000x64.size a := fun i v1158 k0_hw11 k0_h1 => k0_hw11 k0_h1

def k0_off12 (v1161 : BitVec 32) : Fin 2 → Nat :=
  let c0_i32_744 : BitVec 32 := 0#32
  ![v1161.toNat, 0]

def k0_chk12 (i : grid0.Coords) (v1161 : BitVec 32) : Prop :=
  (∀ (k0_h1 : k0_cond1 i = 1#1), ∀ a, (k0_off12 v1161) a + S1x64.size a ≤ S100000x64.size a)
theorem k0_off12_inb : ∀ (i : grid0.Coords) (v1161 : BitVec 32) (k0_hw12 : k0_chk12 i v1161), ∀ (k0_h1 : k0_cond1 i = 1#1), ∀ a, (k0_off12 v1161) a + S1x64.size a ≤ S100000x64.size a := fun i v1161 k0_hw12 k0_h1 => k0_hw12 k0_h1

def k0_off13 (v1164 : BitVec 32) : Fin 2 → Nat :=
  let c0_i32_747 : BitVec 32 := 0#32
  ![v1164.toNat, 0]

def k0_chk13 (i : grid0.Coords) (v1164 : BitVec 32) : Prop :=
  (∀ (k0_h1 : k0_cond1 i = 1#1), ∀ a, (k0_off13 v1164) a + S1x64.size a ≤ S100000x64.size a)
theorem k0_off13_inb : ∀ (i : grid0.Coords) (v1164 : BitVec 32) (k0_hw13 : k0_chk13 i v1164), ∀ (k0_h1 : k0_cond1 i = 1#1), ∀ a, (k0_off13 v1164) a + S1x64.size a ≤ S100000x64.size a := fun i v1164 k0_hw13 k0_h1 => k0_hw13 k0_h1

def k0_off14 (v1167 : BitVec 32) : Fin 2 → Nat :=
  let c0_i32_750 : BitVec 32 := 0#32
  ![v1167.toNat, 0]

def k0_chk14 (i : grid0.Coords) (v1167 : BitVec 32) : Prop :=
  (∀ (k0_h1 : k0_cond1 i = 1#1), ∀ a, (k0_off14 v1167) a + S1x64.size a ≤ S100000x64.size a)
theorem k0_off14_inb : ∀ (i : grid0.Coords) (v1167 : BitVec 32) (k0_hw14 : k0_chk14 i v1167), ∀ (k0_h1 : k0_cond1 i = 1#1), ∀ a, (k0_off14 v1167) a + S1x64.size a ≤ S100000x64.size a := fun i v1167 k0_hw14 k0_h1 => k0_hw14 k0_h1

def k0_off15 (v1170 : BitVec 32) : Fin 2 → Nat :=
  let c0_i32_753 : BitVec 32 := 0#32
  ![v1170.toNat, 0]

def k0_chk15 (i : grid0.Coords) (v1170 : BitVec 32) : Prop :=
  (∀ (k0_h1 : k0_cond1 i = 1#1), ∀ a, (k0_off15 v1170) a + S1x64.size a ≤ S100000x64.size a)
theorem k0_off15_inb : ∀ (i : grid0.Coords) (v1170 : BitVec 32) (k0_hw15 : k0_chk15 i v1170), ∀ (k0_h1 : k0_cond1 i = 1#1), ∀ a, (k0_off15 v1170) a + S1x64.size a ≤ S100000x64.size a := fun i v1170 k0_hw15 k0_h1 => k0_hw15 k0_h1

def k0_off16 (v1173 : BitVec 32) : Fin 2 → Nat :=
  let c0_i32_756 : BitVec 32 := 0#32
  ![v1173.toNat, 0]

def k0_chk16 (i : grid0.Coords) (v1173 : BitVec 32) : Prop :=
  (∀ (k0_h1 : k0_cond1 i = 1#1), ∀ a, (k0_off16 v1173) a + S1x64.size a ≤ S100000x64.size a)
theorem k0_off16_inb : ∀ (i : grid0.Coords) (v1173 : BitVec 32) (k0_hw16 : k0_chk16 i v1173), ∀ (k0_h1 : k0_cond1 i = 1#1), ∀ a, (k0_off16 v1173) a + S1x64.size a ≤ S100000x64.size a := fun i v1173 k0_hw16 k0_h1 => k0_hw16 k0_h1

def k0_off17 (v1176 : BitVec 32) : Fin 2 → Nat :=
  let c0_i32_759 : BitVec 32 := 0#32
  ![v1176.toNat, 0]

def k0_chk17 (i : grid0.Coords) (v1176 : BitVec 32) : Prop :=
  (∀ (k0_h1 : k0_cond1 i = 1#1), ∀ a, (k0_off17 v1176) a + S1x64.size a ≤ S100000x64.size a)
theorem k0_off17_inb : ∀ (i : grid0.Coords) (v1176 : BitVec 32) (k0_hw17 : k0_chk17 i v1176), ∀ (k0_h1 : k0_cond1 i = 1#1), ∀ a, (k0_off17 v1176) a + S1x64.size a ≤ S100000x64.size a := fun i v1176 k0_hw17 k0_h1 => k0_hw17 k0_h1

def k0_off18 (v1179 : BitVec 32) : Fin 2 → Nat :=
  let c0_i32_762 : BitVec 32 := 0#32
  ![v1179.toNat, 0]

def k0_chk18 (i : grid0.Coords) (v1179 : BitVec 32) : Prop :=
  (∀ (k0_h1 : k0_cond1 i = 1#1), ∀ a, (k0_off18 v1179) a + S1x64.size a ≤ S100000x64.size a)
theorem k0_off18_inb : ∀ (i : grid0.Coords) (v1179 : BitVec 32) (k0_hw18 : k0_chk18 i v1179), ∀ (k0_h1 : k0_cond1 i = 1#1), ∀ a, (k0_off18 v1179) a + S1x64.size a ≤ S100000x64.size a := fun i v1179 k0_hw18 k0_h1 => k0_hw18 k0_h1

def k0_off19 (v1182 : BitVec 32) : Fin 2 → Nat :=
  let c0_i32_765 : BitVec 32 := 0#32
  ![v1182.toNat, 0]

def k0_chk19 (i : grid0.Coords) (v1182 : BitVec 32) : Prop :=
  (∀ (k0_h1 : k0_cond1 i = 1#1), ∀ a, (k0_off19 v1182) a + S1x64.size a ≤ S100000x64.size a)
theorem k0_off19_inb : ∀ (i : grid0.Coords) (v1182 : BitVec 32) (k0_hw19 : k0_chk19 i v1182), ∀ (k0_h1 : k0_cond1 i = 1#1), ∀ a, (k0_off19 v1182) a + S1x64.size a ≤ S100000x64.size a := fun i v1182 k0_hw19 k0_h1 => k0_hw19 k0_h1

def k0_off20 (v1185 : BitVec 32) : Fin 2 → Nat :=
  let c0_i32_768 : BitVec 32 := 0#32
  ![v1185.toNat, 0]

def k0_chk20 (i : grid0.Coords) (v1185 : BitVec 32) : Prop :=
  (∀ (k0_h1 : k0_cond1 i = 1#1), ∀ a, (k0_off20 v1185) a + S1x64.size a ≤ S100000x64.size a)
theorem k0_off20_inb : ∀ (i : grid0.Coords) (v1185 : BitVec 32) (k0_hw20 : k0_chk20 i v1185), ∀ (k0_h1 : k0_cond1 i = 1#1), ∀ a, (k0_off20 v1185) a + S1x64.size a ≤ S100000x64.size a := fun i v1185 k0_hw20 k0_h1 => k0_hw20 k0_h1

def k0_off21 (v1188 : BitVec 32) : Fin 2 → Nat :=
  let c0_i32_771 : BitVec 32 := 0#32
  ![v1188.toNat, 0]

def k0_chk21 (i : grid0.Coords) (v1188 : BitVec 32) : Prop :=
  (∀ (k0_h1 : k0_cond1 i = 1#1), ∀ a, (k0_off21 v1188) a + S1x64.size a ≤ S100000x64.size a)
theorem k0_off21_inb : ∀ (i : grid0.Coords) (v1188 : BitVec 32) (k0_hw21 : k0_chk21 i v1188), ∀ (k0_h1 : k0_cond1 i = 1#1), ∀ a, (k0_off21 v1188) a + S1x64.size a ≤ S100000x64.size a := fun i v1188 k0_hw21 k0_h1 => k0_hw21 k0_h1

def k0_off22 (v1191 : BitVec 32) : Fin 2 → Nat :=
  let c0_i32_774 : BitVec 32 := 0#32
  ![v1191.toNat, 0]

def k0_chk22 (i : grid0.Coords) (v1191 : BitVec 32) : Prop :=
  (∀ (k0_h1 : k0_cond1 i = 1#1), ∀ a, (k0_off22 v1191) a + S1x64.size a ≤ S100000x64.size a)
theorem k0_off22_inb : ∀ (i : grid0.Coords) (v1191 : BitVec 32) (k0_hw22 : k0_chk22 i v1191), ∀ (k0_h1 : k0_cond1 i = 1#1), ∀ a, (k0_off22 v1191) a + S1x64.size a ≤ S100000x64.size a := fun i v1191 k0_hw22 k0_h1 => k0_hw22 k0_h1

def k0_off23 (v1194 : BitVec 32) : Fin 2 → Nat :=
  let c0_i32_777 : BitVec 32 := 0#32
  ![v1194.toNat, 0]

def k0_chk23 (i : grid0.Coords) (v1194 : BitVec 32) : Prop :=
  (∀ (k0_h1 : k0_cond1 i = 1#1), ∀ a, (k0_off23 v1194) a + S1x64.size a ≤ S100000x64.size a)
theorem k0_off23_inb : ∀ (i : grid0.Coords) (v1194 : BitVec 32) (k0_hw23 : k0_chk23 i v1194), ∀ (k0_h1 : k0_cond1 i = 1#1), ∀ a, (k0_off23 v1194) a + S1x64.size a ≤ S100000x64.size a := fun i v1194 k0_hw23 k0_h1 => k0_hw23 k0_h1

def k0_off24 (v1197 : BitVec 32) : Fin 2 → Nat :=
  let c0_i32_780 : BitVec 32 := 0#32
  ![v1197.toNat, 0]

def k0_chk24 (i : grid0.Coords) (v1197 : BitVec 32) : Prop :=
  (∀ (k0_h1 : k0_cond1 i = 1#1), ∀ a, (k0_off24 v1197) a + S1x64.size a ≤ S100000x64.size a)
theorem k0_off24_inb : ∀ (i : grid0.Coords) (v1197 : BitVec 32) (k0_hw24 : k0_chk24 i v1197), ∀ (k0_h1 : k0_cond1 i = 1#1), ∀ a, (k0_off24 v1197) a + S1x64.size a ≤ S100000x64.size a := fun i v1197 k0_hw24 k0_h1 => k0_hw24 k0_h1

def k0_off25 (v1200 : BitVec 32) : Fin 2 → Nat :=
  let c0_i32_783 : BitVec 32 := 0#32
  ![v1200.toNat, 0]

def k0_chk25 (i : grid0.Coords) (v1200 : BitVec 32) : Prop :=
  (∀ (k0_h1 : k0_cond1 i = 1#1), ∀ a, (k0_off25 v1200) a + S1x64.size a ≤ S100000x64.size a)
theorem k0_off25_inb : ∀ (i : grid0.Coords) (v1200 : BitVec 32) (k0_hw25 : k0_chk25 i v1200), ∀ (k0_h1 : k0_cond1 i = 1#1), ∀ a, (k0_off25 v1200) a + S1x64.size a ≤ S100000x64.size a := fun i v1200 k0_hw25 k0_h1 => k0_hw25 k0_h1

def k0_off26 (v1203 : BitVec 32) : Fin 2 → Nat :=
  let c0_i32_786 : BitVec 32 := 0#32
  ![v1203.toNat, 0]

def k0_chk26 (i : grid0.Coords) (v1203 : BitVec 32) : Prop :=
  (∀ (k0_h1 : k0_cond1 i = 1#1), ∀ a, (k0_off26 v1203) a + S1x64.size a ≤ S100000x64.size a)
theorem k0_off26_inb : ∀ (i : grid0.Coords) (v1203 : BitVec 32) (k0_hw26 : k0_chk26 i v1203), ∀ (k0_h1 : k0_cond1 i = 1#1), ∀ a, (k0_off26 v1203) a + S1x64.size a ≤ S100000x64.size a := fun i v1203 k0_hw26 k0_h1 => k0_hw26 k0_h1

def k0_off27 (v1206 : BitVec 32) : Fin 2 → Nat :=
  let c0_i32_789 : BitVec 32 := 0#32
  ![v1206.toNat, 0]

def k0_chk27 (i : grid0.Coords) (v1206 : BitVec 32) : Prop :=
  (∀ (k0_h1 : k0_cond1 i = 1#1), ∀ a, (k0_off27 v1206) a + S1x64.size a ≤ S100000x64.size a)
theorem k0_off27_inb : ∀ (i : grid0.Coords) (v1206 : BitVec 32) (k0_hw27 : k0_chk27 i v1206), ∀ (k0_h1 : k0_cond1 i = 1#1), ∀ a, (k0_off27 v1206) a + S1x64.size a ≤ S100000x64.size a := fun i v1206 k0_hw27 k0_h1 => k0_hw27 k0_h1

def k0_off28 (v1209 : BitVec 32) : Fin 2 → Nat :=
  let c0_i32_792 : BitVec 32 := 0#32
  ![v1209.toNat, 0]

def k0_chk28 (i : grid0.Coords) (v1209 : BitVec 32) : Prop :=
  (∀ (k0_h1 : k0_cond1 i = 1#1), ∀ a, (k0_off28 v1209) a + S1x64.size a ≤ S100000x64.size a)
theorem k0_off28_inb : ∀ (i : grid0.Coords) (v1209 : BitVec 32) (k0_hw28 : k0_chk28 i v1209), ∀ (k0_h1 : k0_cond1 i = 1#1), ∀ a, (k0_off28 v1209) a + S1x64.size a ≤ S100000x64.size a := fun i v1209 k0_hw28 k0_h1 => k0_hw28 k0_h1

def k0_off29 (v1212 : BitVec 32) : Fin 2 → Nat :=
  let c0_i32_795 : BitVec 32 := 0#32
  ![v1212.toNat, 0]

def k0_chk29 (i : grid0.Coords) (v1212 : BitVec 32) : Prop :=
  (∀ (k0_h1 : k0_cond1 i = 1#1), ∀ a, (k0_off29 v1212) a + S1x64.size a ≤ S100000x64.size a)
theorem k0_off29_inb : ∀ (i : grid0.Coords) (v1212 : BitVec 32) (k0_hw29 : k0_chk29 i v1212), ∀ (k0_h1 : k0_cond1 i = 1#1), ∀ a, (k0_off29 v1212) a + S1x64.size a ≤ S100000x64.size a := fun i v1212 k0_hw29 k0_h1 => k0_hw29 k0_h1

def k0_off30 (v1215 : BitVec 32) : Fin 2 → Nat :=
  let c0_i32_798 : BitVec 32 := 0#32
  ![v1215.toNat, 0]

def k0_chk30 (i : grid0.Coords) (v1215 : BitVec 32) : Prop :=
  (∀ (k0_h1 : k0_cond1 i = 1#1), ∀ a, (k0_off30 v1215) a + S1x64.size a ≤ S100000x64.size a)
theorem k0_off30_inb : ∀ (i : grid0.Coords) (v1215 : BitVec 32) (k0_hw30 : k0_chk30 i v1215), ∀ (k0_h1 : k0_cond1 i = 1#1), ∀ a, (k0_off30 v1215) a + S1x64.size a ≤ S100000x64.size a := fun i v1215 k0_hw30 k0_h1 => k0_hw30 k0_h1

def k0_off31 (v1218 : BitVec 32) : Fin 2 → Nat :=
  let c0_i32_801 : BitVec 32 := 0#32
  ![v1218.toNat, 0]

def k0_chk31 (i : grid0.Coords) (v1218 : BitVec 32) : Prop :=
  (∀ (k0_h1 : k0_cond1 i = 1#1), ∀ a, (k0_off31 v1218) a + S1x64.size a ≤ S100000x64.size a)
theorem k0_off31_inb : ∀ (i : grid0.Coords) (v1218 : BitVec 32) (k0_hw31 : k0_chk31 i v1218), ∀ (k0_h1 : k0_cond1 i = 1#1), ∀ a, (k0_off31 v1218) a + S1x64.size a ≤ S100000x64.size a := fun i v1218 k0_hw31 k0_h1 => k0_hw31 k0_h1

def k0_off32 (v1221 : BitVec 32) : Fin 2 → Nat :=
  let c0_i32_804 : BitVec 32 := 0#32
  ![v1221.toNat, 0]

def k0_chk32 (i : grid0.Coords) (v1221 : BitVec 32) : Prop :=
  (∀ (k0_h1 : k0_cond1 i = 1#1), ∀ a, (k0_off32 v1221) a + S1x64.size a ≤ S100000x64.size a)
theorem k0_off32_inb : ∀ (i : grid0.Coords) (v1221 : BitVec 32) (k0_hw32 : k0_chk32 i v1221), ∀ (k0_h1 : k0_cond1 i = 1#1), ∀ a, (k0_off32 v1221) a + S1x64.size a ≤ S100000x64.size a := fun i v1221 k0_hw32 k0_h1 => k0_hw32 k0_h1

def k0_cond2 (i : grid0.Coords) : BitVec 1 :=
  let arg0 : BitVec 32 := BitVec.ofNat 32 (i 0).val
  let c7_i32 : BitVec 32 := 7#32
  let v1125 : BitVec 1 := Scalar.cmpi .eq arg0 c7_i32
  let v1126 : BitVec 32 := Scalar.extui v1125
  let c0_i32_706 : BitVec 32 := 0#32
  let v1127 : BitVec 1 := Scalar.cmpi .ne v1126 c0_i32_706
  v1127

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![13], ![false]⟩

def k1_cond2 (i : grid1.Coords) : BitVec 1 :=
  let arg0 : BitVec 32 := BitVec.ofNat 32 (i 0).val
  let c0_i32_0 : BitVec 32 := 0#32
  let v3 : BitVec 1 := Scalar.cmpi .eq arg0 c0_i32_0
  let v4 : BitVec 32 := Scalar.extui v3
  let c0_i32_1 : BitVec 32 := 0#32
  let v5 : BitVec 1 := Scalar.cmpi .ne v4 c0_i32_1
  v5

def k1_cond1 (i : grid1.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c48_i32 : BitVec 32 := 48#32
  let v2 : BitVec 32 := Scalar.minsi v1 c48_i32
  let c0_i32_0 : BitVec 32 := 0#32
  let c0_i32_1 : BitVec 32 := 0#32
  ![c0_i32_0.toNat, v2.toNat]

def cc1_transform_8 (i : grid1.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c48_i32 : BitVec 32 := 48#32
  let v2 : BitVec 32 := Scalar.minsi v1 c48_i32
  let c0_i32 : BitVec 32 := 0#32
  let c0_i32_0 : BitVec 32 := 0#32
  ![c0_i32.toNat, v2.toNat]

def cc1_transform_9 (i : grid1.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c48_i32 : BitVec 32 := 48#32
  let v2 : BitVec 32 := Scalar.minsi v1 c48_i32
  let c0_i32 : BitVec 32 := 0#32
  let c0_i32_0 : BitVec 32 := 0#32
  ![c0_i32.toNat, v2.toNat]

def cc1_transform_10 (i : grid1.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c48_i32 : BitVec 32 := 48#32
  let v2 : BitVec 32 := Scalar.minsi v1 c48_i32
  let c0_i32 : BitVec 32 := 0#32
  let c0_i32_0 : BitVec 32 := 0#32
  ![c0_i32.toNat, v2.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

abbrev stage1_0 : Fin 1 → Memref sig .tc .vmem S32x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S320x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x8192 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S32x8192 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S32x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S512x32 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== ReferenceIdeal.lean ====
abbrev S32x1 : Shape := ⟨2, ![32, 1]⟩
abbrev S32x256 : Shape := ⟨2, ![32, 256]⟩
abbrev S32x2048x256 : Shape := ⟨3, ![32, 2048, 256]⟩
abbrev S100000x64 : Shape := ⟨2, ![100000, 64]⟩
abbrev S256x256 : Shape := ⟨2, ![256, 256]⟩
abbrev S256 : Shape := ⟨1, ![256]⟩
abbrev S256x1 : Shape := ⟨2, ![256, 1]⟩
abbrev S1 : Shape := ⟨1, ![1]⟩
abbrev S320x768 : Shape := ⟨2, ![320, 768]⟩
abbrev S256x768 : Shape := ⟨2, ![256, 768]⟩
abbrev S2x768 : Shape := ⟨2, ![2, 768]⟩
abbrev S256x100000 : Shape := ⟨2, ![256, 100000]⟩
abbrev S100000 : Shape := ⟨1, ![100000]⟩
abbrev S32x1x256 : Shape := ⟨3, ![32, 1, 256]⟩
abbrev S1x1x256 : Shape := ⟨3, ![1, 1, 256]⟩
abbrev S32x2048x1 : Shape := ⟨3, ![32, 2048, 1]⟩
abbrev S1x1x1 : Shape := ⟨3, ![1, 1, 1]⟩
abbrev S_ : Shape := ⟨0, ![]⟩
abbrev S32x1x1 : Shape := ⟨3, ![32, 1, 1]⟩
abbrev S32x1x64 : Shape := ⟨3, ![32, 1, 64]⟩
abbrev S32x1x320 : Shape := ⟨3, ![32, 1, 320]⟩
abbrev S32x320 : Shape := ⟨2, ![32, 320]⟩
abbrev S32x768 : Shape := ⟨2, ![32, 768]⟩
abbrev S1x768 : Shape := ⟨2, ![1, 768]⟩
abbrev S768 : Shape := ⟨1, ![768]⟩
abbrev S32x100000 : Shape := ⟨2, ![32, 100000]⟩
abbrev S1x100000 : Shape := ⟨2, ![1, 100000]⟩

abbrev nBuf : Space → Nat
  | .hbm => 126
  | .vmem => 0
  | .smem => 0
  | _ => 0

abbrev bufTy : (tb : Table) → Fin (tcTables nBuf tb) → BufTy
  | .hbm, ⟨0, _⟩ => ⟨S32x1, .i32⟩
  | .hbm, ⟨1, _⟩ => ⟨S32x256, .f32⟩
  | .hbm, ⟨2, _⟩ => ⟨S32x2048x256, .f32⟩
  | .hbm, ⟨3, _⟩ => ⟨S100000x64, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S320x768, .f32⟩
  | .hbm, ⟨11, _⟩ => ⟨S256x768, .f32⟩
  | .hbm, ⟨12, _⟩ => ⟨S2x768, .f32⟩
  | .hbm, ⟨13, _⟩ => ⟨S256x100000, .f32⟩
  | .hbm, ⟨14, _⟩ => ⟨S100000, .f32⟩
  | .hbm, ⟨15, _⟩ => ⟨S32x1x256, .f32⟩
  | .hbm, ⟨16, _⟩ => ⟨S32x1x256, .f32⟩
  | .hbm, ⟨17, _⟩ => ⟨S1x1x256, .f32⟩
  | .hbm, ⟨18, _⟩ => ⟨S32x1x256, .f32⟩
  | .hbm, ⟨19, _⟩ => ⟨S32x1x256, .f32⟩
  | .hbm, ⟨20, _⟩ => ⟨S32x2048x256, .f32⟩
  | .hbm, ⟨21, _⟩ => ⟨S32x2048x256, .f32⟩
  | .hbm, ⟨22, _⟩ => ⟨S32x2048x256, .f32⟩
  | .hbm, ⟨23, _⟩ => ⟨S1x1x256, .f32⟩
  | .hbm, ⟨24, _⟩ => ⟨S32x2048x256, .f32⟩
  | .hbm, ⟨25, _⟩ => ⟨S32x2048x256, .f32⟩
  | .hbm, ⟨26, _⟩ => ⟨S32x2048x256, .f32⟩
  | .hbm, ⟨27, _⟩ => ⟨S32x2048x1, .f32⟩
  | .hbm, ⟨28, _⟩ => ⟨S1x1x1, .f32⟩
  | .hbm, ⟨29, _⟩ => ⟨S32x2048x1, .f32⟩
  | .hbm, ⟨30, _⟩ => ⟨S32x2048x1, .f32⟩
  | .hbm, ⟨31, _⟩ => ⟨S_, .f32⟩
  | .hbm, ⟨32, _⟩ => ⟨S32x1, .f32⟩
  | .hbm, ⟨33, _⟩ => ⟨S_, .f32⟩
  | .hbm, ⟨34, _⟩ => ⟨S32x1, .f32⟩
  | .hbm, ⟨35, _⟩ => ⟨S32x1, .f32⟩
  | .hbm, ⟨36, _⟩ => ⟨S32x1x1, .f32⟩
  | .hbm, ⟨37, _⟩ => ⟨S32x2048x1, .f32⟩
  | .hbm, ⟨38, _⟩ => ⟨S32x2048x1, .f32⟩
  | .hbm, ⟨39, _⟩ => ⟨S32x2048x1, .f32⟩
  | .hbm, ⟨40, _⟩ => ⟨S_, .f32⟩
  | .hbm, ⟨41, _⟩ => ⟨S32x1, .f32⟩
  | .hbm, ⟨42, _⟩ => ⟨S32x1x1, .f32⟩
  | .hbm, ⟨43, _⟩ => ⟨S32x2048x1, .f32⟩
  | .hbm, ⟨44, _⟩ => ⟨S32x2048x1, .f32⟩
  | .hbm, ⟨45, _⟩ => ⟨S32x2048x256, .f32⟩
  | .hbm, ⟨46, _⟩ => ⟨S32x2048x256, .f32⟩
  | .hbm, ⟨47, _⟩ => ⟨S_, .f32⟩
  | .hbm, ⟨48, _⟩ => ⟨S32x256, .f32⟩
  | .hbm, ⟨49, _⟩ => ⟨S_, .i32⟩
  | .hbm, ⟨50, _⟩ => ⟨S32x1, .i32⟩
  | .hbm, ⟨51, _⟩ => ⟨S32x1, .i1⟩
  | .hbm, ⟨52, _⟩ => ⟨S_, .i32⟩
  | .hbm, ⟨53, _⟩ => ⟨S32x1, .i32⟩
  | .hbm, ⟨54, _⟩ => ⟨S32x1, .i32⟩
  | .hbm, ⟨55, _⟩ => ⟨S32x1, .i32⟩
  | .hbm, ⟨56, _⟩ => ⟨S32x1x1, .i32⟩
  | .hbm, ⟨57, _⟩ => ⟨S1, .i32⟩
  | .hbm, ⟨58, _⟩ => ⟨S_, .i32⟩
  | .hbm, ⟨59, _⟩ => ⟨S32x1x1, .i32⟩
  | .hbm, ⟨60, _⟩ => ⟨S32x1x1, .i1⟩
  | .hbm, ⟨61, _⟩ => ⟨S1x1x1, .i32⟩
  | .hbm, ⟨62, _⟩ => ⟨S32x1x1, .i32⟩
  | .hbm, ⟨63, _⟩ => ⟨S32x1x1, .i1⟩
  | .hbm, ⟨64, _⟩ => ⟨S32x1x1, .i1⟩
  | .hbm, ⟨65, _⟩ => ⟨S_, .i1⟩
  | .hbm, ⟨66, _⟩ => ⟨S32x1, .i1⟩
  | .hbm, ⟨67, _⟩ => ⟨S32x1x64, .f32⟩
  | .hbm, ⟨68, _⟩ => ⟨S32x1x64, .i1⟩
  | .hbm, ⟨69, _⟩ => ⟨S_, .f32⟩
  | .hbm, ⟨70, _⟩ => ⟨S32x1x64, .f32⟩
  | .hbm, ⟨71, _⟩ => ⟨S32x1x64, .f32⟩
  | .hbm, ⟨72, _⟩ => ⟨S32x1x256, .f32⟩
  | .hbm, ⟨73, _⟩ => ⟨S32x1x320, .f32⟩
  | .hbm, ⟨74, _⟩ => ⟨S_, .f32⟩
  | .hbm, ⟨75, _⟩ => ⟨S32x256, .f32⟩
  | .hbm, ⟨76, _⟩ => ⟨S32x320, .f32⟩
  | .hbm, ⟨77, _⟩ => ⟨S32x768, .f32⟩
  | .hbm, ⟨78, _⟩ => ⟨S1x768, .f32⟩
  | .hbm, ⟨79, _⟩ => ⟨S768, .f32⟩
  | .hbm, ⟨80, _⟩ => ⟨S1x768, .f32⟩
  | .hbm, ⟨81, _⟩ => ⟨S32x768, .f32⟩
  | .hbm, ⟨82, _⟩ => ⟨S32x768, .f32⟩
  | .hbm, ⟨83, _⟩ => ⟨S32x768, .f32⟩
  | .hbm, ⟨84, _⟩ => ⟨S1x768, .f32⟩
  | .hbm, ⟨85, _⟩ => ⟨S768, .f32⟩
  | .hbm, ⟨86, _⟩ => ⟨S1x768, .f32⟩
  | .hbm, ⟨87, _⟩ => ⟨S32x768, .f32⟩
  | .hbm, ⟨88, _⟩ => ⟨S32x768, .f32⟩
  | .hbm, ⟨89, _⟩ => ⟨S32x256, .f32⟩
  | .hbm, ⟨90, _⟩ => ⟨S32x256, .f32⟩
  | .hbm, ⟨91, _⟩ => ⟨S32x256, .f32⟩
  | .hbm, ⟨92, _⟩ => ⟨S32x256, .f32⟩
  | .hbm, ⟨93, _⟩ => ⟨S32x256, .f32⟩
  | .hbm, ⟨94, _⟩ => ⟨S32x256, .f32⟩
  | .hbm, ⟨95, _⟩ => ⟨S32x256, .f32⟩
  | .hbm, ⟨96, _⟩ => ⟨S32x256, .f32⟩
  | .hbm, ⟨97, _⟩ => ⟨S32x256, .f32⟩
  | .hbm, ⟨98, _⟩ => ⟨S_, .f32⟩
  | .hbm, ⟨99, _⟩ => ⟨S32x256, .f32⟩
  | .hbm, ⟨100, _⟩ => ⟨S32x256, .f32⟩
  | .hbm, ⟨101, _⟩ => ⟨S_, .f32⟩
  | .hbm, ⟨102, _⟩ => ⟨S32x256, .f32⟩
  | .hbm, ⟨103, _⟩ => ⟨S32x256, .f32⟩
  | .hbm, ⟨104, _⟩ => ⟨S32x256, .f32⟩
  | .hbm, ⟨105, _⟩ => ⟨S32x256, .f32⟩
  | .hbm, ⟨106, _⟩ => ⟨S32x256, .f32⟩
  | .hbm, ⟨107, _⟩ => ⟨S_, .f32⟩
  | .hbm, ⟨108, _⟩ => ⟨S32x256, .f32⟩
  | .hbm, ⟨109, _⟩ => ⟨S32x256, .f32⟩
  | .hbm, ⟨110, _⟩ => ⟨S_, .f32⟩
  | .hbm, ⟨111, _⟩ => ⟨S32x256, .f32⟩
  | .hbm, ⟨112, _⟩ => ⟨S32x256, .f32⟩
  | .hbm, ⟨113, _⟩ => ⟨S32x256, .f32⟩
  | .hbm, ⟨114, _⟩ => ⟨S32x256, .f32⟩
  | .hbm, ⟨115, _⟩ => ⟨S32x256, .f32⟩
  | .hbm, ⟨116, _⟩ => ⟨S32x256, .f32⟩
  | .hbm, ⟨117, _⟩ => ⟨S_, .f32⟩
  | .hbm, ⟨118, _⟩ => ⟨S32x256, .f32⟩
  | .hbm, ⟨119, _⟩ => ⟨S32x256, .f32⟩
  | .hbm, ⟨120, _⟩ => ⟨S32x256, .f32⟩
  | .hbm, ⟨121, _⟩ => ⟨S32x256, .f32⟩
  | .hbm, ⟨122, _⟩ => ⟨S32x100000, .f32⟩
  | .hbm, ⟨123, _⟩ => ⟨S1x100000, .f32⟩
  | .hbm, ⟨124, _⟩ => ⟨S32x100000, .f32⟩
  | .hbm, ⟨125, _⟩ => ⟨S32x100000, .f32⟩
  | _, _ => ⟨S32x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_call0_c : Ref sig .tc := ⟨.hbm, 49, rfl⟩
abbrev main_call0_v0 : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_c_1 : Ref sig .tc := ⟨.hbm, 57, rfl⟩
abbrev main_call0_c_2 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_3 : Ref sig .tc := ⟨.hbm, 65, rfl⟩
abbrev main_call0_v12 : Ref sig .tc := ⟨.hbm, 66, rfl⟩
abbrev main_call0_v13 : Ref sig .tc := ⟨.hbm, 67, rfl⟩
abbrev main_call0_v14 : Ref sig .tc := ⟨.hbm, 68, rfl⟩
abbrev main_call0_cst : Ref sig .tc := ⟨.hbm, 69, rfl⟩
abbrev main_call0_v15 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_3 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_4 : Ref sig .tc := ⟨.hbm, 98, rfl⟩
abbrev main_v56 : Ref sig .tc := ⟨.hbm, 99, rfl⟩
abbrev main_v57 : Ref sig .tc := ⟨.hbm, 100, rfl⟩
abbrev main_cst_5 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_6 : Ref sig .tc := ⟨.hbm, 107, rfl⟩
abbrev main_v63 : Ref sig .tc := ⟨.hbm, 108, rfl⟩
abbrev main_v64 : Ref sig .tc := ⟨.hbm, 109, rfl⟩
abbrev main_cst_7 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_8 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩

abbrev nD : Nat := 1
abbrev τ : Topo := Topo.v7x

variable {F : FTy → Type} [FloatOps F]
-- ==== Proof.Rows.lean ====
/-
  The attention kernel's body as 32 equal row passes.

  The printed body of `cc0__attn_kernel` treats the 32 rows of the batch one after the other, in printed windows that
  do not fall on the rows' boundaries. Here one row's pass is a program of the row number (`row`), and so is the issue
  of one embedding row's copy (`issue`) and the wait for it (`await`); `body_eq` says the printed body is the
  sequence of them.
-/
module

public import proofs.«01_k».proof.Proof.Gen.KernelIdeal

@[expose] public section

noncomputable section

namespace Cert.KernelIdeal.Hand

open Idealize.ShloMosaic Idealize.SL.Sem

open Facts₀ Facts

variable {F : FTy → Type} [FloatOps F]

/-! ## Where the rows lie -/

theorem inb_row_enc {r : ℕ} (h : r < 32) : ∀ a, (![r, 0, 0] : Fin 3 → ℕ) a + S1x256x256.size a ≤ S32x256x256.size a := by
  intro a; fin_cases a <;> simp [S1x256x256, S32x256x256] <;> omega
theorem inb_row_vec {r : ℕ} (h : r < 32) : ∀ a, (![r, 0] : Fin 2 → ℕ) a + S1x256.size a ≤ S32x256.size a := by
  intro a; fin_cases a <;> simp [S1x256, S32x256] <;> omega
theorem inb_row_one {r : ℕ} (h : r < 32) : ∀ a, (![r, 0] : Fin 2 → ℕ) a + S1x1.size a ≤ S32x1.size a := by
  intro a; fin_cases a <;> simp [S1x1, S32x1] <;> omega
theorem inb_col {r : ℕ} (h : r < 32) : ∀ a, (![0, r] : Fin 2 → ℕ) a + S256x1.size a ≤ S256x32.size a := by
  intro a; fin_cases a <;> simp [S256x1, S256x32] <;> omega
theorem inb_row_emb {r : ℕ} (h : r < 32) : ∀ a, (![r, 0] : Fin 2 → ℕ) a + S1x64.size a ≤ S32x64.size a := by
  intro a; fin_cases a <;> simp [S1x64, S32x64] <;> omega
theorem inb_word {r : ℕ} (h : r < 32) : ∀ a, (![r] : Fin 1 → ℕ) a + S1.size a ≤ S32.size a := by
  intro a; fin_cases a <;> simp [S1, S32] <;> omega

/-! ## One row's values -/

/-- The second projection's weights, rounded. -/
def wPay (v3 : Vec F S256x256 .f32) : FVec F S256x256 .bf16 := truncf .bf16 v3 bitsLt_bf16_f32

/-- A row's slab of the encoder output as a matrix. -/
def ePay (v40 : Vec F S1x256x256 .f32) : FVec F S256x256 .f32 := shapeCast S256x256 v40 shapeCasts_S1x256x256_S256x256

/-- A row's exponentiated scores. -/
def pPay (v4 : FVec F S256x256 .bf16) (v40 : Vec F S1x256x256 .f32) (v44 : Vec F S1x256 .f32)
    (v48 : Vec F S256x1 .f32) (v50 : Vec F S1x1 .f32) : FVec F S256x1 .f32 :=
  exp (addf
    (matmul dot_S256x256_S256x1_S256x1_1_0_0_1_n_n none
      (tanh (addf
        (matmul dot_S256x256_S256x256_S256x256_1_0_0_1_n_n none (truncf .bf16 (ePay v40) bitsLt_bf16_f32) v4
          (constant S256x256 .f32 0x00000000#32))
        (broadcastTo S256x256 v44 broadcasts_S1x256_S256x256)))
      v48 (constant S256x1 .f32 0x00000000#32))
    (broadcast S256x1 (extractAt ![0, 0] v50 inpos_S1x1_p0_0)))

/-- A row's running sum of exponentiated scores, carried on. -/
def lPay (p : FVec F S256x1 .f32) (v56 : Vec F S1x1 .f32) : FVec F S1x1 .f32 :=
  shapeCast S1x1 (addf v56 (broadcast S1x1 (extractAt ![0, 0, 0]
    (shapeCast S1x1x1 (multiReduction .add [1, 2] S1 (shapeCast S1x256x1 p shapeCasts_S256x1_S1x256x1)
      0x00000000#32 reduces_S1x256x1_S1 (.inl rfl) rfl) shapeCasts_S1_S1x1x1) inpos_S1x1x1_p0_0_0)))
    shapeCasts_S1x1_S1x1

/-- A row's running weighted sum of the encoder output, carried on. -/
def cPay (e : FVec F S256x256 .f32) (p : FVec F S256x1 .f32) (v31 : Vec F S1x256 .f32) : FVec F S1x256 .f32 :=
  shapeCast S1x256 (addf v31 (shapeCast S1x256 (multiReduction .add [0] S256
    (mulf (broadcastTo S256x256 p broadcasts_S256x1_S256x256) e) 0x00000000#32 reduces_S256x256_S256 (.inl rfl) rfl)
    shapeCasts_S256_S1x256)) shapeCasts_S1x256_S1x256

/-- The query projection with its bias. -/
def qPay (v1224 : Vec F S32x256 .f32) (v1225 : Vec F S256x256 .f32) (v1227 : Vec F S1x256 .f32) : FVec F S32x256 .f32 :=
  shapeCast S32x256 (addf (matmul dot_S32x256_S256x256_S32x256_1_0_0_1_n_n none v1224 v1225
    (constant S32x256 .f32 0x00000000#32))
    (broadcastTo S32x256 (shapeCast S1x256 v1227 shapeCasts_S1x256_S1x256) broadcasts_S1x256_S32x256))
    shapeCasts_S32x256_S32x256

/-- Zeros for the running sums. -/
def cZero : FVec F S32x256 .f32 :=
  shapeCast S32x256 (broadcast S32x256 (Scalar.ofBits .f32 0x00000000#32)) shapeCasts_S32x256_S32x256
def lZero : FVec F S32x1 .f32 :=
  shapeCast S32x1 (broadcast S32x1 (Scalar.ofBits .f32 0x00000000#32)) shapeCasts_S32x1_S32x1

/-! ## The passes -/

variable (i : grid0.Coords) (arg1 : Memref sig .tc .smem S32 .i32) (arg2 : Memref sig .tc .vmem S32x256 .f32) (arg3 : Memref sig .tc .vmem S256x256 .f32) (arg4 : Memref sig .tc .vmem S1x256 .f32) (arg5 : Memref sig .tc .vmem S32x256x256 .f32) (arg6 : Memref sig .tc .vmem S256x256 .f32) (arg7 : Memref sig .tc .vmem S256x1 .f32) (arg8 : Memref sig .tc .vmem S1x1 .f32) (arg9 : Memref sig .tc .hbm S100000x64 .f32) (arg10 : Memref sig .tc .vmem S256x32 .f32) (arg11 : Memref sig .tc .vmem S32x256 .f32) (arg12 : Memref sig .tc .vmem S32x1 .f32) (arg13 : Memref sig .tc .vmem S32x64 .f32) (arg14 : Memref sig .tc .vmem S32x256 .f32) (arg15 : Memref sig .tc .vmem S32x256 .f32) (arg16 : Memref sig .tc .vmem S32x1 .f32) (arg17 : DmaSems sig S_)

/-- The copy of row `r`'s embedding, issued. -/
def issue (h1 : k0_cond1 i = 1#1) (r : ℕ) (h : r < 32) : Prog (TpuEff nD τ sig (Elt F) Λ₀ .tc) PUnit := do
  let v : Elt F .i32 ← smemLoad arg1 (Rect.unit (s := S32) ![r] S1.size (inb_word h)) numel1_S1 rfl
  have hw : k0_chk1 i v := (← Prog.lift (TpuEff.assume (k0_chk1 i v) (k0_chk1.dec i v))).down
  Prog.lift (.enqueueDma
    (arg9.slice (Rect.unit (s := S100000x64) (k0_off1 v) S1x64.size (k0_off1_inb i v hw h1)) (fun _ => rfl) : Memref sig .tc .hbm S1x64 .f32)
    (.here (arg13.slice (Rect.unit (s := S32x64) ![r, 0] S1x64.size (inb_row_emb h)) (fun _ => rfl) : Memref sig .tc .vmem S1x64 .f32))
    (.dma arg17.sem) (View.wordExact_bits rfl) (View.wordExact_bits rfl) ⟨Or.inl rfl, trivial⟩)

/-- The copies of `n` rows from row `r` on, issued. -/
def issues (h1 : k0_cond1 i = 1#1) : (n r : ℕ) → r + n = 32 → Prog (TpuEff nD τ sig (Elt F) Λ₀ .tc) PUnit
  | 0, _, _ => pure ⟨⟩
  | n + 1, r, h => do
    issue i arg1 arg9 arg13 arg17 h1 r (by omega)
    issues h1 n (r + 1) (by omega)

/-- The wait for one row's copy. -/
def await (r : ℕ) (h : r < 32) : Prog (TpuEff nD τ sig (Elt F) Λ₀ .tc) PUnit :=
  Prog.lift (.waitDma2 arg17.sem
    (arg9.slice (Rect.unit (s := S100000x64) ![0, 0] S1x64.size inb_S100000x64_S1x64_0_0) (fun _ => rfl) : Memref sig .tc .hbm S1x64 .f32)
    (arg13.slice (Rect.unit (s := S32x64) ![r, 0] S1x64.size (inb_row_emb h)) (fun _ => rfl) : Memref sig .tc .vmem S1x64 .f32)
    (View.wordExact_bits rfl) (View.wordExact_bits rfl))

/-- The waits for `n` rows from row `r` on. -/
def awaits : (n r : ℕ) → r + n = 32 → Prog (TpuEff nD τ sig (Elt F) Λ₀ .tc) PUnit
  | 0, _, _ => pure ⟨⟩
  | n + 1, r, h => do
    await arg9 arg13 arg17 r (by omega)
    awaits n (r + 1) (by omega)

/-- The query projection stored and the running sums cleared. -/
def clear : Prog (TpuEff nD τ sig (Elt F) Λ₀ .tc) PUnit := do
  let v1224 : Vec F S32x256 .f32 ← Prog.lift (.load arg2 (Rect.unit (s := S32x256) ![0, 0] S32x256.size inb_S32x256_S32x256_0_0).toLoadRect (View.loadsAt_vmem h_S32x256))
  let v1225 : Vec F S256x256 .f32 ← Prog.lift (.load arg3 (Rect.unit (s := S256x256) ![0, 0] S256x256.size inb_S256x256_S256x256_0_0).toLoadRect (View.loadsAt_vmem h_S256x256))
  let v1227 : Vec F S1x256 .f32 ← Prog.lift (.load arg4 (Rect.unit (s := S1x256) ![0, 0] S1x256.size inb_S1x256_S1x256_0_0).toLoadRect (View.loadsAt_vmem h_S1x256))
  let _ : Vec F S32x256 .f32 ← Prog.lift (.load arg14 (Rect.unit (s := S32x256) ![0, 0] S32x256.size inb_S32x256_S32x256_0_0).toLoadRect (View.loadsAt_vmem h_S32x256))
  Prog.lift (.store arg14 (Rect.unit (s := S32x256) ![0, 0] S32x256.size inb_S32x256_S32x256_0_0) (qPay v1224 v1225 v1227) Finset.univ (View.stores_vmem_bits_univ h_S32x256 rfl) (.inl rfl))
  let _ : Vec F S32x256 .f32 ← Prog.lift (.load arg15 (Rect.unit (s := S32x256) ![0, 0] S32x256.size inb_S32x256_S32x256_0_0).toLoadRect (View.loadsAt_vmem h_S32x256))
  Prog.lift (.store arg15 (Rect.unit (s := S32x256) ![0, 0] S32x256.size inb_S32x256_S32x256_0_0) cZero Finset.univ (View.stores_vmem_bits_univ h_S32x256 rfl) (.inl rfl))
  let _ : Vec F S32x1 .f32 ← Prog.lift (.load arg16 (Rect.unit (s := S32x1) ![0, 0] S32x1.size inb_S32x1_S32x1_0_0).toLoadRect (View.loadsAt_vmem h_S32x1))
  Prog.lift (.store arg16 (Rect.unit (s := S32x1) ![0, 0] S32x1.size inb_S32x1_S32x1_0_0) lZero Finset.univ (View.stores_vmem_bits_univ h_S32x1 rfl) (.inl rfl))

/-- Row `r`'s pass over one tile. -/
def row (v4 : FVec F S256x256 .bf16) (r : ℕ) (h : r < 32) : Prog (TpuEff nD τ sig (Elt F) Λ₀ .tc) PUnit := do
  let v40 : Vec F S1x256x256 .f32 ← Prog.lift (.load arg5 (Rect.unit (s := S32x256x256) ![r, 0, 0] S1x256x256.size (inb_row_enc h)).toLoadRect (View.loadsAt_vmem h_S1x256x256))
  let v44 : Vec F S1x256 .f32 ← Prog.lift (.load arg14 (Rect.unit (s := S32x256) ![r, 0] S1x256.size (inb_row_vec h)).toLoadRect (View.loadsAt_vmem h_S1x256))
  let v48 : Vec F S256x1 .f32 ← Prog.lift (.load arg7 (Rect.unit (s := S256x1) ![0, 0] S256x1.size inb_S256x1_S256x1_0_0).toLoadRect (View.loadsAt_vmem h_S256x1))
  let v50 : Vec F S1x1 .f32 ← Prog.lift (.load arg8 (Rect.unit (s := S1x1) ![0, 0] S1x1.size inb_S1x1_S1x1_0_0).toLoadRect (View.loadsAt_vmem h_S1x1))
  let _ : Vec F S256x1 .f32 ← Prog.lift (.load arg10 (Rect.unit (s := S256x32) ![0, r] S256x1.size (inb_col h)).toLoadRect (View.loadsAt_vmem h_S256x1))
  Prog.lift (.store arg10 (Rect.unit (s := S256x32) ![0, r] S256x1.size (inb_col h)) (pPay v4 v40 v44 v48 v50) Finset.univ (View.stores_vmem_bits_univ h_S256x1 rfl) (.inl rfl))
  let v56 : Vec F S1x1 .f32 ← Prog.lift (.load arg16 (Rect.unit (s := S32x1) ![r, 0] S1x1.size (inb_row_one h)).toLoadRect (View.loadsAt_vmem h_S1x1))
  let _ : Vec F S1x1 .f32 ← Prog.lift (.load arg16 (Rect.unit (s := S32x1) ![r, 0] S1x1.size (inb_row_one h)).toLoadRect (View.loadsAt_vmem h_S1x1))
  Prog.lift (.store arg16 (Rect.unit (s := S32x1) ![r, 0] S1x1.size (inb_row_one h)) (lPay (pPay v4 v40 v44 v48 v50) v56) Finset.univ (View.stores_vmem_bits_univ h_S1x1 rfl) (.inl rfl))
  let v66 : Vec F S1x256 .f32 ← Prog.lift (.load arg15 (Rect.unit (s := S32x256) ![r, 0] S1x256.size (inb_row_vec h)).toLoadRect (View.loadsAt_vmem h_S1x256))
  let _ : Vec F S1x256 .f32 ← Prog.lift (.load arg15 (Rect.unit (s := S32x256) ![r, 0] S1x256.size (inb_row_vec h)).toLoadRect (View.loadsAt_vmem h_S1x256))
  Prog.lift (.store arg15 (Rect.unit (s := S32x256) ![r, 0] S1x256.size (inb_row_vec h)) (cPay (ePay v40) (pPay v4 v40 v44 v48 v50) v66) Finset.univ (View.stores_vmem_bits_univ h_S1x256 rfl) (.inl rfl))

/-- The passes of `n` rows from row `r` on. -/
def rows (v4 : FVec F S256x256 .bf16) : (n r : ℕ) → r + n = 32 → Prog (TpuEff nD τ sig (Elt F) Λ₀ .tc) PUnit
  | 0, _, _ => pure ⟨⟩
  | n + 1, r, h => do
    row arg5 arg7 arg8 arg10 arg14 arg15 arg16 v4 r (by omega)
    rows v4 n (r + 1) (by omega)

/-- The running sums handed out. -/
def handOut : Prog (TpuEff nD τ sig (Elt F) Λ₀ .tc) PUnit := do
  let v1128 : Vec F S32x256 .f32 ← Prog.lift (.load arg15 (Rect.unit (s := S32x256) ![0, 0] S32x256.size inb_S32x256_S32x256_0_0).toLoadRect (View.loadsAt_vmem h_S32x256))
  let _ : Vec F S32x256 .f32 ← Prog.lift (.load arg11 (Rect.unit (s := S32x256) ![0, 0] S32x256.size inb_S32x256_S32x256_0_0).toLoadRect (View.loadsAt_vmem h_S32x256))
  Prog.lift (.store arg11 (Rect.unit (s := S32x256) ![0, 0] S32x256.size inb_S32x256_S32x256_0_0) v1128 Finset.univ (View.stores_vmem_bits_univ h_S32x256 rfl) (.inl rfl))
  let v1130 : Vec F S32x1 .f32 ← Prog.lift (.load arg16 (Rect.unit (s := S32x1) ![0, 0] S32x1.size inb_S32x1_S32x1_0_0).toLoadRect (View.loadsAt_vmem h_S32x1))
  let _ : Vec F S32x1 .f32 ← Prog.lift (.load arg12 (Rect.unit (s := S32x1) ![0, 0] S32x1.size inb_S32x1_S32x1_0_0).toLoadRect (View.loadsAt_vmem h_S32x1))
  Prog.lift (.store arg12 (Rect.unit (s := S32x1) ![0, 0] S32x1.size inb_S32x1_S32x1_0_0) v1130 Finset.univ (View.stores_vmem_bits_univ h_S32x1 rfl) (.inl rfl))

/-- What the body does at the first tile. -/
def opening (h1 : k0_cond1 i = 1#1) : Prog (TpuEff nD τ sig (Elt F) Λ₀ .tc) PUnit := do
  issues i arg1 arg9 arg13 arg17 h1 32 0 rfl
  clear arg2 arg3 arg4 arg14 arg15 arg16
  awaits arg9 arg13 arg17 32 0 rfl

/-- The attention kernel's body by its passes. -/
def body : Prog (TpuEff nD τ sig (Elt F) Λ₀ .tc) PUnit := do
  if h1 : k0_cond1 i = 1#1 then opening i arg1 arg2 arg3 arg4 arg9 arg13 arg14 arg15 arg16 arg17 h1 else pure ⟨⟩
  let v3 : Vec F S256x256 .f32 ← Prog.lift (.load arg6 (Rect.unit (s := S256x256) ![0, 0] S256x256.size inb_S256x256_S256x256_0_0).toLoadRect (View.loadsAt_vmem h_S256x256))
  rows arg5 arg7 arg8 arg10 arg14 arg15 arg16 (wPay v3) 32 0 rfl
  if h2 : k0_cond2 i = 1#1 then handOut arg11 arg12 arg15 arg16 else pure ⟨⟩
  pure ⟨⟩

end Cert.KernelIdeal.Hand
-- ==== Proof.Own.lean ====
/-
  Loads and stores of a buffer held by what its view reads.

  The kernel bodies are followed with every buffer held as `owns` at a function of its indices: a load at a rectangle
  gives the function's part there, a store replaces it (`Rect.overlay`).
-/
module

public import proofs.«01_k».proof.Proof.Gen.KernelIdeal
public import Idealize.ShloMosaic.Lib.Tactic
public import Idealize.ShloMosaic.Lib.Pipeline.Kit
public import Idealize.ShloMosaic.Lib.Pipeline.Value
public import Idealize.ShloMosaic.Lib.Batch
public import Idealize.ShloMosaic.Lib.VecWindow

@[expose] public section

noncomputable section

namespace Cert.KernelIdeal.Hand

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the staging cells' rounds beside the counters of the copies in flight. -/
abbrev UU (nD : Nat) (τ : Topo) : Type := UR sig nD τ × Counters

local notation "𝕄" => MT nD τ sig Unit (Elt F) ℕ (UU nD τ) ℕ

variable (𝒱 : Variants) (c : Thread nD τ) (bd : Option 𝒱.V) (E : Set ℕ)
variable {sp : CoreSpace} {s : Shape} {e : EltTy} {α : Type} {m : Memref sig c.2.kind sp s e}

/-- A load at a rectangle gives the buffer's part there and leaves the buffer. -/
theorem own_load {Q : α → sProp 𝕄} {r : Rect s} {hl : m.view.LoadsAt r.toLoadRect} {q : PosShare TreeShare} {X : s.Idx → Elt F e}
    {k : (r.shape.Idx → Elt F e) → Prog (TpuEff nD τ sig (Elt F) Λ₀ c.2) α} :
    (owns c m q X : sProp 𝕄) ⊢ iprop((owns c m q X -∗ wp frame (wpE (defs₀ (F := F)) 𝒱 c bd) E (k (View.ld X r)) Q)
      -∗ wp frame (wpE (defs₀ (F := F)) 𝒱 c bd) E (.op (.load m r.toLoadRect hl) k) Q) := by
  iintro H Hk
  ihave H' := (show owns c m q X ⊢ iprop(∃ g, ⌜m.view.read (Elt F) g = X⌝ ∗ m.view.loc c ↦[m.view.set]{q} g) from .rfl) $$ H
  icases H' with ⟨%g, %hg, H⟩
  subst hg
  iapply (wp_load 𝒱 c bd E (View.setOn_subset_set _ _)) $$ H
  iintro H
  iapply Hk
  iapply (owns_intro c m q g) $$ H

/-- A load of the whole buffer gives what it holds. -/
theorem own_load_full {Q : α → sProp 𝕄} {off : Fin s.rank → ℕ} {inb : ∀ a, off a + s.size a ≤ s.size a}
    {hl : m.view.LoadsAt (Rect.unit off s.size inb).toLoadRect} {q : PosShare TreeShare} {X : s.Idx → Elt F e}
    {k : (s.Idx → Elt F e) → Prog (TpuEff nD τ sig (Elt F) Λ₀ c.2) α} :
    (owns c m q X : sProp 𝕄) ⊢ iprop((owns c m q X -∗ wp frame (wpE (defs₀ (F := F)) 𝒱 c bd) E (k X) Q)
      -∗ wp frame (wpE (defs₀ (F := F)) 𝒱 c bd) E (.op (.load m (Rect.unit off s.size inb).toLoadRect hl) k) Q) := by
  have h : View.ld (Val := Elt F) X (Rect.unit off s.size inb) = X := funext fun y => congrArg X (Rect.emb_unit_full inb y)
  have := own_load 𝒱 c bd E (Q := Q) (m := m) (hl := hl) (q := q) (X := X) (k := k)
  rwa [h] at this

/-- A store at a rectangle replaces the buffer's part there. -/
theorem own_store {Q : α → sProp 𝕄} {r : Rect s} {w : r.shape.Idx → Elt F e} {hx : (m.access r).Stores Finset.univ}
    {hm : (Finset.univ : Finset r.shape.Idx) = Finset.univ ∨ ∀ a, r.stride a = 1} {X : s.Idx → Elt F e}
    {k : PUnit → Prog (TpuEff nD τ sig (Elt F) Λ₀ c.2) α} :
    (owns c m fullShare X : sProp 𝕄) ⊢ iprop((owns c m fullShare (r.overlay X w) -∗ wp frame (wpE (defs₀ (F := F)) 𝒱 c bd) E (k ⟨⟩) Q)
      -∗ wp frame (wpE (defs₀ (F := F)) 𝒱 c bd) E (.op (.store m r w Finset.univ hx hm) k) Q) := by
  iintro H Hk
  ihave H' := (show owns c m fullShare X ⊢ iprop(∃ g, ⌜m.view.read (Elt F) g = X⌝ ∗ m.view.loc c ↦[m.view.set]{fullShare} g) from .rfl) $$ H
  icases H' with ⟨%g, %hg, H⟩
  subst hg
  have hst := wp_store (defs := defs₀ (F := F)) (Γ := []) 𝒱 c bd E (m := m) (r := r) (w := w) (hx := hx) (hm := hm) (k := k) (Q := Q) (S := m.view.set) (f := g)
    (Memref.setOn_access_subset _ _ _)
  iapply (show (m.view.loc c ↦[m.view.set]{fullShare} g : sProp 𝕄) ⊢ _ from hst) $$ H
  iintro H
  iapply Hk
  have h : m.view.read (Elt F) ((m.access r).write (Elt F) g w Finset.univ) = r.overlay (m.view.read (Elt F) g) w := by
    funext y
    by_cases hy : y ∈ r.set
    · obtain ⟨x, rfl⟩ := r.exists_idx_of_mem hy
      exact ((m.access r).read_write_of_mem g w (Finset.mem_univ x)).trans (r.overlay_emb _ _ x).symm
    · rw [r.overlay_of_not_mem _ _ hy]
      exact View.read_slice_write_of_not_mem r _ _ _ (by rwa [Rect.map_emb_univ])
  rw [← h]
  iapply (owns_intro c m fullShare _) $$ H

/-- A store of the whole buffer leaves what was stored. -/
theorem own_store_full {Q : α → sProp 𝕄} {off : Fin s.rank → ℕ} {inb : ∀ a, off a + s.size a ≤ s.size a} {w : s.Idx → Elt F e}
    {hx : (m.access (Rect.unit off s.size inb)).Stores Finset.univ}
    {hm : (Finset.univ : Finset (Rect.unit off s.size inb).shape.Idx) = Finset.univ ∨ ∀ a, (Rect.unit off s.size inb).stride a = 1}
    {X : s.Idx → Elt F e} {k : PUnit → Prog (TpuEff nD τ sig (Elt F) Λ₀ c.2) α} :
    (owns c m fullShare X : sProp 𝕄) ⊢ iprop((owns c m fullShare w -∗ wp frame (wpE (defs₀ (F := F)) 𝒱 c bd) E (k ⟨⟩) Q)
      -∗ wp frame (wpE (defs₀ (F := F)) 𝒱 c bd) E (.op (.store m (Rect.unit off s.size inb) w Finset.univ hx hm) k) Q) := by
  have h : (Rect.unit off s.size inb).overlay X w = w := funext fun y => by
    have := (Rect.unit off s.size inb).overlay_emb X w y
    rwa [Rect.emb_unit_full inb y] at this
  have := own_store 𝒱 c bd E (Q := Q) (m := m) (hx := hx) (hm := hm) (X := X) (w := w) (k := k)
  rwa [h] at this

end Cert.KernelIdeal.Hand
-- ==== Proof.Pass.lean ====
/-
  One tile's row passes over the buffers they touch.

  A row's pass replaces the row's column of the tile's exponentiated scores and the row's two running sums. All rows
  together leave the closed forms `pTile`, `lTile`, `cTile` of what the buffers held before.
-/
module

public import proofs.«01_k».proof.Proof.Rows
public import proofs.«01_k».proof.Proof.Own
public import Idealize.ShloMosaic.Lib.ValueIdx

@[expose] public section

noncomputable section

namespace Cert.KernelIdeal.Hand

open Facts₀ Facts

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Part of the rows done -/

/-- `new` where coordinate `a` is below `r`, `old` from there on. -/
def mix {s : Shape} {X : Type} (a : Fin s.rank) (r : ℕ) (new old : s.Idx → X) : s.Idx → X :=
  fun j => if (j a).val < r then new j else old j

theorem mix_zero {s : Shape} {X : Type} (a : Fin s.rank) (new old : s.Idx → X) : mix a 0 new old = old :=
  funext fun j => if_neg (Nat.not_lt_zero _)

theorem mix_all {s : Shape} {X : Type} (a : Fin s.rank) (new old : s.Idx → X) : mix a (s.size a) new old = new :=
  funext fun j => if_pos (j a).isLt

/-- Replacing the part at coordinate `r` takes `r` rows done to `r + 1`. -/
theorem overlay_mix {s : Shape} {X : Type} (a : Fin s.rank) (r : ℕ) (new old : s.Idx → X) (R : Rect s)
    (hR : ∀ j : s.Idx, j ∈ R.set ↔ (j a).val = r) (w : R.shape.Idx → X) (hw : ∀ x, w x = new (R.emb x)) :
    R.overlay (mix a r new old) w = mix a (r + 1) new old := by
  funext j
  by_cases hj : j ∈ R.set
  · have h := (hR j).1 hj
    obtain ⟨x, rfl⟩ := R.exists_idx_of_mem hj
    show R.overlay _ w (R.emb x) = _
    rw [R.overlay_emb, hw]; exact (if_pos (by rw [h]; omega)).symm
  · have h : (j a).val ≠ r := fun h => hj ((hR j).2 h)
    rw [R.overlay_of_not_mem _ _ hj]; unfold mix
    by_cases h' : (j a).val < r
    · rw [if_pos h', if_pos (by omega)]
    · rw [if_neg h', if_neg (by omega)]

/-- The part at coordinate `r` is not done at `r`. -/
theorem ld_mix {F : EltTy → Type} {e : EltTy} {s : Shape} (a : Fin s.rank) (r : ℕ) (new old : s.Idx → F e) (R : Rect s)
    (hR : ∀ j : s.Idx, j ∈ R.set ↔ (j a).val = r) : View.ld (Val := F) (mix a r new old) R = View.ld (Val := F) old R := by
  funext x
  have h := (hR (R.emb x)).1 (R.idx_mem x)
  exact if_neg (by show ¬ (R.emb x a).val < r; omega)

/-! ## The rows' rectangles -/

abbrev rEnc (r : ℕ) (h : r < 32) : Rect S32x256x256 := Rect.unit (s := S32x256x256) ![r, 0, 0] S1x256x256.size (inb_row_enc h)
abbrev rVec (r : ℕ) (h : r < 32) : Rect S32x256 := Rect.unit (s := S32x256) ![r, 0] S1x256.size (inb_row_vec h)
abbrev rOne (r : ℕ) (h : r < 32) : Rect S32x1 := Rect.unit (s := S32x1) ![r, 0] S1x1.size (inb_row_one h)
abbrev rCol (r : ℕ) (h : r < 32) : Rect S256x32 := Rect.unit (s := S256x32) ![0, r] S256x1.size (inb_col h)
abbrev rEmb (r : ℕ) (h : r < 32) : Rect S32x64 := Rect.unit (s := S32x64) ![r, 0] S1x64.size (inb_row_emb h)

theorem mem_rVec {r : ℕ} (h : r < 32) (j : S32x256.Idx) : j ∈ (rVec r h).set ↔ (j 0).val = r := by
  rw [Rect.mem_set_unit, Fin.forall_fin_two]
  have h1 : (j 1).val < 256 := (j 1).isLt
  show (r ≤ (j 0).val ∧ (j 0).val < r + 1) ∧ (0 ≤ (j 1).val ∧ (j 1).val < 0 + 256) ↔ _
  omega
theorem mem_rOne {r : ℕ} (h : r < 32) (j : S32x1.Idx) : j ∈ (rOne r h).set ↔ (j 0).val = r := by
  rw [Rect.mem_set_unit, Fin.forall_fin_two]
  have h1 : (j 1).val < 1 := (j 1).isLt
  show (r ≤ (j 0).val ∧ (j 0).val < r + 1) ∧ (0 ≤ (j 1).val ∧ (j 1).val < 0 + 1) ↔ _
  omega
theorem mem_rCol {r : ℕ} (h : r < 32) (j : S256x32.Idx) : j ∈ (rCol r h).set ↔ (j 1).val = r := by
  rw [Rect.mem_set_unit, Fin.forall_fin_two]
  have h1 : (j 0).val < 256 := (j 0).isLt
  show (0 ≤ (j 0).val ∧ (j 0).val < 0 + 256) ∧ (r ≤ (j 1).val ∧ (j 1).val < r + 1) ↔ _
  omega
theorem mem_rEmb {r : ℕ} (h : r < 32) (j : S32x64.Idx) : j ∈ (rEmb r h).set ↔ (j 0).val = r := by
  rw [Rect.mem_set_unit, Fin.forall_fin_two]
  have h1 : (j 1).val < 64 := (j 1).isLt
  show (r ≤ (j 0).val ∧ (j 0).val < r + 1) ∧ (0 ≤ (j 1).val ∧ (j 1).val < 0 + 64) ↔ _
  omega

/-! ## What the passes of a tile leave -/

section Values

variable (v4 : FVec F S256x256 .bf16) (En : S32x256x256.Idx → F .f32) (Qs : S32x256.Idx → F .f32) (V : S256x1.Idx → F .f32)
  (B : S1x1.Idx → F .f32)

/-- Row `r`'s exponentiated scores over the tile. -/
def rowP (r : ℕ) (h : r < 32) : FVec F S256x1 .f32 :=
  pPay v4 (View.ld (Val := Elt F) En (rEnc r h)) (View.ld (Val := Elt F) Qs (rVec r h)) V B

/-- The tile's exponentiated scores. -/
def pTile : S256x32.Idx → F .f32 := fun j => rowP v4 En Qs V B (j 1).val (j 1).isLt (ValueIdx.ix2 (j 0) 0)

/-- The running sums of the exponentiated scores, carried over the tile. -/
def lTile (L : S32x1.Idx → F .f32) : S32x1.Idx → F .f32 := fun j =>
  lPay (rowP v4 En Qs V B (j 0).val (j 0).isLt) (View.ld (Val := Elt F) L (rOne (j 0).val (j 0).isLt)) (ValueIdx.ix2 0 (j 1))

/-- The running weighted sums of the encoder output, carried over the tile. -/
def cTile (C : S32x256.Idx → F .f32) : S32x256.Idx → F .f32 := fun j =>
  cPay (ePay (View.ld (Val := Elt F) En (rEnc (j 0).val (j 0).isLt))) (rowP v4 En Qs V B (j 0).val (j 0).isLt)
    (View.ld (Val := Elt F) C (rVec (j 0).val (j 0).isLt)) (ValueIdx.ix2 0 (j 1))

theorem pTile_emb {r : ℕ} (h : r < 32) (x : (rCol r h).shape.Idx) :
    rowP v4 En Qs V B r h x = pTile v4 En Qs V B ((rCol r h).emb x) := by
  have h1 : (((rCol r h).emb x) 1).val = r := (mem_rCol h _).1 (LoadRect.idx_mem _ x)
  have h2 : (ValueIdx.ix2 (((rCol r h).emb x) 0) 0 : S256x1.Idx) = x := by
    funext a
    fin_cases a
    · exact Fin.ext (by show 0 + 1 * (x 0).val = (x 0).val; omega)
    · exact Subsingleton.elim (α := Fin 1) _ _
  unfold pTile
  rw [h2]
  congr 2; exact h1.symm

theorem lTile_emb (L : S32x1.Idx → F .f32) {r : ℕ} (h : r < 32) (x : (rOne r h).shape.Idx) :
    lPay (rowP v4 En Qs V B r h) (View.ld (Val := Elt F) L (rOne r h)) x = lTile v4 En Qs V B L ((rOne r h).emb x) := by
  have h1 : (((rOne r h).emb x) 0).val = r := (mem_rOne h _).1 (LoadRect.idx_mem _ x)
  have h2 : (ValueIdx.ix2 0 (((rOne r h).emb x) 1) : S1x1.Idx) = x := by
    funext a
    fin_cases a
    · exact Subsingleton.elim (α := Fin 1) _ _
    · exact Subsingleton.elim (α := Fin 1) _ _
  have key : ∀ (r' : ℕ) (h' : r' < 32), r' = r → lPay (rowP v4 En Qs V B r h) (View.ld (Val := Elt F) L (rOne r h)) x
      = lPay (rowP v4 En Qs V B r' h') (View.ld (Val := Elt F) L (rOne r' h')) x := by intro r' h' e; subst e; rfl
  unfold lTile
  rw [h2]
  exact key _ _ h1

theorem cTile_emb (C : S32x256.Idx → F .f32) {r : ℕ} (h : r < 32) (x : (rVec r h).shape.Idx) :
    cPay (ePay (View.ld (Val := Elt F) En (rEnc r h))) (rowP v4 En Qs V B r h) (View.ld (Val := Elt F) C (rVec r h)) x
      = cTile v4 En Qs V B C ((rVec r h).emb x) := by
  have h1 : (((rVec r h).emb x) 0).val = r := (mem_rVec h _).1 (LoadRect.idx_mem _ x)
  have h2 : (ValueIdx.ix2 0 (((rVec r h).emb x) 1) : S1x256.Idx) = x := by
    funext a
    fin_cases a
    · exact Subsingleton.elim (α := Fin 1) _ _
    · exact Fin.ext (by show 0 + 1 * (x 1).val = (x 1).val; omega)
  have key : ∀ (r' : ℕ) (h' : r' < 32), r' = r →
      cPay (ePay (View.ld (Val := Elt F) En (rEnc r h))) (rowP v4 En Qs V B r h) (View.ld (Val := Elt F) C (rVec r h)) x
      = cPay (ePay (View.ld (Val := Elt F) En (rEnc r' h'))) (rowP v4 En Qs V B r' h') (View.ld (Val := Elt F) C (rVec r' h')) x := by
    intro r' h' e; subst e; rfl
  unfold cTile
  rw [h2]
  exact key _ _ h1

end Values

/-! ## The passes followed -/

section Rows

variable (𝒱 : Variants) (c : Dev nD) (bd : Option 𝒱.V) (Es : Set ℕ)
variable (arg5 : Memref sig .tc .vmem S32x256x256 .f32) (arg7 : Memref sig .tc .vmem S256x1 .f32) (arg8 : Memref sig .tc .vmem S1x1 .f32)
  (arg10 : Memref sig .tc .vmem S256x32 .f32) (arg14 : Memref sig .tc .vmem S32x256 .f32) (arg15 : Memref sig .tc .vmem S32x256 .f32)
  (arg16 : Memref sig .tc .vmem S32x1 .f32)
variable (v4 : FVec F S256x256 .bf16) (En : S32x256x256.Idx → F .f32) (Qs : S32x256.Idx → F .f32) (V : S256x1.Idx → F .f32)
  (B : S1x1.Idx → F .f32)

/-- What the passes read and leave. -/
def passRead : sProp 𝕄 :=
  iprop(owns (c : Thread nD τ) arg5 fullShare En ∗ owns (c : Thread nD τ) arg14 fullShare Qs ∗ owns (c : Thread nD τ) arg7 fullShare V
    ∗ owns (c : Thread nD τ) arg8 fullShare B)

/-- What the passes write. -/
def passWritten (P : S256x32.Idx → F .f32) (L : S32x1.Idx → F .f32) (C : S32x256.Idx → F .f32) : sProp 𝕄 :=
  iprop(owns (c : Thread nD τ) arg10 fullShare P ∗ owns (c : Thread nD τ) arg16 fullShare L ∗ owns (c : Thread nD τ) arg15 fullShare C)

/-- One row's pass. -/
theorem row_run (P : S256x32.Idx → F .f32) (L : S32x1.Idx → F .f32) (C : S32x256.Idx → F .f32) (r : ℕ) (h : r < 32)
    (k : PUnit → Prog (TpuEff nD τ sig (Elt F) Λ₀ .tc) PUnit) (Q : PUnit → sProp 𝕄) :
    iprop(passRead c arg5 arg7 arg8 arg14 En Qs V B ∗ passWritten c arg10 arg15 arg16 (mix 1 r (pTile v4 En Qs V B) P)
        (mix 0 r (lTile v4 En Qs V B L) L) (mix 0 r (cTile v4 En Qs V B C) C)
      ∗ (iprop(passRead c arg5 arg7 arg8 arg14 En Qs V B ∗ passWritten c arg10 arg15 arg16 (mix 1 (r + 1) (pTile v4 En Qs V B) P)
        (mix 0 (r + 1) (lTile v4 En Qs V B L) L) (mix 0 (r + 1) (cTile v4 En Qs V B C) C))
          -∗ wp frame (wpE (defs₀ (F := F)) 𝒱 (c : Thread nD τ) bd) Es (k ⟨⟩) Q))
    ⊢ wp frame (wpE (defs₀ (F := F)) 𝒱 (c : Thread nD τ) bd) Es (row arg5 arg7 arg8 arg10 arg14 arg15 arg16 v4 r h >>= k) Q := by
  unfold passRead passWritten
  iintro ⟨⟨H5, H14, H7, H8⟩, ⟨H10, H16, H15⟩, Hk⟩
  unfold row
  iapply (own_load 𝒱 (c : Thread nD τ) bd Es) $$ H5; iintro H5
  iapply (own_load 𝒱 (c : Thread nD τ) bd Es) $$ H14; iintro H14
  iapply (own_load_full 𝒱 (c : Thread nD τ) bd Es) $$ H7; iintro H7
  iapply (own_load_full 𝒱 (c : Thread nD τ) bd Es) $$ H8; iintro H8
  iapply (own_load 𝒱 (c : Thread nD τ) bd Es) $$ H10; iintro H10
  iapply (own_store 𝒱 (c : Thread nD τ) bd Es) $$ H10; iintro H10
  iapply (own_load 𝒱 (c : Thread nD τ) bd Es) $$ H16; iintro H16
  iapply (own_load 𝒱 (c : Thread nD τ) bd Es) $$ H16; iintro H16
  iapply (own_store 𝒱 (c : Thread nD τ) bd Es) $$ H16; iintro H16
  iapply (own_load 𝒱 (c : Thread nD τ) bd Es) $$ H15; iintro H15
  iapply (own_load 𝒱 (c : Thread nD τ) bd Es) $$ H15; iintro H15
  iapply (own_store 𝒱 (c : Thread nD τ) bd Es) $$ H15; iintro H15
  have e10 := overlay_mix 1 r _ P (rCol r h) (mem_rCol h) _ (pTile_emb v4 En Qs V B h)
  have e16 := overlay_mix 0 r _ L (rOne r h) (mem_rOne h) _ (lTile_emb v4 En Qs V B L h)
  have e15 := overlay_mix 0 r _ C (rVec r h) (mem_rVec h) _ (cTile_emb v4 En Qs V B C h)
  unfold rowP at e10 e16 e15
  rw [ld_mix (F := Elt F) (e := .f32) 0 r _ L (rOne r h) (mem_rOne h), ld_mix (F := Elt F) (e := .f32) 0 r _ C (rVec r h) (mem_rVec h),
    e10, e16, e15]
  iapply Hk
  isplitl [H5 H14 H7 H8]
  · isplitl [H5]; · iexact H5
    isplitl [H14]; · iexact H14
    isplitl [H7]; · iexact H7
    iexact H8
  · isplitl [H10]; · iexact H10
    isplitl [H16]; · iexact H16
    iexact H15

/-- The passes of the rows from `r` on. -/
theorem rows_run (P : S256x32.Idx → F .f32) (L : S32x1.Idx → F .f32) (C : S32x256.Idx → F .f32)
    (k : PUnit → Prog (TpuEff nD τ sig (Elt F) Λ₀ .tc) PUnit) (Q : PUnit → sProp 𝕄) : ∀ (n r : ℕ) (h : r + n = 32),
    iprop(passRead c arg5 arg7 arg8 arg14 En Qs V B ∗ passWritten c arg10 arg15 arg16 (mix 1 r (pTile v4 En Qs V B) P)
        (mix 0 r (lTile v4 En Qs V B L) L) (mix 0 r (cTile v4 En Qs V B C) C)
      ∗ (iprop(passRead c arg5 arg7 arg8 arg14 En Qs V B ∗ passWritten c arg10 arg15 arg16 (pTile v4 En Qs V B) (lTile v4 En Qs V B L)
          (cTile v4 En Qs V B C))
          -∗ wp frame (wpE (defs₀ (F := F)) 𝒱 (c : Thread nD τ) bd) Es (k ⟨⟩) Q))
    ⊢ wp frame (wpE (defs₀ (F := F)) 𝒱 (c : Thread nD τ) bd) Es (rows arg5 arg7 arg8 arg10 arg14 arg15 arg16 v4 n r h >>= k) Q
  | 0, r, h => by
    have hr : r = 32 := by omega
    subst hr
    rw [show mix 1 32 (pTile v4 En Qs V B) P = _ from mix_all (s := S256x32) 1 _ _, show mix 0 32 (lTile v4 En Qs V B L) L = _ from mix_all (s := S32x1) 0 _ _,
      show mix 0 32 (cTile v4 En Qs V B C) C = _ from mix_all (s := S32x256) 0 _ _]
    iintro ⟨H, H', Hk⟩
    iapply Hk
    isplitl [H]; · iexact H
    iexact H'
  | n + 1, r, h => by
    iintro ⟨H, H', Hk⟩
    unfold rows
    rw [bind_assoc]
    iapply (row_run 𝒱 c bd Es arg5 arg7 arg8 arg10 arg14 arg15 arg16 v4 En Qs V B P L C r _)
    isplitl [H]; · iexact H
    isplitl [H']; · iexact H'
    iintro ⟨H, H'⟩
    iapply (rows_run P L C k Q n (r + 1) _)
    isplitl [H]; · iexact H
    isplitl [H']; · iexact H'
    iexact Hk

end Rows

end Cert.KernelIdeal.Hand
-- ==== Proof.Opening.lean ====
/-
  The first tile's opening: the embedding rows copied in, the query projection stored, the running sums cleared.

  The 32 copies signal one semaphore. They are issued as one batch, each taking a share of the embedding table and its
  own row of the target, and the last wait hands all of them back.
-/
module

public import proofs.«01_k».proof.Proof.Pass

@[expose] public section

noncomputable section

namespace Cert.KernelIdeal.Hand

open Facts₀ Facts

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (UU nD τ) ℕ

/-- The table's word `r`. -/
def word (Tw : S32.Idx → BitVec 32) (r : ℕ) (h : r < 32) : BitVec 32 :=
  View.ld (Val := Elt F) (e' := .i32) Tw (Rect.unit (s := S32) ![r] S1.size (inb_word h)) (Shape.Idx.first (numel1_S1.symm ▸ Nat.one_pos))

section Copies

variable (𝒱 : Variants) (c : Dev nD) (bd : Option 𝒱.V)
variable (i : grid0.Coords) (arg1 : Memref sig .tc .smem S32 .i32) (arg9 : Memref sig .tc .hbm S100000x64 .f32)
  (arg13 : Memref sig .tc .vmem S32x64 .f32) (arg17 : DmaSems sig S_) (h1 : k0_cond1 i = 1#1)
variable (Tw : S32.Idx → BitVec 32) (hT : ∀ r (h : r < 32), k0_chk1 i (word (F := F) Tw r h))
variable (g : Buf (Elt F) (arg9.view.loc (c : Thread nD τ)))

/-- The table row a word names. -/
abbrev srcRect (h1 : k0_cond1 i = 1#1) (v : BitVec 32) (hw : k0_chk1 i v) : Rect S100000x64 :=
  Rect.unit (s := S100000x64) (k0_off1 v) S1x64.size (k0_off1_inb i v hw h1)

/-- The table row copied to row `r`, and the row it is copied to. -/
abbrev srcRow (r : ℕ) (h : r < 32) : Memref sig .tc .hbm S1x64 .f32 :=
  arg9.slice (srcRect i h1 (word (F := F) Tw r h) (hT r h)) (fun _ => rfl)
abbrev dstRow (r : ℕ) (h : r < 32) : Memref sig .tc .vmem S1x64 .f32 := arg13.slice (rEmb r h) (fun _ => rfl)

/-- What row `r`'s copy delivers. -/
def deliv (t : Fin 32) : sProp 𝕄 :=
  iprop(owns (c : Thread nD τ) (dstRow arg13 t.val t.isLt) fullShare
      (View.ld (Val := Elt F) (arg9.view.read (Elt F) g) (srcRect i h1 (word (F := F) Tw t.val t.isLt) (hT t.val t.isLt)))
    ∗ ((srcRow i arg9 h1 Tw hT t.val t.isLt).view.loc (c : Thread nD τ)
        ↦[(srcRow i arg9 h1 Tw hT t.val t.isLt).view.set]{shareTok fullShare 32 t} g))

/-- What is kept of row `r`'s share of the table while its copy runs. -/
def spare (t : Fin 32) : sProp 𝕄 :=
  arg9.view.loc (c : Thread nD τ) ↦[arg9.view.set \ (srcRow i arg9 h1 Tw hT t.val t.isLt).view.set]{shareTok fullShare 32 t} g

instance deliv_storable (t : Fin 32) : BI.Storable (upEmb : UEmb _ 𝕄) (deliv c i arg9 arg13 h1 Tw hT g t) := by
  unfold deliv; infer_instance

/-- The credit one row's copy signals. -/
abbrev rowCredit : ℕ := (dstRow arg13 0 (by omega)).view.dmaCredit

/-- The batch of the 32 copies, `j` of them issued. -/
abbrev copies (j u : ℕ) : sProp 𝕄 :=
  Batch (countersEmb (U := UU nD τ)) (c : Thread nD τ) (.dma arg17.sem) () (rowCredit arg13) (deliv c i arg9 arg13 h1 Tw hT g) j u

theorem issue_run (q : PosShare TreeShare) (r : ℕ) (h : r < 32) (Y : S1x64.Idx → F .f32)
    (k : PUnit → Prog (TpuEff nD τ sig (Elt F) Λ₀ .tc) PUnit) (Q : PUnit → sProp 𝕄) :
    iprop(owns (c : Thread nD τ) arg1 q Tw ∗ (arg9.view.loc (c : Thread nD τ) ↦[arg9.view.set]{shareTok fullShare 32 ⟨r, h⟩} g)
      ∗ owns (c : Thread nD τ) (dstRow arg13 r h) fullShare Y ∗ copies c i arg9 arg13 arg17 h1 Tw hT g r 0
      ∗ (iprop(owns (c : Thread nD τ) arg1 q Tw ∗ spare c i arg9 h1 Tw hT g ⟨r, h⟩ ∗ copies c i arg9 arg13 arg17 h1 Tw hT g (r + 1) 0)
          -∗ wp frame (wpE (defs₀ (F := F)) 𝒱 (c : Thread nD τ) bd) Set.univ (k ⟨⟩) Q))
    ⊢ wp frame (wpE (defs₀ (F := F)) 𝒱 (c : Thread nD τ) bd) Set.univ (issue i arg1 arg9 arg13 arg17 h1 r h >>= k) Q := by
  iintro ⟨H1, H9, Hd, HB, Hk⟩
  unfold issue
  iapply (own_load 𝒱 (c : Thread nD τ) bd Set.univ) $$ H1; iintro H1
  iapply (wp_assume 𝒱 (c : Thread nD τ) bd Set.univ (hT r h))
  ihave H9' := (pointsTo_split_subset (arg9.view.set_slice_subset (srcRect i h1 (word (F := F) Tw r h) (hT r h)))).1 $$ H9
  icases H9' with ⟨Hs, Hr⟩
  ihave Hd' := (show owns (c : Thread nD τ) (dstRow arg13 r h) fullShare Y ⊢ iprop(∃ f, ⌜(dstRow arg13 r h).view.read (Elt F) f = Y⌝
    ∗ (dstRow arg13 r h).view.loc (c : Thread nD τ) ↦[(dstRow arg13 r h).view.set]{fullShare} f) from .rfl) $$ Hd
  icases Hd' with ⟨%f, %hf, Hd⟩
  iapply (wp_dmaBatch (countersEmb (U := UU nD τ)) 𝒱 (c : Thread nD τ) bd (src := srcRow i arg9 h1 Tw hT r h) (dst := dstRow arg13 r h)
    (sm := .dma arg17.sem) (fs := g) (fd := f) (q := shareTok fullShare 32 ⟨r, h⟩) (D := deliv c i arg9 arg13 h1 Tw hT g) (j := r) (u := 0) ()
    (rowCredit arg13) rfl subset_rfl h (Nat.zero_le _) ?hD) $$ [Hs Hd HB]
  case hD =>
    unfold deliv
    iintro ⟨Hd, Hs⟩
    isplitl [Hd]
    · ihave Hd := (owns_intro (c : Thread nD τ) (dstRow arg13 r h) fullShare _) $$ Hd
      rw [View.read_write_univ]
      iexact Hd
    · iexact Hs
  · isplitl [Hs]; · iexact Hs
    isplitl [Hd]; · iexact Hd
    iexact HB
  iintro HB
  iapply Hk
  isplitl [H1]; · iexact H1
  isplitl [Hr]; · unfold spare; iexact Hr
  iexact HB

theorem pending_last : pending (n := 32) 32 = ∅ := by
  unfold pending; exact Finset.filter_eq_empty_iff.2 fun t _ => by have := t.isLt; omega

theorem pending_step {r : ℕ} (h : r < 32) (Φ : Fin 32 → sProp 𝕄) :
    bigSep (pending r) Φ = iprop(Φ ⟨r, h⟩ ∗ bigSep (pending (r + 1)) Φ) := by
  rw [pending_succ h, bigSep_insert (not_mem_pending_succ h)]; rfl

/-- The copies of the rows from `r` on, issued. -/
theorem issues_run (q : PosShare TreeShare) (Y : Fin 32 → S1x64.Idx → F .f32)
    (k : PUnit → Prog (TpuEff nD τ sig (Elt F) Λ₀ .tc) PUnit) (Q : PUnit → sProp 𝕄) : ∀ (n r : ℕ) (h : r + n = 32),
    iprop(owns (c : Thread nD τ) arg1 q Tw
      ∗ bigSep (pending r) (fun t : Fin 32 => arg9.view.loc (c : Thread nD τ) ↦[arg9.view.set]{shareTok fullShare 32 t} g)
      ∗ bigSep (pending r) (fun t : Fin 32 => owns (c : Thread nD τ) (dstRow arg13 t.val t.isLt) fullShare (Y t))
      ∗ copies c i arg9 arg13 arg17 h1 Tw hT g r 0
      ∗ (iprop(owns (c : Thread nD τ) arg1 q Tw ∗ bigSep (pending r) (spare c i arg9 h1 Tw hT g) ∗ copies c i arg9 arg13 arg17 h1 Tw hT g 32 0)
          -∗ wp frame (wpE (defs₀ (F := F)) 𝒱 (c : Thread nD τ) bd) Set.univ (k ⟨⟩) Q))
    ⊢ wp frame (wpE (defs₀ (F := F)) 𝒱 (c : Thread nD τ) bd) Set.univ (issues i arg1 arg9 arg13 arg17 h1 n r h >>= k) Q
  | 0, r, h => by
    have hr : r = 32 := by omega
    subst hr
    rw [pending_last, bigSep_empty, bigSep_empty, bigSep_empty]
    iintro ⟨H1, -, -, HB, Hk⟩
    iapply Hk
    isplitl [H1]; · iexact H1
    isplitr; · iempintro
    iexact HB
  | n + 1, r, h => by
    have hr : r < 32 := by omega
    rw [pending_step hr, pending_step hr, pending_step hr]
    iintro ⟨H1, ⟨H9, H9s⟩, ⟨Hd, Hds⟩, HB, Hk⟩
    unfold issues
    rw [bind_assoc]
    iapply (issue_run 𝒱 c bd i arg1 arg9 arg13 arg17 h1 Tw hT g q r hr (Y ⟨r, hr⟩))
    isplitl [H1]; · iexact H1
    isplitl [H9]; · iexact H9
    isplitl [Hd]; · iexact Hd
    isplitl [HB]; · iexact HB
    iintro ⟨H1, Hsp, HB⟩
    iapply (issues_run q Y k Q n (r + 1) _)
    isplitl [H1]; · iexact H1
    isplitl [H9s]; · iexact H9s
    isplitl [Hds]; · iexact Hds
    isplitl [HB]; · iexact HB
    iintro ⟨H1, Hsps, HB⟩
    iapply Hk
    isplitl [H1]; · iexact H1
    isplitl [Hsp Hsps]
    · isplitl [Hsp]; · iexact Hsp
      iexact Hsps
    iexact HB

/-- The waits from row `r` on, the last of which hands back every copy. -/
theorem awaits_run (k : PUnit → Prog (TpuEff nD τ sig (Elt F) Λ₀ .tc) PUnit) (Q : PUnit → sProp 𝕄) :
    ∀ (n r : ℕ) (h : r + (n + 1) = 32) (W : Waits sig Unit),
    iprop(copies c i arg9 arg13 arg17 h1 Tw hT g 32 (r * rowCredit arg13) ∗ owes (c : Thread nD τ) 0 W
      ∗ (iprop(bigSep Finset.univ (deliv c i arg9 arg13 h1 Tw hT g) ∗ semVal ((c : Thread nD τ), .dma arg17.sem) 0 ∗ (∃ W, owes (c : Thread nD τ) 0 W))
          -∗ wp frame (wpE (defs₀ (F := F)) 𝒱 (c : Thread nD τ) bd) Set.univ (k ⟨⟩) Q))
    ⊢ wp frame (wpE (defs₀ (F := F)) 𝒱 (c : Thread nD τ) bd) Set.univ (awaits arg9 arg13 arg17 (n + 1) r h >>= k) Q
  | 0, r, h, W => by
    have hr : r = 31 := by omega
    subst hr
    iintro ⟨HB, HO, Hk⟩
    unfold awaits await
    have hN : 0 < rowCredit arg13 := (View.amount_pos _ (.dma arg17.sem) (by decide))
    iapply (wp_waitBatchLast (countersEmb (U := UU nD τ)) 𝒱 (c : Thread nD τ) bd (hsrc := View.wordExact_bits rfl) (hdst := View.wordExact_bits rfl)
      (srcw := arg9.slice (Rect.unit (s := S100000x64) ![0, 0] S1x64.size inb_S100000x64_S1x64_0_0) (fun _ => rfl))
      (dstw := dstRow arg13 31 (by omega)) () (N := rowCredit arg13) rfl hN
      (D := deliv c i arg9 arg13 h1 Tw hT g) (u := 31 * rowCredit arg13) (by omega)) $$ [HB HO]
    · isplitl [HB]; · iexact HB
      iexact HO
    iintro ⟨HD, Hs, HO⟩
    iapply Hk
    isplitl [HD]; · iexact HD
    isplitl [Hs]; · iexact Hs
    iexists _; iexact HO
  | n + 1, r, h, W => by
    iintro ⟨HB, HO, Hk⟩
    unfold awaits
    rw [bind_assoc]
    unfold await
    have hN : 0 < rowCredit arg13 := (View.amount_pos _ (.dma arg17.sem) (by decide))
    iapply (wp_waitBatch (countersEmb (U := UU nD τ)) 𝒱 (c : Thread nD τ) bd (hsrc := View.wordExact_bits rfl) (hdst := View.wordExact_bits rfl)
      (srcw := arg9.slice (Rect.unit (s := S100000x64) ![0, 0] S1x64.size inb_S100000x64_S1x64_0_0) (fun _ => rfl))
      (dstw := dstRow arg13 r (by omega)) () (N := rowCredit arg13) rfl
      (D := deliv c i arg9 arg13 h1 Tw hT g) (u := r * rowCredit arg13) (by nlinarith)) $$ [HB HO]
    · isplitl [HB]; · iexact HB
      iexact HO
    iintro ⟨HB, HO⟩
    rw [show r * rowCredit arg13 + rowCredit arg13 = (r + 1) * rowCredit arg13 by ring]
    iapply (awaits_run k Q n (r + 1) (by omega))
    isplitl [HB]; · iexact HB
    isplitl [HO]; · iexact HO
    iexact Hk

/-- The gathered rows: row `r` is the table row that word `r` names. -/
def gathered : S32x64.Idx → F .f32 := fun j =>
  View.ld (Val := Elt F) (arg9.view.read (Elt F) g)
    (srcRect i h1 (word (F := F) Tw (j 0).val (j 0).isLt) (hT (j 0).val (j 0).isLt)) (ValueIdx.ix2 0 (j 1))

theorem gathered_emb {r : ℕ} (h : r < 32) (x : (rEmb r h).shape.Idx) :
    View.ld (Val := Elt F) (arg9.view.read (Elt F) g) (srcRect i h1 (word (F := F) Tw r h) (hT r h)) x
      = gathered c i arg9 h1 Tw hT g ((rEmb r h).emb x) := by
  have e1 : (((rEmb r h).emb x) 0).val = r := (mem_rEmb h _).1 (LoadRect.idx_mem _ x)
  have e2 : (ValueIdx.ix2 0 (((rEmb r h).emb x) 1) : S1x64.Idx) = x := by
    funext a
    fin_cases a
    · exact Subsingleton.elim (α := Fin 1) _ _
    · exact Fin.ext (by show 0 + 1 * (x 1).val = (x 1).val; omega)
  have key : ∀ (r' : ℕ) (h' : r' < 32), r' = r →
      View.ld (Val := Elt F) (arg9.view.read (Elt F) g) (srcRect i h1 (word (F := F) Tw r h) (hT r h)) x
        = View.ld (Val := Elt F) (arg9.view.read (Elt F) g) (srcRect i h1 (word (F := F) Tw r' h') (hT r' h')) x := by
    intro r' h' e; subst e; rfl
  unfold gathered
  rw [e2]
  exact key _ _ e1

theorem rows_disjoint (t t' : Fin 32) (ht : t ≠ t') : Disjoint (rEmb t.val t.isLt).set (rEmb t'.val t'.isLt).set :=
  Finset.disjoint_left.2 fun j h h' => ht (Fin.ext (((mem_rEmb _ j).1 h).symm.trans ((mem_rEmb _ j).1 h')))

theorem rows_cover : (Finset.univ : Finset (Fin 32)).biUnion (fun t => (rEmb t.val t.isLt).set) = Finset.univ :=
  Finset.eq_univ_of_forall fun j => Finset.mem_biUnion.2 ⟨j 0, Finset.mem_univ _, (mem_rEmb _ j).2 rfl⟩

/-- The delivered rows and the spare parts of the table's shares are the gathered rows and the table. -/
theorem deliv_join :
    iprop(bigSep Finset.univ (deliv c i arg9 arg13 h1 Tw hT g) ∗ bigSep Finset.univ (spare c i arg9 h1 Tw hT g)
        ∗ (arg9.view.loc (c : Thread nD τ) ↦[arg9.view.set]{shareDrop fullShare 32} g))
      ⊢ (iprop(owns (c : Thread nD τ) arg13 fullShare (gathered c i arg9 h1 Tw hT g)
        ∗ (arg9.view.loc (c : Thread nD τ) ↦[arg9.view.set]{fullShare} g)) : sProp 𝕄) := by
  have hd : bigSep Finset.univ (deliv c i arg9 arg13 h1 Tw hT g)
      ⊢ (iprop(bigSep Finset.univ (fun t : Fin 32 => owns (c : Thread nD τ) (dstRow arg13 t.val t.isLt) fullShare
            (fun x => gathered c i arg9 h1 Tw hT g ((rEmb t.val t.isLt).emb x)))
          ∗ bigSep Finset.univ (fun t : Fin 32 => (srcRow i arg9 h1 Tw hT t.val t.isLt).view.loc (c : Thread nD τ)
        ↦[(srcRow i arg9 h1 Tw hT t.val t.isLt).view.set]{shareTok fullShare 32 t} g)) : sProp 𝕄) := by
    refine (bigSep_mono fun t _ => ?_).trans (Entails.of_eq (bigSep_sep _ _ _))
    unfold deliv
    rw [show View.ld (Val := Elt F) (arg9.view.read (Elt F) g) (srcRect i h1 (word (F := F) Tw t.val t.isLt) (hT t.val t.isLt)) = _
      from funext fun x => gathered_emb c i arg9 h1 Tw hT g t.isLt x]
    exact fun _ h => h
  have hs : iprop(bigSep Finset.univ (fun t : Fin 32 => (srcRow i arg9 h1 Tw hT t.val t.isLt).view.loc (c : Thread nD τ)
        ↦[(srcRow i arg9 h1 Tw hT t.val t.isLt).view.set]{shareTok fullShare 32 t} g) ∗ bigSep Finset.univ (spare c i arg9 h1 Tw hT g))
      ⊢ (bigSep Finset.univ (fun t : Fin 32 => arg9.view.loc (c : Thread nD τ) ↦[arg9.view.set]{shareTok fullShare 32 t} g) : sProp 𝕄) := by
    refine (Entails.of_eq (bigSep_sep _ _ _).symm).trans (bigSep_mono fun t _ => ?_)
    exact (pointsTo_split_subset (arg9.view.set_slice_subset (srcRect i h1 (word (F := F) Tw t.val t.isLt) (hT t.val t.isLt)))).2
  iintro ⟨HD, HS, Hd⟩
  ihave HD := hd $$ HD
  icases HD with ⟨Hrows, Hsrc⟩
  isplitl [Hrows]
  · iapply (owns_of_rects (c : Thread nD τ) arg13 fullShare (fun t : Fin 32 => rEmb t.val t.isLt) (fun _ _ => rfl) rows_disjoint rows_cover
      (gathered c i arg9 h1 Tw hT g))
    iexact Hrows
  · iapply (pointsTo_toks_join fullShare 32)
    isplitl [Hd]; · iexact Hd
    iapply hs
    isplitl [Hsrc]; · iexact Hsrc
    iexact HS

end Copies

section Opened

variable (𝒱 : Variants) (c : Dev nD) (bd : Option 𝒱.V)
variable (i : grid0.Coords) (arg1 : Memref sig .tc .smem S32 .i32) (arg2 : Memref sig .tc .vmem S32x256 .f32)
  (arg3 : Memref sig .tc .vmem S256x256 .f32) (arg4 : Memref sig .tc .vmem S1x256 .f32) (arg9 : Memref sig .tc .hbm S100000x64 .f32)
  (arg11 : Memref sig .tc .vmem S32x256 .f32) (arg12 : Memref sig .tc .vmem S32x1 .f32)
  (arg13 : Memref sig .tc .vmem S32x64 .f32) (arg14 : Memref sig .tc .vmem S32x256 .f32) (arg15 : Memref sig .tc .vmem S32x256 .f32)
  (arg16 : Memref sig .tc .vmem S32x1 .f32) (arg17 : DmaSems sig S_) (h1 : k0_cond1 i = 1#1)
variable (Tw : S32.Idx → BitVec 32) (hT : ∀ r (h : r < 32), k0_chk1 i (word (F := F) Tw r h))
variable (g : Buf (Elt F) (arg9.view.loc (c : Thread nD τ)))
variable (X2 : S32x256.Idx → F .f32) (X3 : S256x256.Idx → F .f32) (X4 : S1x256.Idx → F .f32)

/-- The query projection stored and the running sums cleared. -/
theorem clear_run (Y14 Y15 : S32x256.Idx → F .f32) (Y16 : S32x1.Idx → F .f32)
    (k : PUnit → Prog (TpuEff nD τ sig (Elt F) Λ₀ .tc) PUnit) (Q : PUnit → sProp 𝕄) :
    iprop(owns (c : Thread nD τ) arg2 fullShare X2 ∗ owns (c : Thread nD τ) arg3 fullShare X3 ∗ owns (c : Thread nD τ) arg4 fullShare X4
      ∗ owns (c : Thread nD τ) arg14 fullShare Y14 ∗ owns (c : Thread nD τ) arg15 fullShare Y15 ∗ owns (c : Thread nD τ) arg16 fullShare Y16
      ∗ (iprop(owns (c : Thread nD τ) arg2 fullShare X2 ∗ owns (c : Thread nD τ) arg3 fullShare X3 ∗ owns (c : Thread nD τ) arg4 fullShare X4
          ∗ owns (c : Thread nD τ) arg14 fullShare (qPay X2 X3 X4) ∗ owns (c : Thread nD τ) arg15 fullShare (cZero (F := F))
          ∗ owns (c : Thread nD τ) arg16 fullShare (lZero (F := F)))
          -∗ wp frame (wpE (defs₀ (F := F)) 𝒱 (c : Thread nD τ) bd) Set.univ (k ⟨⟩) Q))
    ⊢ wp frame (wpE (defs₀ (F := F)) 𝒱 (c : Thread nD τ) bd) Set.univ (clear arg2 arg3 arg4 arg14 arg15 arg16 >>= k) Q := by
  iintro ⟨H2, H3, H4, H14, H15, H16, Hk⟩
  unfold clear
  iapply (own_load_full 𝒱 (c : Thread nD τ) bd Set.univ) $$ H2; iintro H2
  iapply (own_load_full 𝒱 (c : Thread nD τ) bd Set.univ) $$ H3; iintro H3
  iapply (own_load_full 𝒱 (c : Thread nD τ) bd Set.univ) $$ H4; iintro H4
  iapply (own_load_full 𝒱 (c : Thread nD τ) bd Set.univ) $$ H14; iintro H14
  iapply (own_store_full 𝒱 (c : Thread nD τ) bd Set.univ) $$ H14; iintro H14
  iapply (own_load_full 𝒱 (c : Thread nD τ) bd Set.univ) $$ H15; iintro H15
  iapply (own_store_full 𝒱 (c : Thread nD τ) bd Set.univ) $$ H15; iintro H15
  iapply (own_load_full 𝒱 (c : Thread nD τ) bd Set.univ) $$ H16; iintro H16
  iapply (own_store_full 𝒱 (c : Thread nD τ) bd Set.univ) $$ H16; iintro H16
  iapply Hk
  isplitl [H2]; · iexact H2
  isplitl [H3]; · iexact H3
  isplitl [H4]; · iexact H4
  isplitl [H14]; · iexact H14
  isplitl [H15]; · iexact H15
  iexact H16

/-- The running sums handed out. -/
theorem handOut_run (Y11 C : S32x256.Idx → F .f32) (Y12 L : S32x1.Idx → F .f32)
    (k : PUnit → Prog (TpuEff nD τ sig (Elt F) Λ₀ .tc) PUnit) (Q : PUnit → sProp 𝕄) :
    iprop(owns (c : Thread nD τ) arg11 fullShare Y11 ∗ owns (c : Thread nD τ) arg12 fullShare Y12
      ∗ owns (c : Thread nD τ) arg15 fullShare C ∗ owns (c : Thread nD τ) arg16 fullShare L
      ∗ (iprop(owns (c : Thread nD τ) arg11 fullShare C ∗ owns (c : Thread nD τ) arg12 fullShare L
          ∗ owns (c : Thread nD τ) arg15 fullShare C ∗ owns (c : Thread nD τ) arg16 fullShare L)
          -∗ wp frame (wpE (defs₀ (F := F)) 𝒱 (c : Thread nD τ) bd) Set.univ (k ⟨⟩) Q))
    ⊢ wp frame (wpE (defs₀ (F := F)) 𝒱 (c : Thread nD τ) bd) Set.univ (handOut arg11 arg12 arg15 arg16 >>= k) Q := by
  iintro ⟨H11, H12, H15, H16, Hk⟩
  unfold handOut
  iapply (own_load_full 𝒱 (c : Thread nD τ) bd Set.univ) $$ H15; iintro H15
  iapply (own_load_full 𝒱 (c : Thread nD τ) bd Set.univ) $$ H11; iintro H11
  iapply (own_store_full 𝒱 (c : Thread nD τ) bd Set.univ) $$ H11; iintro H11
  iapply (own_load_full 𝒱 (c : Thread nD τ) bd Set.univ) $$ H16; iintro H16
  iapply (own_load_full 𝒱 (c : Thread nD τ) bd Set.univ) $$ H12; iintro H12
  iapply (own_store_full 𝒱 (c : Thread nD τ) bd Set.univ) $$ H12; iintro H12
  iapply Hk
  isplitl [H11]; · iexact H11
  isplitl [H12]; · iexact H12
  isplitl [H15]; · iexact H15
  iexact H16

/-- The opening as a whole. -/
theorem opening_run (q : PosShare TreeShare) (Y13 : S32x64.Idx → F .f32) (Y14 Y15 : S32x256.Idx → F .f32) (Y16 : S32x1.Idx → F .f32)
    (W : Waits sig Unit) (k : PUnit → Prog (TpuEff nD τ sig (Elt F) Λ₀ .tc) PUnit) (Q : PUnit → sProp 𝕄) :
    iprop(owns (c : Thread nD τ) arg1 q Tw ∗ owns (c : Thread nD τ) arg2 fullShare X2 ∗ owns (c : Thread nD τ) arg3 fullShare X3
      ∗ owns (c : Thread nD τ) arg4 fullShare X4 ∗ (arg9.view.loc (c : Thread nD τ) ↦[arg9.view.set]{fullShare} g)
      ∗ owns (c : Thread nD τ) arg13 fullShare Y13
      ∗ owns (c : Thread nD τ) arg14 fullShare Y14 ∗ owns (c : Thread nD τ) arg15 fullShare Y15 ∗ owns (c : Thread nD τ) arg16 fullShare Y16
      ∗ semVal ((c : Thread nD τ), .dma arg17.sem) 0 ∗ owes (c : Thread nD τ) 0 W
      ∗ (iprop(owns (c : Thread nD τ) arg1 q Tw ∗ owns (c : Thread nD τ) arg2 fullShare X2 ∗ owns (c : Thread nD τ) arg3 fullShare X3
          ∗ owns (c : Thread nD τ) arg4 fullShare X4 ∗ (arg9.view.loc (c : Thread nD τ) ↦[arg9.view.set]{fullShare} g)
          ∗ owns (c : Thread nD τ) arg13 fullShare (gathered c i arg9 h1 Tw hT g)
          ∗ owns (c : Thread nD τ) arg14 fullShare (qPay X2 X3 X4) ∗ owns (c : Thread nD τ) arg15 fullShare (cZero (F := F))
          ∗ owns (c : Thread nD τ) arg16 fullShare (lZero (F := F)) ∗ semVal ((c : Thread nD τ), .dma arg17.sem) 0
          ∗ (∃ W, owes (c : Thread nD τ) 0 W))
          -∗ wp frame (wpE (defs₀ (F := F)) 𝒱 (c : Thread nD τ) bd) Set.univ (k ⟨⟩) Q))
    ⊢ wp frame (wpE (defs₀ (F := F)) 𝒱 (c : Thread nD τ) bd) Set.univ
        (opening i arg1 arg2 arg3 arg4 arg9 arg13 arg14 arg15 arg16 arg17 h1 >>= k) Q := by
  iintro ⟨H1, H2, H3, H4, H9, H13, H14, H15, H16, Hs, HO, Hk⟩
  unfold opening
  rw [bind_assoc]
  ihave H9 := (pointsTo_toks_split fullShare 32) $$ H9
  icases H9 with ⟨H9d, H9s⟩
  ihave H13 := (owns_rects (c : Thread nD τ) arg13 fullShare (fun t : Fin 32 => rEmb t.val t.isLt) (fun _ _ => rfl) rows_disjoint rows_cover
      Y13) $$ H13
  imod (batch_alloc' (Lvl := ℕ) (countersEmb (U := UU nD τ)) (c : Thread nD τ) () (rowCredit arg13) (deliv c i arg9 arg13 h1 Tw hT g)
    (sm := .dma arg17.sem) (E := Set.univ)) $$ Hs with HB
  rw [← pending_zero]
  iapply (issues_run 𝒱 c bd i arg1 arg9 arg13 arg17 h1 Tw hT g q (fun t x => Y13 ((rEmb t.val t.isLt).emb x)) _ Q 32 0 rfl)
  isplitl [H1]; · iexact H1
  isplitl [H9s]; · iexact H9s
  isplitl [H13]; · iexact H13
  isplitl [HB]; · iexact HB
  iintro ⟨H1, Hsp, HB⟩
  rw [bind_assoc]
  iapply (clear_run 𝒱 c bd arg2 arg3 arg4 arg14 arg15 arg16 X2 X3 X4 Y14 Y15 Y16)
  isplitl [H2]; · iexact H2
  isplitl [H3]; · iexact H3
  isplitl [H4]; · iexact H4
  isplitl [H14]; · iexact H14
  isplitl [H15]; · iexact H15
  isplitl [H16]; · iexact H16
  iintro ⟨H2, H3, H4, H14, H15, H16⟩
  iapply (awaits_run 𝒱 c bd i arg9 arg13 arg17 h1 Tw hT g k Q 31 0 rfl W)
  isplitl [HB]; · rw [Nat.zero_mul]; iexact HB
  isplitl [HO]; · iexact HO
  iintro ⟨HD, Hs, HO⟩
  rw [pending_zero]
  ihave HJ := (deliv_join c i arg9 arg13 h1 Tw hT g) $$ [HD Hsp H9d]
  · isplitl [HD]; · iexact HD
    isplitl [Hsp]; · iexact Hsp
    iexact H9d
  icases HJ with ⟨H13, H9⟩
  iapply Hk
  isplitl [H1]; · iexact H1
  isplitl [H2]; · iexact H2
  isplitl [H3]; · iexact H3
  isplitl [H4]; · iexact H4
  isplitl [H9]; · iexact H9
  isplitl [H13]; · iexact H13
  isplitl [H14]; · iexact H14
  isplitl [H15]; · iexact H15
  isplitl [H16]; · iexact H16
  isplitl [Hs]; · iexact Hs
  iexact HO

end Opened

end Cert.KernelIdeal.Hand
-- ==== Proof.BodyEq.lean ====
/-
  The printed attention body is the sequence of its row passes.
-/
module

public import proofs.«01_k».proof.Proof.Rows

@[expose] public section

noncomputable section

namespace Cert.KernelIdeal.Hand

open Idealize.ShloMosaic Idealize.SL.Sem

open Facts₀ Facts

variable {F : FTy → Type} [FloatOps F]

variable (i : grid0.Coords) (arg1 : Memref sig .tc .smem S32 .i32) (arg2 : Memref sig .tc .vmem S32x256 .f32) (arg3 : Memref sig .tc .vmem S256x256 .f32) (arg4 : Memref sig .tc .vmem S1x256 .f32) (arg5 : Memref sig .tc .vmem S32x256x256 .f32) (arg6 : Memref sig .tc .vmem S256x256 .f32) (arg7 : Memref sig .tc .vmem S256x1 .f32) (arg8 : Memref sig .tc .vmem S1x1 .f32) (arg9 : Memref sig .tc .hbm S100000x64 .f32) (arg10 : Memref sig .tc .vmem S256x32 .f32) (arg11 : Memref sig .tc .vmem S32x256 .f32) (arg12 : Memref sig .tc .vmem S32x1 .f32) (arg13 : Memref sig .tc .vmem S32x64 .f32) (arg14 : Memref sig .tc .vmem S32x256 .f32) (arg15 : Memref sig .tc .vmem S32x256 .f32) (arg16 : Memref sig .tc .vmem S32x1 .f32) (arg17 : DmaSems sig S_)

universe v in
/-- Two programs that begin with the same effect agree when their continuations do. -/
theorem op_congr {E : Type → Type v} {α β : Type} {e e' : E α} {k k' : α → Prog E β} (he : e = e') (hk : ∀ x, k x = k' x) :
    Prog.op e k = Prog.op e' k' := by
  subst he; exact congrArg _ (funext hk)

set_option maxRecDepth 65536 in
set_option maxHeartbeats 4000000 in
/-- The printed body is the sequence of its passes. -/
theorem body_eq (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) : cc0__attn_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 = body i arg1 arg2 arg3 arg4 arg5 arg6 arg7 arg8 arg9 arg10 arg11 arg12 arg13 arg14 arg15 arg16 arg17 := by
  unfold cc0__attn_kernel k0_part42 k0_part10 body
  by_cases h1 : k0_cond1 i = 1#1
  · rw [dif_pos h1, dif_pos h1]
    repeat refine op_congr rfl fun _ => ?_
    split <;> rfl
  · rw [dif_neg h1, dif_neg h1]
    repeat refine op_congr rfl fun _ => ?_
    split <;> rfl

end Cert.KernelIdeal.Hand
-- ==== Proof.Body0.lean ====
/-
  The attention kernel's body at one tile, at the first tile and at the later ones.
-/
module

public import proofs.«01_k».proof.Proof.Opening
public import proofs.«01_k».proof.Proof.BodyEq

@[expose] public section

noncomputable section

namespace Cert.KernelIdeal.Hand

open Facts₀ Facts

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (UU nD τ) ℕ

variable (𝒱 : Variants) (c : Dev nD) (bd : Option 𝒱.V)
variable (i : grid0.Coords) (arg1 : Memref sig .tc .smem S32 .i32) (arg2 : Memref sig .tc .vmem S32x256 .f32)
  (arg3 : Memref sig .tc .vmem S256x256 .f32) (arg4 : Memref sig .tc .vmem S1x256 .f32) (arg5 : Memref sig .tc .vmem S32x256x256 .f32)
  (arg6 : Memref sig .tc .vmem S256x256 .f32) (arg7 : Memref sig .tc .vmem S256x1 .f32) (arg8 : Memref sig .tc .vmem S1x1 .f32)
  (arg9 : Memref sig .tc .hbm S100000x64 .f32) (arg10 : Memref sig .tc .vmem S256x32 .f32)
  (arg11 : Memref sig .tc .vmem S32x256 .f32) (arg12 : Memref sig .tc .vmem S32x1 .f32)
  (arg13 : Memref sig .tc .vmem S32x64 .f32) (arg14 : Memref sig .tc .vmem S32x256 .f32) (arg15 : Memref sig .tc .vmem S32x256 .f32)
  (arg16 : Memref sig .tc .vmem S32x1 .f32) (arg17 : DmaSems sig S_)

/-- What the body does at every tile: the passes, and at the last tile the sums handed out. -/
def tail : Prog (TpuEff nD τ sig (Elt F) Λ₀ .tc) PUnit := do
  let v3 : Vec F S256x256 .f32 ← Prog.lift (.load arg6 (Rect.unit (s := S256x256) ![0, 0] S256x256.size inb_S256x256_S256x256_0_0).toLoadRect (View.loadsAt_vmem h_S256x256))
  rows arg5 arg7 arg8 arg10 arg14 arg15 arg16 (wPay v3) 32 0 rfl
  if h2 : k0_cond2 i = 1#1 then handOut arg11 arg12 arg15 arg16 else pure ⟨⟩

theorem body_first (h1 : k0_cond1 i = 1#1) :
    body (F := F) i arg1 arg2 arg3 arg4 arg5 arg6 arg7 arg8 arg9 arg10 arg11 arg12 arg13 arg14 arg15 arg16 arg17
      = (opening i arg1 arg2 arg3 arg4 arg9 arg13 arg14 arg15 arg16 arg17 h1
          >>= fun _ => tail i arg5 arg6 arg7 arg8 arg10 arg11 arg12 arg14 arg15 arg16) := by
  unfold body tail
  rw [dif_pos h1]
  by_cases h2 : k0_cond2 i = 1#1
  · simp only [dif_pos h2]; rfl
  · simp only [dif_neg h2]

theorem body_later (h1 : ¬ k0_cond1 i = 1#1) :
    body (F := F) i arg1 arg2 arg3 arg4 arg5 arg6 arg7 arg8 arg9 arg10 arg11 arg12 arg13 arg14 arg15 arg16 arg17
      = tail i arg5 arg6 arg7 arg8 arg10 arg11 arg12 arg14 arg15 arg16 := by
  unfold body tail
  rw [dif_neg h1]
  by_cases h2 : k0_cond2 i = 1#1
  · simp only [dif_pos h2]; rfl
  · simp only [dif_neg h2]

variable (En : S32x256x256.Idx → F .f32) (W2 : S256x256.Idx → F .f32) (V : S256x1.Idx → F .f32) (B : S1x1.Idx → F .f32)
  (Qs : S32x256.Idx → F .f32)

/-- The passes and the handing out. -/
theorem tail_run (P : S256x32.Idx → F .f32) (L Y12 : S32x1.Idx → F .f32) (C Y11 : S32x256.Idx → F .f32) (Q : PUnit → sProp 𝕄) :
    iprop(owns (c : Thread nD τ) arg6 fullShare W2
      ∗ passRead c arg5 arg7 arg8 arg14 En Qs V B ∗ passWritten c arg10 arg15 arg16 P L C
      ∗ owns (c : Thread nD τ) arg11 fullShare Y11 ∗ owns (c : Thread nD τ) arg12 fullShare Y12
      ∗ (iprop(owns (c : Thread nD τ) arg6 fullShare W2
          ∗ passRead c arg5 arg7 arg8 arg14 En Qs V B
          ∗ passWritten c arg10 arg15 arg16 (pTile (wPay W2) En Qs V B) (lTile (wPay W2) En Qs V B L) (cTile (wPay W2) En Qs V B C)
          ∗ owns (c : Thread nD τ) arg11 fullShare (if k0_cond2 i = 1#1 then cTile (wPay W2) En Qs V B C else Y11)
          ∗ owns (c : Thread nD τ) arg12 fullShare (if k0_cond2 i = 1#1 then lTile (wPay W2) En Qs V B L else Y12))
          -∗ Q ⟨⟩))
    ⊢ wp frame (wpE (defs₀ (F := F)) 𝒱 (c : Thread nD τ) bd) Set.univ
        (tail i arg5 arg6 arg7 arg8 arg10 arg11 arg12 arg14 arg15 arg16) Q := by
  iintro ⟨H6, HR, HW, H11, H12, Hk⟩
  unfold tail
  iapply (own_load_full 𝒱 (c : Thread nD τ) bd Set.univ) $$ H6; iintro H6
  iapply (rows_run 𝒱 c bd Set.univ arg5 arg7 arg8 arg10 arg14 arg15 arg16 (wPay W2) En Qs V B P L C _ Q 32 0 rfl)
  rw [mix_zero, mix_zero, mix_zero]
  isplitl [HR]; · iexact HR
  isplitl [HW]; · iexact HW
  iintro ⟨HR, HW⟩
  by_cases h2 : k0_cond2 i = 1#1
  · rw [dif_pos h2, if_pos h2, if_pos h2, ← bind_pure (handOut arg11 arg12 arg15 arg16)]
    unfold passWritten
    icases HW with ⟨H10, H16, H15⟩
    iapply (handOut_run 𝒱 c bd arg11 arg12 arg15 arg16 Y11 (cTile (wPay W2) En Qs V B C) Y12 (lTile (wPay W2) En Qs V B L))
    isplitl [H11]; · iexact H11
    isplitl [H12]; · iexact H12
    isplitl [H15]; · iexact H15
    isplitl [H16]; · iexact H16
    iintro ⟨H11, H12, H15, H16⟩
    sl_step
    iapply Hk
    isplitl [H6]; · iexact H6
    isplitl [HR]; · iexact HR
    isplitl [H10 H15 H16]
    · isplitl [H10]; · iexact H10
      isplitl [H16]; · iexact H16
      iexact H15
    isplitl [H11]; · iexact H11
    iexact H12
  · rw [dif_neg h2, if_neg h2, if_neg h2]
    sl_step
    iapply Hk
    isplitl [H6]; · iexact H6
    isplitl [HR]; · iexact HR
    isplitl [HW]; · iexact HW
    isplitl [H11]; · iexact H11
    iexact H12

end Cert.KernelIdeal.Hand
-- ==== Proof.Data0.lean ====
/-
  The attention kernel's grid: what every window's buffer holds before and after the body at every point.
-/
module

public import proofs.«01_k».proof.Proof.Body0
public import proofs.«01_k».proof.Proof.Gen.KernelIdeal.Launch

@[expose] public section

set_option maxRecDepth 16384

noncomputable section

namespace Cert.KernelIdeal.Hand

open Facts₀ Facts
open Cert.KernelIdeal.Gen

open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (UU nD τ) ℕ

/-- Every core's buffers when the region is entered. -/
abbrev Entry (F : FTy → Type) : Type := Dev nD → Valuation τ sig (Elt F)

variable (W : Entry F)

/-- The table the region was given (the index maps do not read it). -/
def tab0 : (pcfg0 (F := F)).Adm := ⟨fun | ⟨0, _⟩ => W 0 main_v0, trivial⟩

variable (a : (pcfg0 (F := F)).Adm) (c : Dev nD)

/-- What a fetch of an input window stages at a point. -/
def blk0 (w : Fin 11) (t : Fin grid0.N) : ((cfg0 a).win w).block.Idx → Elt F ((cfg0 a).win w).elt :=
  ((cfg0 a).win w).fill (grid0.coords t) (fun _ => default) ((((cfg0 a).win w).blk t).view.read (Elt F) (W c (arrRef spec0 w)))

/-- The index words name rows of the table they index. -/
def RowsIn : Prop := ∀ r (h : r < 32), k0_chk1 (grid0.coords t0_0) (word (F := F) (W c main_v0) r h)

variable (hT : ∀ c, RowsIn W c)

theorem first_coords : k0_cond1 (grid0.coords t0_0) = 1#1 := by decide

/-- The embedding rows the opening gathers. -/
def emb0 : S32x64.Idx → F .f32 :=
  gathered c (grid0.coords t0_0) (Memref.whole main_arg3) first_coords (W c main_v0) (hT c) (W c main_arg3)

/-- The projected hidden state the opening leaves. -/
def qs0 : S32x256.Idx → F .f32 := qPay (blk0 W a c 0 t0_0) (blk0 W a c 1 t0_0) (blk0 W a c 2 t0_0)

/-- The running sums of the exponentiated scores before point `k`. -/
def lAt : ℕ → S32x1.Idx → F .f32
  | 0 => lZero
  | k + 1 => if h : k < 8 then
      lTile (wPay (blk0 W a c 4 ⟨k, h⟩)) (blk0 W a c 3 ⟨k, h⟩) (qs0 W a c) (blk0 W a c 5 ⟨k, h⟩) (blk0 W a c 6 ⟨k, h⟩) (lAt k)
    else lAt k

/-- The running weighted sums of the encoder output before point `k`. -/
def cAt : ℕ → S32x256.Idx → F .f32
  | 0 => cZero
  | k + 1 => if h : k < 8 then
      cTile (wPay (blk0 W a c 4 ⟨k, h⟩)) (blk0 W a c 3 ⟨k, h⟩) (qs0 W a c) (blk0 W a c 5 ⟨k, h⟩) (blk0 W a c 6 ⟨k, h⟩) (cAt k)
    else cAt k

/-- The exponentiated scores of point `t`. -/
def pAt (t : Fin grid0.N) : S256x32.Idx → F .f32 :=
  pTile (wPay (blk0 W a c 4 t)) (blk0 W a c 3 t) (qs0 W a c) (blk0 W a c 5 t) (blk0 W a c 6 t)

theorem lAt_succ (t : Fin grid0.N) : lAt W a c (t.val + 1)
    = lTile (wPay (blk0 W a c 4 t)) (blk0 W a c 3 t) (qs0 W a c) (blk0 W a c 5 t) (blk0 W a c 6 t) (lAt W a c t.val) := by
  rw [lAt, dif_pos (show t.val < 8 from t.isLt)]

theorem cAt_succ (t : Fin grid0.N) : cAt W a c (t.val + 1)
    = cTile (wPay (blk0 W a c 4 t)) (blk0 W a c 3 t) (qs0 W a c) (blk0 W a c 5 t) (blk0 W a c 6 t) (cAt W a c t.val) := by
  rw [cAt, dif_pos (show t.val < 8 from t.isLt)]

/-- The kernel's own buffers before point `k`. -/
def scratch0 (k : ℕ) : sProp 𝕄 := match k with
  | 0 => iprop((∃ f, owns (c : Thread nD τ) (Memref.whole cc0_scratch0) fullShare f) ∗ (∃ f, owns (c : Thread nD τ) (Memref.whole cc0_scratch1) fullShare f)
      ∗ (∃ f, owns (c : Thread nD τ) (Memref.whole cc0_scratch2) fullShare f))
  | k + 1 => iprop(owns (c : Thread nD τ) (Memref.whole cc0_scratch0) fullShare (qs0 W a c)
      ∗ owns (c : Thread nD τ) (Memref.whole cc0_scratch1) fullShare (cAt W a c (k + 1))
      ∗ owns (c : Thread nD τ) (Memref.whole cc0_scratch2) fullShare (lAt W a c (k + 1)))

/-- What the kernel holds beside its windows at every point: the index words, the embedding table, its transfers'
    counter at zero, every other buffer of the launch at something. -/
def fixed0 : sProp 𝕄 :=
  iprop(owns (c : Thread nD τ) (Memref.whole main_v0) fullShare (W c main_v0)
    ∗ ((Memref.whole main_arg3).view.loc (c : Thread nD τ) ↦[(Memref.whole main_arg3).view.set]{fullShare} W c main_arg3)
    ∗ semVal ((c : Thread nD τ), .dma cc0_scratch3.sem) 0
    ∗ Pipeline.scopedRestBut (Ix := Unit) (Name := ℕ) (U := UU nD τ) (Lvl := ℕ) (Val := Elt F) spec0 c [cc0_scratch0, cc0_scratch1, cc0_scratch2])

/-- The region's proof data. -/
def dat0 : Dat τ (Elt F) Unit ℕ (UU nD τ) ℕ (cfg0 a) c where
  A w := W c (arrRef spec0 w)
  after w t := match w with
    | ⟨0, _⟩ => blk0 W a c 0 t
    | ⟨1, _⟩ => blk0 W a c 1 t
    | ⟨2, _⟩ => blk0 W a c 2 t
    | ⟨3, _⟩ => blk0 W a c 3 t
    | ⟨4, _⟩ => blk0 W a c 4 t
    | ⟨5, _⟩ => blk0 W a c 5 t
    | ⟨6, _⟩ => blk0 W a c 6 t
    | ⟨7, _⟩ => pAt W a c t
    | ⟨8, _⟩ => cAt W a c 8
    | ⟨9, _⟩ => lAt W a c 8
    | ⟨10, _⟩ => emb0 W c hT
  Φ k := iprop(scratch0 W a c k.val ∗ fixed0 W c)
  q _ := fullShare
  owed _ := 0

theorem A0_eq (w : Fin (cfg0 a).W) : (dat0 W a c hT).A w = W c (arrRef spec0 w) := by dsimp only [dat0]

/-! ## The schedule -/

theorem coords0 (t : Fin grid0.N) : (cfg0 (F := F) a).grid.coords t = grid0.coords t := rfl

theorem flush0_7 (t : Fin grid0.N) : ((cfg0 (F := F) a).win 7).flush t = true :=
  (Window.flush_reads ((cfg0 (F := F) a).win 7) rfl 0 (show 1 < grid0.bound 0 by decide) (show grid0.fixedAfter reads0_7 0 = true by decide)
    (Window.sep_of_coord cc0_transform_8 0 0 (fun _ => rfl) (by decide)) (P := 1) (m := 0) (show grid0.stride 0 = 1 by decide) rfl t).mpr (Nat.mod_one _)

theorem flush0_8 (t : Fin grid0.N) : ((cfg0 (F := F) a).win 8).flush t = true ↔ t.val % 8 = 7 :=
  Window.flush_const ((cfg0 (F := F) a).win 8) rfl (fun _ _ => rfl) (n := 8) (show grid0.N = 8 by decide) rfl t

theorem flush0_9 (t : Fin grid0.N) : ((cfg0 (F := F) a).win 9).flush t = true ↔ t.val % 8 = 7 :=
  Window.flush_const ((cfg0 (F := F) a).win 9) rfl (fun _ _ => rfl) (n := 8) (show grid0.N = 8 by decide) rfl t

theorem flush0_10 (t : Fin grid0.N) : ((cfg0 (F := F) a).win 10).flush t = true ↔ t.val % 8 = 7 :=
  Window.flush_const ((cfg0 (F := F) a).win 10) rfl (fun _ _ => rfl) (n := 8) (show grid0.N = 8 by decide) rfl t

/-! ## What the body finds -/

theorem before0_in0 (t : Fin grid0.N) (d) : (dat0 W a c hT).before (0 : Fin 11) t d = blk0 W a c 0 t :=
  Dat.before_in_eq_fetched _ 0 rfl (fun _ => rfl) (fun _ _ _ => rfl) (fun _ => rfl) t d
theorem before0_in1 (t : Fin grid0.N) (d) : (dat0 W a c hT).before (1 : Fin 11) t d = blk0 W a c 1 t :=
  Dat.before_in_eq_fetched _ 1 rfl (fun _ => rfl) (fun _ _ _ => rfl) (fun _ => rfl) t d
theorem before0_in2 (t : Fin grid0.N) (d) : (dat0 W a c hT).before (2 : Fin 11) t d = blk0 W a c 2 t :=
  Dat.before_in_eq_fetched _ 2 rfl (fun _ => rfl) (fun _ _ _ => rfl) (fun _ => rfl) t d
theorem before0_in3 (t : Fin grid0.N) (d) : (dat0 W a c hT).before (3 : Fin 11) t d = blk0 W a c 3 t :=
  Dat.before_in_eq_fetched _ 3 rfl (fun _ => rfl) (fun _ _ _ => rfl) (fun _ => rfl) t d
theorem before0_in4 (t : Fin grid0.N) (d) : (dat0 W a c hT).before (4 : Fin 11) t d = blk0 W a c 4 t :=
  Dat.before_in_eq_fetched _ 4 rfl (fun _ => rfl) (fun _ _ _ => rfl) (fun _ => rfl) t d
theorem before0_in5 (t : Fin grid0.N) (d) : (dat0 W a c hT).before (5 : Fin 11) t d = blk0 W a c 5 t :=
  Dat.before_in_eq_fetched _ 5 rfl (fun _ => rfl) (fun _ _ _ => rfl) (fun _ => rfl) t d
theorem before0_in6 (t : Fin grid0.N) (d) : (dat0 W a c hT).before (6 : Fin 11) t d = blk0 W a c 6 t :=
  Dat.before_in_eq_fetched _ 6 rfl (fun _ => rfl) (fun _ _ _ => rfl) (fun _ => rfl) t d

theorem idle0_10 (t : Fin grid0.N) : (cfg0 (F := F) a).idle 10 (grid0.coords t) = true ↔ t.val ≠ 0 := by
  revert t; exact (by decide +kernel : ∀ t : Fin grid0.N, (!(k0_cond1 (grid0.coords t) == 1#1)) = true ↔ t.val ≠ 0)

section Left

variable {cfg : Cfg sig Λ₀} {c : Dev nD} (dat : Dat τ (Elt F) Unit ℕ (UU nD τ) ℕ cfg c) (w : Fin cfg.W) (t : Fin cfg.N)
  (d : (cfg.win w).block.Idx → Elt F (cfg.win w).elt)

theorem left_live (hi : cfg.idle w (cfg.grid.coords t) = false) : dat.left w t d = dat.kept w t d := by
  unfold Dat.left; rw [hi]

theorem left_idle (hi : cfg.idle w (cfg.grid.coords t) = true) : dat.left w t d = dat.before w t d := by
  unfold Dat.left; rw [hi]

end Left

/-- After the opening the gathered rows stay where they are. -/
theorem before0_10 (d) : ∀ (n : ℕ) (h : n + 1 < 8), (dat0 W a c hT).before (10 : Fin 11) ⟨n + 1, h⟩ d = emb0 W c hT
  | n, h => by
    have hf : ((cfg0 (F := F) a).win 10).flush ⟨n, show n < 8 by omega⟩ = false := by
      rw [← Bool.not_eq_true, flush0_10]; show ¬ n % 8 = 7; omega
    refine ((dat0 W a c hT).before_of_pos (10 : Fin 11) ⟨n + 1, h⟩ (Nat.succ_ne_zero n) (Window.fetch_out _ rfl _) d).trans
      ((if_neg (by rw [Bool.not_eq_true]; exact hf)).trans ?_)
    cases n with
    | zero =>
      exact left_live (dat0 W a c hT) (10 : Fin 11) ⟨0, show 0 < 8 by omega⟩ d
        (by rw [← Bool.not_eq_true]; exact fun hh => (idle0_10 a ⟨0, by decide⟩).1 hh rfl)
    | succ n =>
      exact (left_idle (dat0 W a c hT) (10 : Fin 11) ⟨n + 1, show n + 1 < 8 by omega⟩ d
        ((idle0_10 a ⟨n + 1, show n + 1 < 8 by omega⟩).2 (Nat.succ_ne_zero n))).trans (before0_10 d n (by omega))

end Cert.KernelIdeal.Hand
-- ==== Proof.Region0.lean ====
/-
  The attention kernel's region: the body meets the pipeline's obligation, and the region as a step of the launch.
-/
module

public import proofs.«01_k».proof.Proof.Data0

@[expose] public section

set_option maxRecDepth 16384

noncomputable section

namespace Cert.KernelIdeal.Hand

open Facts₀ Facts
open Cert.KernelIdeal.Gen

open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (UU nD τ) ℕ

variable (W : Entry F) (a : (pcfg0 (F := F)).Adm) (c : Dev nD) (hT : ∀ c, RowsIn W c)

/-- The launch's variants: none. -/
abbrev 𝒱₀ : Variants := Variants.none

/-- A window's current staging buffer at a point. -/
abbrev st0 (t : Fin grid0.N) (w : Fin 11) := ((cfg0 (F := F) a).win w).stage ((cfg0 (F := F) a).slots t w)

theorem cond1_iff (t : Fin grid0.N) : k0_cond1 (grid0.coords t) = 1#1 ↔ t.val = 0 := by
  revert t; decide +kernel
theorem cond2_iff (t : Fin grid0.N) : k0_cond2 (grid0.coords t) = 1#1 ↔ t.val = 7 := by
  revert t; decide +kernel

theorem idle0_8 (t : Fin grid0.N) : (cfg0 (F := F) a).idle 8 (grid0.coords t) = true ↔ t.val ≠ 7 := by
  revert t; exact (by decide +kernel : ∀ t : Fin grid0.N, (!(k0_cond2 (grid0.coords t) == 1#1)) = true ↔ t.val ≠ 7)
theorem idle0_9 (t : Fin grid0.N) : (cfg0 (F := F) a).idle 9 (grid0.coords t) = true ↔ t.val ≠ 7 := by
  revert t; exact (by decide +kernel : ∀ t : Fin grid0.N, (!(k0_cond2 (grid0.coords t) == 1#1)) = true ↔ t.val ≠ 7)

theorem lt8 (t : Fin grid0.N) : t.val < 8 := t.isLt

section Leave

variable {cfg : Cfg sig Λ₀} (dat : Dat τ (Elt F) Unit ℕ (UU nD τ) ℕ cfg c) (w : Fin cfg.W) (t : Fin cfg.N)
  (X : (cfg.win w).block.Idx → Elt F (cfg.win w).elt)

/-- A window is left as found at a point idle for it. -/
theorem leave_idle (d) (hi : cfg.idle w (cfg.grid.coords t) = true) (hf : (cfg.win w).flush t = false) (h : X = dat.before w t d) :
    (owns (c : Thread nD τ) ((cfg.win w).stage (cfg.slots t w)) fullShare X : sProp 𝕄) ⊢ dat.leavesExact w t := by
  subst h
  rw [Dat.leavesExact_idle _ w t hi hf]
  iintro H; iexists d; iexact H

/-- A window is left at what the body puts there, at a point live for it. -/
theorem leave_live (hi : cfg.idle w (cfg.grid.coords t) = false) (h : X = dat.after w t) :
    (owns (c : Thread nD τ) ((cfg.win w).stage (cfg.slots t w)) fullShare X : sProp 𝕄) ⊢ dat.leavesExact w t := by
  subst h
  unfold Dat.leavesExact
  rw [hi]

/-- A window is left at what is written back, at a point idle for it. -/
theorem leave_flush (hi : cfg.idle w (cfg.grid.coords t) = true) (hf : (cfg.win w).flush t = true) (h : X = dat.after w t) :
    (owns (c : Thread nD τ) ((cfg.win w).stage (cfg.slots t w)) fullShare X : sProp 𝕄) ⊢ dat.leavesExact w t := by
  subst h
  unfold Dat.leavesExact
  rw [hi, hf]

omit dat in
/-- A window's buffer owned at equal contents. -/
theorem stage_eq {X Y : (cfg.win w).block.Idx → Elt F (cfg.win w).elt} (h : X = Y) :
    (owns (c : Thread nD τ) ((cfg.win w).stage (cfg.slots t w)) fullShare X : sProp 𝕄)
      ⊢ owns (c : Thread nD τ) ((cfg.win w).stage (cfg.slots t w)) fullShare Y := by
  rw [h]

end Leave

/-- The weighted sums' window after the body: as found before the last point, the sums at it. -/
theorem leave0_8 (t : Fin grid0.N) (d X) (hp : k0_cond2 (grid0.coords t) = 1#1 → X = cAt W a c 8)
    (hn : ¬ k0_cond2 (grid0.coords t) = 1#1 → X = (dat0 W a c hT).before (8 : Fin 11) t d) :
    (owns (c : Thread nD τ) (st0 a t 8) fullShare X : sProp 𝕄) ⊢ (dat0 W a c hT).leavesExact (8 : Fin 11) t := by
  by_cases h7 : t.val = 7
  · exact leave_live c (dat0 W a c hT) 8 t X (by rw [← Bool.not_eq_true]; exact fun hh => (idle0_8 a t).1 hh h7)
      (hp ((cond2_iff t).2 h7))
  · exact leave_idle c (dat0 W a c hT) 8 t X d ((idle0_8 a t).2 h7)
      (by rw [← Bool.not_eq_true]; exact fun hh => h7 (by have := (flush0_8 a t).1 hh; have := lt8 t; omega))
      (hn (fun hh => h7 ((cond2_iff t).1 hh)))

theorem leave0_9 (t : Fin grid0.N) (d X) (hp : k0_cond2 (grid0.coords t) = 1#1 → X = lAt W a c 8)
    (hn : ¬ k0_cond2 (grid0.coords t) = 1#1 → X = (dat0 W a c hT).before (9 : Fin 11) t d) :
    (owns (c : Thread nD τ) (st0 a t 9) fullShare X : sProp 𝕄) ⊢ (dat0 W a c hT).leavesExact (9 : Fin 11) t := by
  by_cases h7 : t.val = 7
  · exact leave_live c (dat0 W a c hT) 9 t X (by rw [← Bool.not_eq_true]; exact fun hh => (idle0_9 a t).1 hh h7)
      (hp ((cond2_iff t).2 h7))
  · exact leave_idle c (dat0 W a c hT) 9 t X d ((idle0_9 a t).2 h7)
      (by rw [← Bool.not_eq_true]; exact fun hh => h7 (by have := (flush0_9 a t).1 hh; have := lt8 t; omega))
      (hn (fun hh => h7 ((cond2_iff t).1 hh)))

theorem before0_10' (t : Fin grid0.N) (ht : t.val ≠ 0) (d) : (dat0 W a c hT).before (10 : Fin 11) t d = emb0 W c hT := by
  obtain ⟨n, hn⟩ := t
  obtain ⟨m, rfl⟩ := Nat.exists_eq_succ_of_ne_zero ht
  exact before0_10 W a c hT d m hn

theorem leave0_10 (t : Fin grid0.N) (d : ((cfg0 (F := F) a).win 10).block.Idx → Elt F ((cfg0 (F := F) a).win 10).elt) :
    (owns (c : Thread nD τ) (st0 a t 10) fullShare (emb0 W c hT) : sProp 𝕄) ⊢ (dat0 W a c hT).leavesExact (10 : Fin 11) t := by
  by_cases h0 : t.val = 0
  · exact leave_live c (dat0 W a c hT) 10 t _ (by rw [← Bool.not_eq_true]; exact fun hh => (idle0_10 a t).1 hh h0) rfl
  · by_cases h7 : t.val = 7
    · exact leave_flush c (dat0 W a c hT) 10 t _ ((idle0_10 a t).2 h0) ((flush0_10 a t).2 (by omega)) rfl
    · exact leave_idle c (dat0 W a c hT) 10 t _ d ((idle0_10 a t).2 h0)
        (by rw [← Bool.not_eq_true]; exact fun hh => h7 (by have := (flush0_10 a t).1 hh; have := lt8 t; omega))
        (before0_10' W a c hT t h0 d).symm

/-- What the body owes the pipeline at a point. -/
abbrev post0 (t : Fin grid0.N) : sProp 𝕄 :=
  iprop((dat0 W a c hT).Φ t.succ ∗ (dat0 W a c hT).owesAt () t.succ ∗ bigSep Finset.univ fun w => (dat0 W a c hT).leavesExact w t)

/-- The passes at a point, from the running sums before it. -/
theorem tail0_run (t : Fin grid0.N) (Y7) (d8 d9) (d10 : ((cfg0 (F := F) a).win 10).block.Idx → Elt F ((cfg0 (F := F) a).win 10).elt) :
    iprop(owns (c : Thread nD τ) (Memref.whole cc0_scratch0) fullShare (qs0 W a c)
      ∗ owns (c : Thread nD τ) (Memref.whole cc0_scratch1) fullShare (cAt W a c t.val)
      ∗ owns (c : Thread nD τ) (Memref.whole cc0_scratch2) fullShare (lAt W a c t.val)
      ∗ fixed0 W c ∗ (∃ W, owes (c : Thread nD τ) 0 W)
      ∗ owns (c : Thread nD τ) (st0 a t 0) fullShare (blk0 W a c 0 t) ∗ owns (c : Thread nD τ) (st0 a t 1) fullShare (blk0 W a c 1 t)
      ∗ owns (c : Thread nD τ) (st0 a t 2) fullShare (blk0 W a c 2 t) ∗ owns (c : Thread nD τ) (st0 a t 3) fullShare (blk0 W a c 3 t)
      ∗ owns (c : Thread nD τ) (st0 a t 4) fullShare (blk0 W a c 4 t) ∗ owns (c : Thread nD τ) (st0 a t 5) fullShare (blk0 W a c 5 t)
      ∗ owns (c : Thread nD τ) (st0 a t 6) fullShare (blk0 W a c 6 t) ∗ owns (c : Thread nD τ) (st0 a t 7) fullShare Y7
      ∗ owns (c : Thread nD τ) (st0 a t 8) fullShare ((dat0 W a c hT).before (8 : Fin 11) t d8)
      ∗ owns (c : Thread nD τ) (st0 a t 9) fullShare ((dat0 W a c hT).before (9 : Fin 11) t d9)
      ∗ owns (c : Thread nD τ) (st0 a t 10) fullShare (emb0 W c hT))
    ⊢ wp frame (wpE (defs₀ (F := F)) 𝒱₀ (c : Thread nD τ) none) Set.univ
        (tail (grid0.coords t) (st0 a t 3) (st0 a t 4) (st0 a t 5) (st0 a t 6) (st0 a t 7) (st0 a t 8) (st0 a t 9)
          (Memref.whole cc0_scratch0) (Memref.whole cc0_scratch1) (Memref.whole cc0_scratch2)) (fun _ => post0 W a c hT t) := by
  iintro ⟨HS0, HS1, HS2, HF, ⟨%W', HO⟩, H0, H1, H2, H3, H4, H5, H6, H7, H8, H9, H10⟩
  iapply (tail_run 𝒱₀ c none (grid0.coords t) (st0 a t 3) (st0 a t 4) (st0 a t 5) (st0 a t 6) (st0 a t 7) (st0 a t 8) (st0 a t 9)
    (Memref.whole cc0_scratch0) (Memref.whole cc0_scratch1) (Memref.whole cc0_scratch2)
    (blk0 W a c 3 t) (blk0 W a c 4 t) (blk0 W a c 5 t) (blk0 W a c 6 t) (qs0 W a c) Y7 (lAt W a c t.val) ((dat0 W a c hT).before (9 : Fin 11) t d9)
    (cAt W a c t.val) ((dat0 W a c hT).before (8 : Fin 11) t d8) (fun _ => post0 W a c hT t))
  unfold passRead passWritten
  isplitl [H4]; · iexact H4
  isplitl [H3 HS0 H5 H6]
  · isplitl [H3]; · iexact H3
    isplitl [HS0]; · iexact HS0
    isplitl [H5]; · iexact H5
    iexact H6
  isplitl [H7 HS2 HS1]
  · isplitl [H7]; · iexact H7
    isplitl [HS2]; · iexact HS2
    iexact HS1
  isplitl [H8]; · iexact H8
  isplitl [H9]; · iexact H9
  rw [← lAt_succ, ← cAt_succ]
  iintro ⟨H4, ⟨H3, HS0, H5, H6⟩, ⟨H7, HS2, HS1⟩, H8, H9⟩
  isplitl [HS0 HS1 HS2 HF]
  · rw [show (dat0 W a c hT).Φ t.succ = iprop(scratch0 W a c (t.val + 1) ∗ fixed0 W c) from rfl]
    rw [show scratch0 W a c (t.val + 1) = (iprop(owns (c : Thread nD τ) (Memref.whole cc0_scratch0) fullShare (qs0 W a c)
      ∗ owns (c : Thread nD τ) (Memref.whole cc0_scratch1) fullShare (cAt W a c (t.val + 1))
      ∗ owns (c : Thread nD τ) (Memref.whole cc0_scratch2) fullShare (lAt W a c (t.val + 1))) : sProp 𝕄) from rfl]
    isplitl [HS0 HS1 HS2]
    · isplitl [HS0]; · iexact HS0
      isplitl [HS1]; · iexact HS1
      iexact HS2
    iexact HF
  isplitl [HO]
  · unfold Dat.owesAt Pipeline.owesWithin
    iexists W'; isplitr; · ipureintro; exact fun _ _ => Or.inl trivial
    iexact HO
  rw [bigSep_W0]
  have h8 : ∀ h : k0_cond2 (grid0.coords t) = 1#1, t.val + 1 = 8 := fun h => by rw [(cond2_iff t).1 h]
  ihave H8 := (leave0_8 W a c hT t d8 _ (fun h => (if_pos h).trans (by rw [h8 h])) (fun h => if_neg h)) $$ H8
  ihave H9 := (leave0_9 W a c hT t d9 _ (fun h => (if_pos h).trans (by rw [h8 h])) (fun h => if_neg h)) $$ H9
  ihave H10 := (leave0_10 W a c hT t d10) $$ H10
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body as the pipeline calls it at a point. -/
theorem row0 (t : Fin grid0.N) : defs₀ (F := F) .tc (cfg0 a).body ((cfg0 a).bodyArgs t ((cfg0 a).slots t))
    = body (grid0.coords t) (Memref.whole main_v0) (st0 a t 0) (st0 a t 1) (st0 a t 2) (st0 a t 3) (st0 a t 4) (st0 a t 5) (st0 a t 6)
        (Memref.whole main_arg3) (st0 a t 7) (st0 a t 8) (st0 a t 9) (st0 a t 10)
        (Memref.whole cc0_scratch0) (Memref.whole cc0_scratch1) (Memref.whole cc0_scratch2) cc0_scratch3 :=
  body_eq ..

theorem body0 : BodyObligation (dat0 W a c hT) (defs₀ (F := F)) 𝒱₀ () Set.univ := fun t => by
  rw [row0 a t]
  show _ ⊢ wp frame (wpE (defs₀ (F := F)) 𝒱₀ (c : Thread nD τ) none) Set.univ _ (fun _ => post0 W a c hT t)
  rw [bigSep_W0]
  rw [show (dat0 W a c hT).Φ t.castSucc = iprop(scratch0 W a c t.val ∗ fixed0 W c) from rfl]
  unfold Dat.owesAt Pipeline.owesWithin
  rw [show (dat0 W a c hT).owed t.castSucc = 0 from rfl]
  iintro ⟨⟨HS, HF⟩, ⟨%W', %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave H0 := (stage_eq (cfg := cfg0 (F := F) a) c (0 : Fin 11) t (before0_in0 W a c hT t d0)) $$ H0
  ihave H1 := (stage_eq (cfg := cfg0 (F := F) a) c (1 : Fin 11) t (before0_in1 W a c hT t d1)) $$ H1
  ihave H2 := (stage_eq (cfg := cfg0 (F := F) a) c (2 : Fin 11) t (before0_in2 W a c hT t d2)) $$ H2
  ihave H3 := (stage_eq (cfg := cfg0 (F := F) a) c (3 : Fin 11) t (before0_in3 W a c hT t d3)) $$ H3
  ihave H4 := (stage_eq (cfg := cfg0 (F := F) a) c (4 : Fin 11) t (before0_in4 W a c hT t d4)) $$ H4
  ihave H5 := (stage_eq (cfg := cfg0 (F := F) a) c (5 : Fin 11) t (before0_in5 W a c hT t d5)) $$ H5
  ihave H6 := (stage_eq (cfg := cfg0 (F := F) a) c (6 : Fin 11) t (before0_in6 W a c hT t d6)) $$ H6
  by_cases h1 : k0_cond1 (grid0.coords t) = 1#1
  · have ht : t = t0_0 := Fin.ext ((cond1_iff t).1 h1)
    subst ht
    rw [body_first _ _ _ _ _ _ _ _ _ _ _ _ _ _ _ _ _ _ h1]
    unfold fixed0
    icases HF with ⟨HT, HA, HC, HR⟩
    ihave HS := (show scratch0 W a c (t0_0 : Fin grid0.N).val ⊢ (iprop((∃ f, owns (c : Thread nD τ) (Memref.whole cc0_scratch0) fullShare f)
      ∗ (∃ f, owns (c : Thread nD τ) (Memref.whole cc0_scratch1) fullShare f)
      ∗ (∃ f, owns (c : Thread nD τ) (Memref.whole cc0_scratch2) fullShare f)) : sProp 𝕄) from Entails.refl _) $$ HS
    icases HS with ⟨⟨%f0, HS0⟩, ⟨%f1, HS1⟩, ⟨%f2, HS2⟩⟩
    iapply (opening_run 𝒱₀ c none (grid0.coords t0_0) (Memref.whole main_v0) (st0 a t0_0 0) (st0 a t0_0 1) (st0 a t0_0 2)
      (Memref.whole main_arg3) (st0 a t0_0 10) (Memref.whole cc0_scratch0) (Memref.whole cc0_scratch1) (Memref.whole cc0_scratch2) cc0_scratch3
      h1 (W c main_v0) (hT c) (W c main_arg3) (blk0 W a c 0 t0_0) (blk0 W a c 1 t0_0) (blk0 W a c 2 t0_0) fullShare
      ((dat0 W a c hT).before (10 : Fin 11) t0_0 d10) f0 f1 f2 W' _ (fun _ => post0 W a c hT t0_0))
    isplitl [HT]; · iexact HT
    isplitl [H0]; · iexact H0
    isplitl [H1]; · iexact H1
    isplitl [H2]; · iexact H2
    isplitl [HA]; · iexact HA
    isplitl [H10]; · iexact H10
    isplitl [HS0]; · iexact HS0
    isplitl [HS1]; · iexact HS1
    isplitl [HS2]; · iexact HS2
    isplitl [HC]; · iexact HC
    isplitl [HO]; · iexact HO
    iintro ⟨HT, H0, H1, H2, HA, H10, HS0, HS1, HS2, HC, HO⟩
    iapply (tail0_run W a c hT t0_0 _ d8 d9 d10)
    isplitl [HS0]; · iexact HS0
    isplitl [HS1]; · iexact HS1
    isplitl [HS2]; · iexact HS2
    isplitl [HT HA HC HR]
    · unfold fixed0
      isplitl [HT]; · iexact HT
      isplitl [HA]; · iexact HA
      isplitl [HC]; · iexact HC
      iexact HR
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have h0 : t.val ≠ 0 := fun h => h1 ((cond1_iff t).2 h)
    rw [body_later _ _ _ _ _ _ _ _ _ _ _ _ _ _ _ _ _ _ h1]
    ihave H10 := (stage_eq (cfg := cfg0 (F := F) a) c (10 : Fin 11) t (before0_10' W a c hT t h0 d10)) $$ H10
    have hs : scratch0 W a c t.val = (iprop(owns (c : Thread nD τ) (Memref.whole cc0_scratch0) fullShare (qs0 W a c)
        ∗ owns (c : Thread nD τ) (Memref.whole cc0_scratch1) fullShare (cAt W a c t.val)
        ∗ owns (c : Thread nD τ) (Memref.whole cc0_scratch2) fullShare (lAt W a c t.val)) : sProp 𝕄) := by
      obtain ⟨k, hk⟩ := Nat.exists_eq_succ_of_ne_zero h0
      rw [hk]; rfl
    ihave HS := (Entails.of_eq hs) $$ HS
    icases HS with ⟨HS0, HS1, HS2⟩
    iapply (tail0_run W a c hT t _ d8 d9 d10)
    isplitl [HS0]; · iexact HS0
    isplitl [HS1]; · iexact HS1
    isplitl [HS2]; · iexact HS2
    isplitl [HF]; · iexact HF
    isplitl [HO]; · iexists W'; iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Hand
-- ==== Proof.Rows1.lean ====
/-
  The second kernel's body, told in steps: the attention weights' block, the recurrent step, the four column blocks.
-/
module

public import proofs.«01_k».proof.Proof.Own

@[expose] public section

set_option maxRecDepth 16384

noncomputable section

namespace Cert.KernelIdeal.Hand

open Facts₀ Facts

open Idealize.ShloMosaic
open Idealize.ShloMosaic.TcCoe Idealize.ShloMosaic.Tactic
open Idealize.SL Idealize.SL.Sem

variable {F : FTy → Type} [FloatOps F]

/-! ## What is computed -/

/-- A block of attention weights: the exponentiated scores over their row's sum. -/
def aPay (v40 : Vec F S512x32 .f32) (v42 : Vec F S1x32 .f32) : FVec F S512x32 .f32 :=
  divf (shapeCast S512x32 v40 shapeCasts_S512x32_S512x32)
    (broadcastTo S512x32 (shapeCast S1x32 v42 shapeCasts_S1x32_S1x32) broadcasts_S1x32_S512x32)

/-- The recurrent step's input projection: context and embedding through the input weights, plus the input bias. -/
def xPay (v40 : Vec F S32x256 .f32) (v42 : Vec F S32x1 .f32) (v46 : Vec F S256x768 .f32) (v48 : Vec F S32x64 .f32)
    (v50 : Vec F S64x768 .f32) (v53 : Vec F S1x768 .f32) : FVec F S32x768 .f32 :=
  addf (addf
    (matmul dot_S32x256_S256x768_S32x768_1_0_0_1_n_n none
      (divf (shapeCast S32x256 v40 shapeCasts_S32x256_S32x256)
        (broadcastTo S32x256 (shapeCast S32x1 v42 shapeCasts_S32x1_S32x1) broadcasts_S32x1_S32x256))
      v46 (constant S32x768 .f32 0x00000000#32))
    (matmul dot_S32x64_S64x768_S32x768_1_0_0_1_n_n none (shapeCast S32x64 v48 shapeCasts_S32x64_S32x64) v50
      (constant S32x768 .f32 0x00000000#32)))
    (broadcastTo S32x768 v53 broadcasts_S1x768_S32x768)

/-- The recurrent step from a zero state. -/
def hPay (v55 : FVec F S32x768 .f32) (v56 : Vec F S1x768 .f32) : FVec F S32x256 .f32 :=
  mulf
    (subf (broadcast S32x256 (Scalar.ofBits .f32 0x3F800000#32))
      (logistic (addf (extractStridedSlice S32x256 ![0, 0] v55 slices_S32x768_o0_0_S32x256)
        (broadcastTo S32x256 (extractStridedSlice S1x256 ![0, 0] v56 slices_S1x768_o0_0_S1x256) broadcasts_S1x256_S32x256))))
    (tanh (addf (extractStridedSlice S32x256 ![0, 512] v55 slices_S32x768_o0_512_S32x256)
      (mulf
        (logistic (addf (extractStridedSlice S32x256 ![0, 256] v55 slices_S32x768_o0_256_S32x256)
          (broadcastTo S32x256 (extractStridedSlice S1x256 ![0, 256] v56 slices_S1x768_o0_256_S1x256) broadcasts_S1x256_S32x256)))
        (broadcastTo S32x256 (extractStridedSlice S1x256 ![0, 512] v56 slices_S1x768_o0_512_S1x256) broadcasts_S1x256_S32x256))))

/-- The stored state. -/
def hsPay (v75 : FVec F S32x256 .f32) : FVec F S32x256 .f32 := shapeCast S32x256 v75 shapeCasts_S32x256_S32x256

/-- A block of output columns: the state through the block's weights, plus the block's bias. -/
def oPay (v6 : Vec F S32x256 .f32) (v8 : Vec F S256x2048 .f32) (v11 : Vec F S1x2048 .f32) : FVec F S32x2048 .f32 :=
  addf
    (matmul dot_S32x256_S256x2048_S32x2048_1_0_0_1_n_n none (truncf .bf16 v6 bitsLt_bf16_f32) (truncf .bf16 v8 bitsLt_bf16_f32)
      (constant S32x2048 .f32 0x00000000#32))
    (broadcastTo S32x2048 (shapeCast S1x2048 v11 shapeCasts_S1x2048_S1x2048) broadcasts_S1x2048_S32x2048)

/-! ## The steps -/

variable (i : grid1.Coords) (arg1 : Memref sig .tc .vmem S32x256 .f32) (arg2 : Memref sig .tc .vmem S32x1 .f32)
  (arg3 : Memref sig .tc .vmem S1x32 .f32) (arg4 : Memref sig .tc .vmem S32x64 .f32) (arg5 : Memref sig .tc .vmem S320x768 .f32)
  (arg6 : Memref sig .tc .vmem S2x768 .f32) (arg7 : Memref sig .tc .vmem S512x32 .f32) (arg8 arg9 arg10 arg11 : Memref sig .tc .vmem S256x2048 .f32)
  (arg12 : Memref sig .tc .vmem S1x8192 .f32) (arg13 : Memref sig .tc .vmem S32x8192 .f32) (arg14 : Memref sig .tc .vmem S32x256 .f32)
  (arg15 : Memref sig .tc .vmem S512x32 .f32) (arg16 : Memref sig .tc .vmem S32x256 .f32)

/-- The attention weights' block. -/
def weigh : Prog (TpuEff nD τ sig (Elt F) Λ₀ .tc) PUnit := do
  let v40 : Vec F S512x32 .f32 ← Prog.lift (.load arg7 (Rect.unit (s := S512x32) ![0, 0] S512x32.size inb_S512x32_S512x32_0_0).toLoadRect (View.loadsAt_vmem h_S512x32))
  let v42 : Vec F S1x32 .f32 ← Prog.lift (.load arg3 (Rect.unit (s := S1x32) ![0, 0] S1x32.size inb_S1x32_S1x32_0_0).toLoadRect (View.loadsAt_vmem h_S1x32))
  let _v46 : Vec F S512x32 .f32 ← Prog.lift (.load arg15 (Rect.unit (s := S512x32) ![0, 0] S512x32.size inb_S512x32_S512x32_0_0).toLoadRect (View.loadsAt_vmem h_S512x32))
  Prog.lift (.store arg15 (Rect.unit (s := S512x32) ![0, 0] S512x32.size inb_S512x32_S512x32_0_0) (aPay v40 v42) Finset.univ (View.stores_vmem_bits_univ h_S512x32 rfl) (.inl rfl))

/-- The recurrent step. -/
def recur : Prog (TpuEff nD τ sig (Elt F) Λ₀ .tc) PUnit := do
  let v40 : Vec F S32x256 .f32 ← Prog.lift (.load arg1 (Rect.unit (s := S32x256) ![0, 0] S32x256.size inb_S32x256_S32x256_0_0).toLoadRect (View.loadsAt_vmem h_S32x256))
  let v42 : Vec F S32x1 .f32 ← Prog.lift (.load arg2 (Rect.unit (s := S32x1) ![0, 0] S32x1.size inb_S32x1_S32x1_0_0).toLoadRect (View.loadsAt_vmem h_S32x1))
  let v46 : Vec F S256x768 .f32 ← Prog.lift (.load arg5 (Rect.unit (s := S320x768) ![0, 0] S256x768.size inb_S320x768_S256x768_0_0).toLoadRect (View.loadsAt_vmem h_S256x768))
  let v48 : Vec F S32x64 .f32 ← Prog.lift (.load arg4 (Rect.unit (s := S32x64) ![0, 0] S32x64.size inb_S32x64_S32x64_0_0).toLoadRect (View.loadsAt_vmem h_S32x64))
  let v50 : Vec F S64x768 .f32 ← Prog.lift (.load arg5 (Rect.unit (s := S320x768) ![256, 0] S64x768.size inb_S320x768_S64x768_256_0).toLoadRect (View.loadsAt_vmem h_S64x768))
  let v53 : Vec F S1x768 .f32 ← Prog.lift (.load arg6 (Rect.unit (s := S2x768) ![0, 0] S1x768.size inb_S2x768_S1x768_0_0).toLoadRect (View.loadsAt_vmem h_S1x768))
  let v56 : Vec F S1x768 .f32 ← Prog.lift (.load arg6 (Rect.unit (s := S2x768) ![1, 0] S1x768.size inb_S2x768_S1x768_1_0).toLoadRect (View.loadsAt_vmem h_S1x768))
  let _v76 : Vec F S32x256 .f32 ← Prog.lift (.load arg16 (Rect.unit (s := S32x256) ![0, 0] S32x256.size inb_S32x256_S32x256_0_0).toLoadRect (View.loadsAt_vmem h_S32x256))
  Prog.lift (.store arg16 (Rect.unit (s := S32x256) ![0, 0] S32x256.size inb_S32x256_S32x256_0_0) (hsPay (hPay (xPay v40 v42 v46 v48 v50 v53) v56)) Finset.univ (View.stores_vmem_bits_univ h_S32x256 rfl) (.inl rfl))
  let _v79 : Vec F S32x256 .f32 ← Prog.lift (.load arg14 (Rect.unit (s := S32x256) ![0, 0] S32x256.size inb_S32x256_S32x256_0_0).toLoadRect (View.loadsAt_vmem h_S32x256))
  Prog.lift (.store arg14 (Rect.unit (s := S32x256) ![0, 0] S32x256.size inb_S32x256_S32x256_0_0) (hPay (xPay v40 v42 v46 v48 v50 v53) v56) Finset.univ (View.stores_vmem_bits_univ h_S32x256 rfl) (.inl rfl))

theorem inb_block {g : ℕ} (h : g < 4) {n : ℕ} : ∀ a, (![0, g * 2048] : Fin 2 → ℕ) a + (⟨2, ![n, 2048]⟩ : Shape).size a ≤ (⟨2, ![n, 8192]⟩ : Shape).size a := by
  rw [Fin.forall_fin_two]
  exact ⟨by show 0 + n ≤ n; omega, by show g * 2048 + 2048 ≤ 8192; omega⟩

/-- One block of output columns. -/
def column (argW : Memref sig .tc .vmem S256x2048 .f32) (v6 : Vec F S32x256 .f32) (g : ℕ) (h : g < 4) : Prog (TpuEff nD τ sig (Elt F) Λ₀ .tc) PUnit := do
  let v8 : Vec F S256x2048 .f32 ← Prog.lift (.load argW (Rect.unit (s := S256x2048) ![0, 0] S256x2048.size inb_S256x2048_S256x2048_0_0).toLoadRect (View.loadsAt_vmem h_S256x2048))
  let v11 : Vec F S1x2048 .f32 ← Prog.lift (.load arg12 (Rect.unit (s := S1x8192) ![0, g * 2048] S1x2048.size (inb_block h)).toLoadRect (View.loadsAt_vmem h_S1x2048))
  let _v15 : Vec F S32x2048 .f32 ← Prog.lift (.load arg13 (Rect.unit (s := S32x8192) ![0, g * 2048] S32x2048.size (inb_block h)).toLoadRect (View.loadsAt_vmem h_S32x2048))
  Prog.lift (.store arg13 (Rect.unit (s := S32x8192) ![0, g * 2048] S32x2048.size (inb_block h)) (oPay v6 v8 v11) Finset.univ (View.stores_vmem_bits_univ h_S32x2048 rfl) (.inl rfl))

/-- The four blocks of output columns. -/
def columns : Prog (TpuEff nD τ sig (Elt F) Λ₀ .tc) PUnit := do
  let v6 : Vec F S32x256 .f32 ← Prog.lift (.load arg16 (Rect.unit (s := S32x256) ![0, 0] S32x256.size inb_S32x256_S32x256_0_0).toLoadRect (View.loadsAt_vmem h_S32x256))
  column arg12 arg13 arg8 v6 0 (by omega)
  column arg12 arg13 arg9 v6 1 (by omega)
  column arg12 arg13 arg10 v6 2 (by omega)
  column arg12 arg13 arg11 v6 3 (by omega)

/-- The body. -/
def body1 : Prog (TpuEff nD τ sig (Elt F) Λ₀ .tc) PUnit := do
  if k1_cond1 i = 1#1 then weigh arg3 arg7 arg15 else pure ⟨⟩
  if k1_cond2 i = 1#1 then recur arg1 arg2 arg4 arg5 arg6 arg14 arg16 else pure ⟨⟩
  columns arg8 arg9 arg10 arg11 arg12 arg13 arg16

theorem body1_eq (harg1 harg2 harg3 harg4 harg5 harg6 harg7 harg8 harg9 harg10 harg11 harg12 harg13 harg14 harg15 harg16) :
    cc1__gru_fc_kernel (F := F) i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16
      = body1 i arg1 arg2 arg3 arg4 arg5 arg6 arg7 arg8 arg9 arg10 arg11 arg12 arg13 arg14 arg15 arg16 := by
  unfold cc1__gru_fc_kernel k1_part2 k1_part1 body1
  by_cases h1 : k1_cond1 i = 1#1 <;> by_cases h2 : k1_cond2 i = 1#1
  · simp only [dif_pos h1, dif_pos h2, if_pos h1, if_pos h2]; rfl
  · simp only [dif_pos h1, dif_neg h2, if_pos h1, if_neg h2]; rfl
  · simp only [dif_neg h1, dif_pos h2, if_neg h1, if_pos h2]; rfl
  · simp only [dif_neg h1, dif_neg h2, if_neg h1, if_neg h2]; rfl

end Cert.KernelIdeal.Hand
-- ==== Proof.Body1.lean ====
/-
  The second kernel's body run at a point: what each buffer holds after it.
-/
module

public import proofs.«01_k».proof.Proof.Rows1
public import Idealize.ShloMosaic.Lib.ValueIdx
public import Idealize.ShloMosaic.Lib.Pipeline.ValueKit.Geometry

@[expose] public section

set_option maxRecDepth 16384

noncomputable section

namespace Cert.KernelIdeal.Hand

open Facts₀ Facts

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## What each buffer holds after the body -/

/-- The state from the windows' blocks. -/
def state1 (X1 : S32x256.Idx → F .f32) (X2 : S32x1.Idx → F .f32) (X4 : S32x64.Idx → F .f32) (X5 : S320x768.Idx → F .f32)
    (X6 : S2x768.Idx → F .f32) : S32x256.Idx → F .f32 :=
  hPay (xPay X1 X2 (View.ld (Val := Elt F) (e' := .f32) X5 (Rect.unit (s := S320x768) ![0, 0] S256x768.size inb_S320x768_S256x768_0_0)) X4
      (View.ld (Val := Elt F) (e' := .f32) X5 (Rect.unit (s := S320x768) ![256, 0] S64x768.size inb_S320x768_S64x768_256_0))
      (View.ld (Val := Elt F) (e' := .f32) X6 (Rect.unit (s := S2x768) ![0, 0] S1x768.size inb_S2x768_S1x768_0_0)))
    (View.ld (Val := Elt F) (e' := .f32) X6 (Rect.unit (s := S2x768) ![1, 0] S1x768.size inb_S2x768_S1x768_1_0))

/-- Block `g` of a buffer of output columns. -/
abbrev rOut (g : ℕ) (h : g < 4) : Rect S32x8192 := Rect.unit (s := S32x8192) ![0, g * 2048] S32x2048.size (inb_block h)
/-- Block `g` of a buffer of biases. -/
abbrev rBias (g : ℕ) (h : g < 4) : Rect S1x8192 := Rect.unit (s := S1x8192) ![0, g * 2048] S1x2048.size (inb_block h)

/-- Column block `g` of the output. -/
def oBlock (hn : S32x256.Idx → F .f32) (W : S256x2048.Idx → F .f32) (B : S1x8192.Idx → F .f32) (g : ℕ) (h : g < 4) : S32x2048.Idx → F .f32 :=
  oPay hn W (View.ld (Val := Elt F) (e' := .f32) B (rBias g h))

/-- The weights of column block `g`. -/
def pick {X : Type} (W0 W1 W2 W3 : X) : ℕ → X
  | 0 => W0 | 1 => W1 | 2 => W2 | _ => W3

/-- The four column blocks side by side. -/
def oTile (hn : S32x256.Idx → F .f32) (W0 W1 W2 W3 : S256x2048.Idx → F .f32) (B : S1x8192.Idx → F .f32) : S32x8192.Idx → F .f32 := fun j =>
  oBlock hn (pick W0 W1 W2 W3 ((j 1).val / 2048)) B ((j 1).val / 2048)
    (Nat.div_lt_of_lt_mul (show (j 1).val < 2048 * 4 from (j 1).isLt))
    (ValueIdx.ix2 (j 0) ⟨(j 1).val % 2048, Nat.mod_lt _ (by omega)⟩)

/-- The first `g` column blocks written over what was there. -/
def upto (g : ℕ) (new old : S32x8192.Idx → F .f32) : S32x8192.Idx → F .f32 := fun j => if (j 1).val / 2048 < g then new j else old j

theorem mem_rOut {g : ℕ} (h : g < 4) (j : S32x8192.Idx) : j ∈ (rOut g h).set ↔ (j 1).val / 2048 = g := by
  rw [Rect.mem_set_unit, Fin.forall_fin_two]
  have h0 : (j 0).val < 32 := (j 0).isLt
  have h1 : (j 1).val < 8192 := (j 1).isLt
  constructor
  · rintro ⟨-, h2⟩
    have h2 : g * 2048 ≤ (j 1).val ∧ (j 1).val < g * 2048 + 2048 := h2
    omega
  · intro h2
    exact ⟨⟨Nat.zero_le _, by show (j 0).val < 0 + 32; omega⟩, by show g * 2048 ≤ (j 1).val; omega, by show (j 1).val < g * 2048 + 2048; omega⟩

theorem overlay_upto {g : ℕ} (h : g < 4) (new old : S32x8192.Idx → F .f32) (w : S32x2048.Idx → F .f32)
    (hw : ∀ x : S32x2048.Idx, w x = new ((rOut g h).emb x)) : (rOut g h).overlay (upto g new old) w = upto (g + 1) new old := by
  funext j
  by_cases hj : j ∈ (rOut g h).set
  · have h' := (mem_rOut h j).1 hj
    obtain ⟨x, rfl⟩ := (rOut g h).exists_idx_of_mem hj
    show (rOut g h).overlay _ w ((rOut g h).emb x) = _
    rw [Rect.overlay_emb]; exact (hw x).trans (if_pos (by rw [h']; omega)).symm
  · have h' : (j 1).val / 2048 ≠ g := fun h' => hj ((mem_rOut h j).2 h')
    rw [Rect.overlay_of_not_mem _ _ _ hj]; unfold upto
    by_cases h'' : (j 1).val / 2048 < g
    · rw [if_pos h'', if_pos (by omega)]
    · rw [if_neg h'', if_neg (by omega)]

theorem upto_zero (new old : S32x8192.Idx → F .f32) : upto 0 new old = old := funext fun _ => if_neg (Nat.not_lt_zero _)
theorem upto_four (new old : S32x8192.Idx → F .f32) : upto 4 new old = new :=
  funext fun j => if_pos (Nat.div_lt_of_lt_mul (show (j 1).val < 2048 * 4 from (j 1).isLt))

theorem oTile_emb (hn : S32x256.Idx → F .f32) (W0 W1 W2 W3 : S256x2048.Idx → F .f32) (B : S1x8192.Idx → F .f32) {g : ℕ} (h : g < 4)
    (x : S32x2048.Idx) : oBlock hn (pick W0 W1 W2 W3 g) B g h x = oTile hn W0 W1 W2 W3 B ((rOut g h).emb x) := by
  have hx : (x 1).val < 2048 := (x 1).isLt
  have e1 : ((rOut g h).emb x 1).val = g * 2048 + (x 1).val := ValueKit.rect_emb_unit_val _ _ _ _ _
  have e0 : ((rOut g h).emb x 0).val = (x 0).val := (ValueKit.rect_emb_unit_val _ _ _ _ _).trans (Nat.zero_add _)
  have eg : ((rOut g h).emb x 1).val / 2048 = g := by rw [e1]; omega
  unfold oTile
  have ex : (ValueIdx.ix2 ((rOut g h).emb x 0) ⟨((rOut g h).emb x 1).val % 2048, Nat.mod_lt _ (by omega)⟩ : S32x2048.Idx) = x := by
    funext a
    refine Fin.ext ?_
    match a with
    | ⟨0, _⟩ => exact e0
    | ⟨1, _⟩ => show ((rOut g h).emb x 1).val % 2048 = (x 1).val; rw [e1]; omega
  rw [ex]
  congr 1 <;> first | exact eg.symm | (simp only [eg])

/-! ## The runs -/

variable (𝒱 : Variants) (c : Dev nD) (bd : Option 𝒱.V) (Es : Set ℕ)
variable (i : grid1.Coords) (arg1 : Memref sig .tc .vmem S32x256 .f32) (arg2 : Memref sig .tc .vmem S32x1 .f32)
  (arg3 : Memref sig .tc .vmem S1x32 .f32) (arg4 : Memref sig .tc .vmem S32x64 .f32) (arg5 : Memref sig .tc .vmem S320x768 .f32)
  (arg6 : Memref sig .tc .vmem S2x768 .f32) (arg7 : Memref sig .tc .vmem S512x32 .f32) (arg8 arg9 arg10 arg11 : Memref sig .tc .vmem S256x2048 .f32)
  (arg12 : Memref sig .tc .vmem S1x8192 .f32) (arg13 : Memref sig .tc .vmem S32x8192 .f32) (arg14 : Memref sig .tc .vmem S32x256 .f32)
  (arg15 : Memref sig .tc .vmem S512x32 .f32) (arg16 : Memref sig .tc .vmem S32x256 .f32)
variable (X1 : S32x256.Idx → F .f32) (X2 : S32x1.Idx → F .f32) (X3 : S1x32.Idx → F .f32) (X4 : S32x64.Idx → F .f32)
  (X5 : S320x768.Idx → F .f32) (X6 : S2x768.Idx → F .f32) (X7 : S512x32.Idx → F .f32) (W0 W1 W2 W3 : S256x2048.Idx → F .f32)
  (B : S1x8192.Idx → F .f32) (Y13 : S32x8192.Idx → F .f32) (Y14 Y16 : S32x256.Idx → F .f32) (Y15 : S512x32.Idx → F .f32)

theorem weigh_run (k : PUnit → Prog (TpuEff nD τ sig (Elt F) Λ₀ .tc) PUnit) (Q : PUnit → sProp 𝕄) :
    iprop(owns (c : Thread nD τ) arg3 fullShare X3 ∗ owns (c : Thread nD τ) arg7 fullShare X7 ∗ owns (c : Thread nD τ) arg15 fullShare Y15
      ∗ (iprop(owns (c : Thread nD τ) arg3 fullShare X3 ∗ owns (c : Thread nD τ) arg7 fullShare X7 ∗ owns (c : Thread nD τ) arg15 fullShare (aPay X7 X3))
          -∗ wp frame (wpE (defs₀ (F := F)) 𝒱 (c : Thread nD τ) bd) Es (k ⟨⟩) Q))
    ⊢ wp frame (wpE (defs₀ (F := F)) 𝒱 (c : Thread nD τ) bd) Es (weigh arg3 arg7 arg15 >>= k) Q := by
  iintro ⟨H3, H7, H15, Hk⟩
  unfold weigh
  iapply (own_load_full 𝒱 (c : Thread nD τ) bd Es) $$ H7; iintro H7
  iapply (own_load_full 𝒱 (c : Thread nD τ) bd Es) $$ H3; iintro H3
  iapply (own_load_full 𝒱 (c : Thread nD τ) bd Es) $$ H15; iintro H15
  iapply (own_store_full 𝒱 (c : Thread nD τ) bd Es) $$ H15; iintro H15
  iapply Hk
  isplitl [H3]; · iexact H3
  isplitl [H7]; · iexact H7
  iexact H15

/-- What the recurrent step reads. -/
def recurRead : sProp 𝕄 :=
  iprop(owns (c : Thread nD τ) arg1 fullShare X1 ∗ owns (c : Thread nD τ) arg2 fullShare X2 ∗ owns (c : Thread nD τ) arg4 fullShare X4
    ∗ owns (c : Thread nD τ) arg5 fullShare X5 ∗ owns (c : Thread nD τ) arg6 fullShare X6)

theorem recur_run (k : PUnit → Prog (TpuEff nD τ sig (Elt F) Λ₀ .tc) PUnit) (Q : PUnit → sProp 𝕄) :
    iprop(recurRead c arg1 arg2 arg4 arg5 arg6 X1 X2 X4 X5 X6 ∗ owns (c : Thread nD τ) arg14 fullShare Y14 ∗ owns (c : Thread nD τ) arg16 fullShare Y16
      ∗ (iprop(recurRead c arg1 arg2 arg4 arg5 arg6 X1 X2 X4 X5 X6 ∗ owns (c : Thread nD τ) arg14 fullShare (state1 X1 X2 X4 X5 X6)
            ∗ owns (c : Thread nD τ) arg16 fullShare (hsPay (state1 X1 X2 X4 X5 X6)))
          -∗ wp frame (wpE (defs₀ (F := F)) 𝒱 (c : Thread nD τ) bd) Es (k ⟨⟩) Q))
    ⊢ wp frame (wpE (defs₀ (F := F)) 𝒱 (c : Thread nD τ) bd) Es (recur arg1 arg2 arg4 arg5 arg6 arg14 arg16 >>= k) Q := by
  unfold recurRead
  iintro ⟨⟨H1, H2, H4, H5, H6⟩, H14, H16, Hk⟩
  unfold recur
  iapply (own_load_full 𝒱 (c : Thread nD τ) bd Es) $$ H1; iintro H1
  iapply (own_load_full 𝒱 (c : Thread nD τ) bd Es) $$ H2; iintro H2
  iapply (own_load 𝒱 (c : Thread nD τ) bd Es) $$ H5; iintro H5
  iapply (own_load_full 𝒱 (c : Thread nD τ) bd Es) $$ H4; iintro H4
  iapply (own_load 𝒱 (c : Thread nD τ) bd Es) $$ H5; iintro H5
  iapply (own_load 𝒱 (c : Thread nD τ) bd Es) $$ H6; iintro H6
  iapply (own_load 𝒱 (c : Thread nD τ) bd Es) $$ H6; iintro H6
  iapply (own_load_full 𝒱 (c : Thread nD τ) bd Es) $$ H16; iintro H16
  iapply (own_store_full 𝒱 (c : Thread nD τ) bd Es) $$ H16; iintro H16
  iapply (own_load_full 𝒱 (c : Thread nD τ) bd Es) $$ H14; iintro H14
  iapply (own_store_full 𝒱 (c : Thread nD τ) bd Es) $$ H14; iintro H14
  iapply Hk
  isplitl [H1 H2 H4 H5 H6]
  · isplitl [H1]; · iexact H1
    isplitl [H2]; · iexact H2
    isplitl [H4]; · iexact H4
    isplitl [H5]; · iexact H5
    iexact H6
  unfold state1
  isplitl [H14]; · iexact H14
  iexact H16

theorem column_run (hn : S32x256.Idx → F .f32) {g : ℕ} (h : g < 4) (argW : Memref sig .tc .vmem S256x2048 .f32) (Wg : S256x2048.Idx → F .f32)
    (hW : Wg = pick W0 W1 W2 W3 g) (k : PUnit → Prog (TpuEff nD τ sig (Elt F) Λ₀ .tc) PUnit) (Q : PUnit → sProp 𝕄) :
    iprop(owns (c : Thread nD τ) argW fullShare Wg ∗ owns (c : Thread nD τ) arg12 fullShare B
      ∗ owns (c : Thread nD τ) arg13 fullShare (upto g (oTile hn W0 W1 W2 W3 B) Y13)
      ∗ (iprop(owns (c : Thread nD τ) argW fullShare Wg ∗ owns (c : Thread nD τ) arg12 fullShare B
            ∗ owns (c : Thread nD τ) arg13 fullShare (upto (g + 1) (oTile hn W0 W1 W2 W3 B) Y13))
          -∗ wp frame (wpE (defs₀ (F := F)) 𝒱 (c : Thread nD τ) bd) Es (k ⟨⟩) Q))
    ⊢ wp frame (wpE (defs₀ (F := F)) 𝒱 (c : Thread nD τ) bd) Es (column arg12 arg13 argW hn g h >>= k) Q := by
  subst hW
  iintro ⟨HW, H12, H13, Hk⟩
  unfold column
  iapply (own_load_full 𝒱 (c : Thread nD τ) bd Es) $$ HW; iintro HW
  iapply (own_load 𝒱 (c : Thread nD τ) bd Es) $$ H12; iintro H12
  iapply (own_load 𝒱 (c : Thread nD τ) bd Es) $$ H13; iintro H13
  iapply (own_store 𝒱 (c : Thread nD τ) bd Es) $$ H13; iintro H13
  have e := overlay_upto h (oTile hn W0 W1 W2 W3 B) Y13 _ (oTile_emb hn W0 W1 W2 W3 B h)
  unfold oBlock at e
  rw [e]
  iapply Hk
  isplitl [HW]; · iexact HW
  isplitl [H12]; · iexact H12
  iexact H13

/-- What the output columns are computed from. -/
def columnsRead : sProp 𝕄 :=
  iprop(owns (c : Thread nD τ) arg8 fullShare W0 ∗ owns (c : Thread nD τ) arg9 fullShare W1 ∗ owns (c : Thread nD τ) arg10 fullShare W2
    ∗ owns (c : Thread nD τ) arg11 fullShare W3 ∗ owns (c : Thread nD τ) arg12 fullShare B)

theorem columns_run (hn : S32x256.Idx → F .f32) (Q : PUnit → sProp 𝕄) :
    iprop(owns (c : Thread nD τ) arg16 fullShare hn ∗ columnsRead c arg8 arg9 arg10 arg11 arg12 W0 W1 W2 W3 B
      ∗ owns (c : Thread nD τ) arg13 fullShare Y13
      ∗ (iprop(owns (c : Thread nD τ) arg16 fullShare hn ∗ columnsRead c arg8 arg9 arg10 arg11 arg12 W0 W1 W2 W3 B
            ∗ owns (c : Thread nD τ) arg13 fullShare (oTile hn W0 W1 W2 W3 B)) -∗ Q ⟨⟩))
    ⊢ wp frame (wpE (defs₀ (F := F)) 𝒱 (c : Thread nD τ) bd) Es (columns arg8 arg9 arg10 arg11 arg12 arg13 arg16) Q := by
  unfold columnsRead
  iintro ⟨H16, ⟨H8, H9, H10, H11, H12⟩, H13, Hk⟩
  rw [← bind_pure (columns arg8 arg9 arg10 arg11 arg12 arg13 arg16)]
  unfold columns
  iapply (own_load_full 𝒱 (c : Thread nD τ) bd Es) $$ H16; iintro H16
  ihave H13 := (Entails.of_eq (congrArg (fun X => (owns (c : Thread nD τ) arg13 fullShare X : sProp 𝕄)) (upto_zero (oTile hn W0 W1 W2 W3 B) Y13).symm)) $$ H13
  iapply (column_run 𝒱 c bd Es arg12 arg13 W0 W1 W2 W3 B Y13 hn (g := 0) (by omega) arg8 W0 rfl _ Q)
  isplitl [H8]; · iexact H8
  isplitl [H12]; · iexact H12
  isplitl [H13]; · iexact H13
  iintro ⟨H8, H12, H13⟩
  iapply (column_run 𝒱 c bd Es arg12 arg13 W0 W1 W2 W3 B Y13 hn (g := 1) (by omega) arg9 W1 rfl _ Q)
  isplitl [H9]; · iexact H9
  isplitl [H12]; · iexact H12
  isplitl [H13]; · iexact H13
  iintro ⟨H9, H12, H13⟩
  iapply (column_run 𝒱 c bd Es arg12 arg13 W0 W1 W2 W3 B Y13 hn (g := 2) (by omega) arg10 W2 rfl _ Q)
  isplitl [H10]; · iexact H10
  isplitl [H12]; · iexact H12
  isplitl [H13]; · iexact H13
  iintro ⟨H10, H12, H13⟩
  iapply (column_run 𝒱 c bd Es arg12 arg13 W0 W1 W2 W3 B Y13 hn (g := 3) (by omega) arg11 W3 rfl _ Q)
  isplitl [H11]; · iexact H11
  isplitl [H12]; · iexact H12
  isplitl [H13]; · iexact H13
  iintro ⟨H11, H12, H13⟩
  rw [upto_four]
  sl_step
  iapply Hk
  isplitl [H16]; · iexact H16
  isplitl [H8 H9 H10 H11 H12]
  · isplitl [H8]; · iexact H8
    isplitl [H9]; · iexact H9
    isplitl [H10]; · iexact H10
    isplitl [H11]; · iexact H11
    iexact H12
  iexact H13

end Cert.KernelIdeal.Hand
-- ==== Proof.Data1.lean ====
/-
  The second kernel's grid: what every window's buffer holds before and after the body at every point.
-/
module

public import proofs.«01_k».proof.Proof.Body1
public import proofs.«01_k».proof.Proof.Region0
public import proofs.«01_k».proof.Proof.Gen.KernelIdeal.Points
public import Idealize.ShloMosaic.Lib.Pipeline.DatRel

@[expose] public section

set_option maxRecDepth 16384

noncomputable section

namespace Cert.KernelIdeal.Hand

open Facts₀ Facts
open Cert.KernelIdeal.Gen

open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (UU nD τ) ℕ

variable (W : Entry F) (c : Dev nD)

/-- What a fetch of an input window moves at a point. -/
def part1 (w : Fin 15) (t : Fin grid1.N) : ((cfg1.win w).xblock (grid1.coords t)).Idx → Elt F (cfg1.win w).elt :=
  ((cfg1.win w).blk t).view.read (Elt F) (W c (arrRef spec1 w))

/-- The block it stages, a default where it moves nothing. -/
def blk1 (w : Fin 15) (t : Fin grid1.N) : (cfg1.win w).block.Idx → Elt F (cfg1.win w).elt :=
  (cfg1.win w).fill (grid1.coords t) (fun _ => default) (part1 W c w t)

/-- The state. -/
def hn1 : S32x256.Idx → F .f32 :=
  state1 (blk1 W c 0 t1_0) (blk1 W c 1 t1_0) (blk1 W c 3 t1_0) (blk1 W c 4 t1_0) (blk1 W c 5 t1_0)

/-- The last point whose block of attention weights is computed at or before `t`. -/
def last1 (t : Fin grid1.N) : Fin grid1.N := ⟨min t.val 3, lt_of_le_of_lt (Nat.min_le_left _ _) t.isLt⟩

/-- The block of attention weights standing at point `t`. -/
def att1 (t : Fin grid1.N) : S512x32.Idx → F .f32 := aPay (blk1 W c 6 (last1 t)) (blk1 W c 2 (last1 t))

/-- The block of output columns of point `t`. -/
def out1 (t : Fin grid1.N) : S32x8192.Idx → F .f32 :=
  oTile (hsPay (hn1 W c)) (blk1 W c 7 t) (blk1 W c 8 t) (blk1 W c 9 t) (blk1 W c 10 t) (blk1 W c 11 t)

/-- The kernel's own buffer before point `k`. -/
def scratch1 (k : ℕ) : sProp 𝕄 := match k with
  | 0 => iprop(∃ f, owns (c : Thread nD τ) (Memref.whole cc1_scratch0) fullShare f)
  | _ + 1 => owns (c : Thread nD τ) (Memref.whole cc1_scratch0) fullShare (hsPay (hn1 W c))

/-- Every other buffer of the launch, at something. -/
def fixed1 : sProp 𝕄 :=
  Pipeline.scopedRestBut (Ix := Unit) (Name := ℕ) (U := UU nD τ) (Lvl := ℕ) (Val := Elt F) spec1 c [cc1_scratch0]

/-- The region's proof data. -/
def dat1 : Dat τ (Elt F) Unit ℕ (UU nD τ) ℕ cfg1 c where
  A w := W c (arrRef spec1 w)
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => blk1 W c 5 t
    | ⟨6, _⟩ => blk1 W c 6 t
    | ⟨7, _⟩ => blk1 W c 7 t
    | ⟨8, _⟩ => blk1 W c 8 t
    | ⟨9, _⟩ => blk1 W c 9 t
    | ⟨10, _⟩ => blk1 W c 10 t
    | ⟨11, _⟩ => blk1 W c 11 t
    | ⟨12, _⟩ => out1 W c t
    | ⟨13, _⟩ => hn1 W c
    | ⟨14, _⟩ => att1 W c t
  Φ k := iprop(scratch1 W c k.val ∗ fixed1 c)
  q := Pipeline.shareOf spec1
  owed _ := 0

theorem A1_eq (w : Fin cfg1.W) : (dat1 W c).A w = W c (arrRef spec1 w) := by dsimp only [dat1]

/-! ## The schedule -/

theorem idle1_13 (t : Fin grid1.N) : cfg1.idle 13 (grid1.coords t) = true ↔ t.val ≠ 0 := by
  revert t; decide +kernel
theorem idle1_14 (t : Fin grid1.N) : cfg1.idle 14 (grid1.coords t) = true ↔ ¬ t.val < 4 := by
  revert t; decide +kernel
theorem flush1_14 (t : Fin grid1.N) : (cfg1.win 14).flush t = true ↔ t.val < 3 ∨ t.val = 12 := by
  revert t; decide +kernel
theorem cond1_1 (t : Fin grid1.N) : k1_cond1 (grid1.coords t) = 1#1 ↔ t.val < 4 := by
  revert t; decide +kernel
theorem cond1_2 (t : Fin grid1.N) : k1_cond2 (grid1.coords t) = 1#1 ↔ t.val = 0 := by
  revert t; decide +kernel
theorem lt13 (t : Fin grid1.N) : t.val < 13 := t.isLt

/-! ## What the body finds -/

theorem before1_in0 (t : Fin grid1.N) (d) : (dat1 W c).before (0 : Fin 15) t d = blk1 W c 0 t :=
  Dat.before_in_eq_fetched _ 0 rfl (fun _ => rfl) (fun _ _ _ => rfl) (fun _ => rfl) t d
theorem before1_in1 (t : Fin grid1.N) (d) : (dat1 W c).before (1 : Fin 15) t d = blk1 W c 1 t :=
  Dat.before_in_eq_fetched _ 1 rfl (fun _ => rfl) (fun _ _ _ => rfl) (fun _ => rfl) t d
theorem before1_in2 (t : Fin grid1.N) (d) : (dat1 W c).before (2 : Fin 15) t d = blk1 W c 2 t :=
  Dat.before_in_eq_fetched _ 2 rfl (fun _ => rfl) (fun _ _ _ => rfl) (fun _ => rfl) t d
theorem before1_in3 (t : Fin grid1.N) (d) : (dat1 W c).before (3 : Fin 15) t d = blk1 W c 3 t :=
  Dat.before_in_eq_fetched _ 3 rfl (fun _ => rfl) (fun _ _ _ => rfl) (fun _ => rfl) t d
theorem before1_in4 (t : Fin grid1.N) (d) : (dat1 W c).before (4 : Fin 15) t d = blk1 W c 4 t :=
  Dat.before_in_eq_fetched _ 4 rfl (fun _ => rfl) (fun _ _ _ => rfl) (fun _ => rfl) t d
theorem before1_in5 (t : Fin grid1.N) (d) : (dat1 W c).before (5 : Fin 15) t d = blk1 W c 5 t :=
  Dat.before_in_eq_fetched _ 5 rfl (fun _ => rfl) (fun _ _ _ => rfl) (fun _ => rfl) t d
theorem before1_in6 (t : Fin grid1.N) (d) : (dat1 W c).before (6 : Fin 15) t d = blk1 W c 6 t :=
  Dat.before_in_eq_fetched _ 6 rfl (fun _ => rfl) (fun _ _ _ => rfl) (fun _ => rfl) t d
theorem before1_in7 (t : Fin grid1.N) (d) : (dat1 W c).before (7 : Fin 15) t d = (cfg1.win 7).fill (grid1.coords t) d (part1 W c 7 t) :=
  (dat1 W c).before_fetched 7 t (fetch1_7 t) d
theorem before1_in8 (t : Fin grid1.N) (d) : (dat1 W c).before (8 : Fin 15) t d = (cfg1.win 8).fill (grid1.coords t) d (part1 W c 8 t) :=
  (dat1 W c).before_fetched 8 t (fetch1_8 t) d
theorem before1_in9 (t : Fin grid1.N) (d) : (dat1 W c).before (9 : Fin 15) t d = (cfg1.win 9).fill (grid1.coords t) d (part1 W c 9 t) :=
  (dat1 W c).before_fetched 9 t (fetch1_9 t) d
theorem before1_in10 (t : Fin grid1.N) (d) : (dat1 W c).before (10 : Fin 15) t d = (cfg1.win 10).fill (grid1.coords t) d (part1 W c 10 t) :=
  (dat1 W c).before_fetched 10 t (fetch1_10 t) d
theorem before1_in11 (t : Fin grid1.N) (d) : (dat1 W c).before (11 : Fin 15) t d = (cfg1.win 11).fill (grid1.coords t) d (part1 W c 11 t) :=
  (dat1 W c).before_fetched 11 t (fetch1_11 t) d

section Stay

variable {cfg : Cfg sig Λ₀} {c : Dev nD} (dat : Dat τ (Elt F) Unit ℕ (UU nD τ) ℕ cfg c) (w : Fin cfg.W)
  (d : (cfg.win w).block.Idx → Elt F (cfg.win w).elt)

/-- An output window that stays on its block is found as the body last left it: `X`, left at point `k` and idle for the
    body from there up to `t`. -/
theorem before_stay (hw : (cfg.win w).isOut = true) (X : (cfg.win w).block.Idx → Elt F (cfg.win w).elt) (k : ℕ)
    (hf : ∀ t : Fin cfg.N, k ≤ t.val → t.val + 1 < cfg.N → (cfg.win w).flush t = false)
    (hk : ∀ t : Fin cfg.N, t.val = k → cfg.idle w (cfg.grid.coords t) = false ∧ dat.kept w t d = X)
    (hi : ∀ t : Fin cfg.N, k < t.val → cfg.idle w (cfg.grid.coords t) = true) :
    ∀ (n : ℕ) (t : Fin cfg.N), t.val = k + 1 + n → dat.before w t d = X
  | n, t, ht => by
    have hN := t.isLt
    refine (dat.before_of_pos w t (by omega) (Window.fetch_out _ hw _) d).trans
      ((if_neg (by rw [Bool.not_eq_true]; exact hf _ (show k ≤ t.val - 1 by omega) (show t.val - 1 + 1 < cfg.N by omega))).trans ?_)
    cases n with
    | zero =>
      have h := hk ⟨t.val - 1, by omega⟩ (show t.val - 1 = k by omega)
      exact (left_live dat w _ d h.1).trans h.2
    | succ n =>
      exact (left_idle dat w _ d (hi _ (show k < t.val - 1 by omega))).trans
        (before_stay hw X k hf hk hi n ⟨t.val - 1, by omega⟩ (show t.val - 1 = k + 1 + n by omega))

end Stay

/-- The state's window stays as the first point left it. -/
theorem before1_13 (t : Fin grid1.N) (ht : t.val ≠ 0) (d) : (dat1 W c).before (13 : Fin 15) t d = hn1 W c :=
  before_stay (dat1 W c) (13 : Fin 15) d rfl (hn1 W c) 0
    (fun t _ h => by rw [← Bool.not_eq_true, flush1_13]; have h : t.val + 1 < 13 := h; omega)
    (fun t h => ⟨by rw [← Bool.not_eq_true]; exact fun hh => (idle1_13 t).1 hh h, rfl⟩)
    (fun t h => (idle1_13 t).2 (by omega)) (t.val - 1) t (by omega)

/-- The attention weights' window stays as the fourth point left it. -/
theorem before1_14 (t : Fin grid1.N) (ht : ¬ t.val < 4) (d) : (dat1 W c).before (14 : Fin 15) t d = att1 W c t :=
  (before_stay (dat1 W c) (14 : Fin 15) d rfl (att1 W c t1_3) 3
    (fun t h h' => by rw [← Bool.not_eq_true, flush1_14]; have h' : t.val + 1 < 13 := h'; omega)
    (fun t h => ⟨by rw [← Bool.not_eq_true]; exact fun hh => (idle1_14 t).1 hh (by omega), by
      obtain rfl : t = t1_3 := Fin.ext h
      rfl⟩)
    (fun t h => (idle1_14 t).2 (by omega)) (t.val - 4) t (by omega)).trans (by
      unfold att1
      have e : last1 t1_3 = last1 t := Fin.ext (by show min 3 3 = min t.val 3; omega)
      rw [e])

end Cert.KernelIdeal.Hand
-- ==== Proof.Loc.lean ====
/-
  The columns of the output inside the array.

  The last column block overhangs the array it is taken from, and the product of the state with it is an operation of the
  whole block: where the float operations' product of a column reads that column alone (`Loc`), the columns inside the
  array are the ones named.
-/
module

public import proofs.«01_k».proof.Proof.Body1
public import Idealize.ShloMosaic.Lib.ValueLayout

@[expose] public section

set_option maxRecDepth 16384

noncomputable section

namespace Cert.KernelIdeal.Hand

open Facts₀ Facts

open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

/-- A column of the product of the state with a block of weights reads that column of the weights alone. -/
def Loc (F : FTy → Type) [FloatOps F] : Prop :=
  ∀ (A : FVec F S32x256 .bf16) (V V' : FVec F S256x2048 .bf16) (acc : FVec F S32x2048 .f32) (j : S32x2048.Idx),
    (∀ k : Fin 256, V (ValueIdx.ix2 k (j 1)) = V' (ValueIdx.ix2 k (j 1))) →
      matmul dot_S32x256_S256x2048_S32x2048_1_0_0_1_n_n none A V acc j = matmul dot_S32x256_S256x2048_S32x2048_1_0_0_1_n_n none A V' acc j

variable {F : FTy → Type} [FloatOps F]

local notation "𝕄" => MT nD τ sig Unit (Elt F) ℕ (UU nD τ) ℕ

/-! ## The columns inside the array -/

theorem oPay_loc (hL : Loc F) (hn : S32x256.Idx → F .f32) (V V' : S256x2048.Idx → F .f32) (b b' : S1x2048.Idx → F .f32) (j : S32x2048.Idx)
    (hV : ∀ k : Fin 256, V (ValueIdx.ix2 k (j 1)) = V' (ValueIdx.ix2 k (j 1))) (hb : b (ValueIdx.ix2 0 (j 1)) = b' (ValueIdx.ix2 0 (j 1))) :
    oPay hn V b j = oPay hn V' b' j := by
  have hj : j = ValueIdx.ix2 (j 0) (j 1) := by
    funext a; match a with | ⟨0, _⟩ => rfl | ⟨1, _⟩ => rfl
  have e1 := hL (truncf .bf16 hn bitsLt_bf16_f32) (truncf .bf16 V bitsLt_bf16_f32) (truncf .bf16 V' bitsLt_bf16_f32)
    (constant S32x2048 .f32 0x00000000#32) j (fun k => by show FloatOps.truncf _ _ _ = FloatOps.truncf _ _ _; exact congrArg _ (hV k))
  have e2 : broadcastTo S32x2048 (shapeCast S1x2048 b shapeCasts_S1x2048_S1x2048) broadcasts_S1x2048_S32x2048 j
      = broadcastTo S32x2048 (shapeCast S1x2048 b' shapeCasts_S1x2048_S1x2048) broadcasts_S1x2048_S32x2048 j := by
    rw [Idealize.ShloMosaic.shapeCast_self, Idealize.ShloMosaic.shapeCast_self, hj]
    exact (ValueIdx.broadcastTo_1b_ab_apply b broadcasts_S1x2048_S32x2048 (j 0) (j 1)).trans
      (hb.trans (ValueIdx.broadcastTo_1b_ab_apply b' broadcasts_S1x2048_S32x2048 (j 0) (j 1)).symm)
  show FloatOps.addf _ _ = FloatOps.addf _ _
  rw [e1, e2]

theorem oTile_loc (hL : Loc F) (hn : S32x256.Idx → F .f32) (W0 W1 W2 W3 V0 V1 V2 V3 : S256x2048.Idx → F .f32) (B B' : S1x8192.Idx → F .f32)
    (j : S32x8192.Idx)
    (hV : ∀ (k : Fin 256), pick W0 W1 W2 W3 ((j 1).val / 2048) (ValueIdx.ix2 k ⟨(j 1).val % 2048, Nat.mod_lt _ (by omega)⟩)
      = pick V0 V1 V2 V3 ((j 1).val / 2048) (ValueIdx.ix2 k ⟨(j 1).val % 2048, Nat.mod_lt _ (by omega)⟩))
    (hb : B (ValueIdx.ix2 0 (j 1)) = B' (ValueIdx.ix2 0 (j 1))) :
    oTile hn W0 W1 W2 W3 B j = oTile hn V0 V1 V2 V3 B' j := by
  unfold oTile oBlock
  refine oPay_loc hL hn _ _ _ _ _ hV ?_
  have e : ∀ h, (rBias ((j 1).val / 2048) h).emb (ValueIdx.ix2 0 ⟨(j 1).val % 2048, Nat.mod_lt _ (by omega)⟩) = ValueIdx.ix2 0 (j 1) := fun h => by
    funext a
    refine Fin.ext ((ValueKit.rect_emb_unit_val _ _ _ _ _).trans ?_)
    match a with
    | ⟨0, _⟩ => rfl
    | ⟨1, _⟩ => show (j 1).val / 2048 * 2048 + (j 1).val % 2048 = (j 1).val; omega
  exact (congrArg B (e _)).trans (hb.trans (congrArg B' (e _)).symm)

/-- Filled with one part, two blocks agree where the part was moved. -/
theorem fill_agree {G : Grid} (w : Window sig G) {α : Type} (i : G.Coords) (d d' : w.block.Idx → α) (g : (w.xblock i).Idx → α)
    (j : w.block.Idx) (h : ∀ a, (j a).val < w.xsize i a) : w.fill i d g j = w.fill i d' g j := by
  unfold Window.fill
  rw [dif_pos ((w.moved_iff i j).mpr h), dif_pos ((w.moved_iff i j).mpr h)]

end Cert.KernelIdeal.Hand
-- ==== Proof.Region1.lean ====
/-
  The second kernel's region: the body meets the pipeline's obligation.
-/
module

public import proofs.«01_k».proof.Proof.Data1
public import proofs.«01_k».proof.Proof.Loc

@[expose] public section

set_option maxRecDepth 16384

noncomputable section

namespace Cert.KernelIdeal.Hand

open Facts₀ Facts
open Cert.KernelIdeal.Gen

open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (UU nD τ) ℕ

theorem xsize1_cols (t : Fin grid1.N) :
    min 2048 ((cfg1.win 12).xsize (grid1.coords t) 1 - 0 * 2048) ≤ (cfg1.win 7).xsize (grid1.coords t) 1
    ∧ min 2048 ((cfg1.win 12).xsize (grid1.coords t) 1 - 1 * 2048) ≤ (cfg1.win 8).xsize (grid1.coords t) 1
    ∧ min 2048 ((cfg1.win 12).xsize (grid1.coords t) 1 - 2 * 2048) ≤ (cfg1.win 9).xsize (grid1.coords t) 1
    ∧ min 2048 ((cfg1.win 12).xsize (grid1.coords t) 1 - 3 * 2048) ≤ (cfg1.win 10).xsize (grid1.coords t) 1
    ∧ (cfg1.win 12).xsize (grid1.coords t) 1 ≤ (cfg1.win 11).xsize (grid1.coords t) 1 := by
  revert t; decide +kernel

theorem xsize1_rows (t : Fin grid1.N) :
    256 ≤ (cfg1.win 7).xsize (grid1.coords t) 0 ∧ 256 ≤ (cfg1.win 8).xsize (grid1.coords t) 0
    ∧ 256 ≤ (cfg1.win 9).xsize (grid1.coords t) 0 ∧ 256 ≤ (cfg1.win 10).xsize (grid1.coords t) 0 ∧ 1 ≤ (cfg1.win 11).xsize (grid1.coords t) 0 := by
  revert t; decide +kernel

variable (W : Entry F) (c : Dev nD)

/-- A staged block where the fetch moved it. -/
theorem blk1_agree (w : Fin 15) (t : Fin grid1.N) (d : (cfg1.win w).block.Idx → Elt F (cfg1.win w).elt) (j : (cfg1.win w).block.Idx)
    (h : ∀ a, (j a).val < (cfg1.win w).xsize (grid1.coords t) a) :
    (cfg1.win w).fill (grid1.coords t) d (part1 W c w t) j = blk1 W c w t j :=
  fill_agree (cfg1.win w) (grid1.coords t) d (fun _ => default) (part1 W c w t) j h

/-- Whatever the staging buffers hold beyond the arrays' ends, the columns inside the output are the named ones. -/
theorem out1_cut (hL : Loc F) (t : Fin grid1.N) (d7 d8 d9 d10 : S256x2048.Idx → F .f32) (d11 : S1x8192.Idx → F .f32) :
    (cfg1.win 12).cut (grid1.coords t) (oTile (hsPay (hn1 W c)) ((cfg1.win 7).fill (grid1.coords t) d7 (part1 W c 7 t))
        ((cfg1.win 8).fill (grid1.coords t) d8 (part1 W c 8 t)) ((cfg1.win 9).fill (grid1.coords t) d9 (part1 W c 9 t))
        ((cfg1.win 10).fill (grid1.coords t) d10 (part1 W c 10 t)) ((cfg1.win 11).fill (grid1.coords t) d11 (part1 W c 11 t)))
      = (cfg1.win 12).cut (grid1.coords t) (out1 W c t) := by
  obtain ⟨s0, s1, s2, s3, s4⟩ := xsize1_cols t
  obtain ⟨r0, r1, r2, r3, r4⟩ := xsize1_rows t
  funext x
  have hx : (((cfg1.win 12).xinj (grid1.coords t) x : S32x8192.Idx) 1).val < (cfg1.win 12).xsize (grid1.coords t) 1 := (x 1).isLt
  show oTile _ _ _ _ _ _ ((cfg1.win 12).xinj (grid1.coords t) x : S32x8192.Idx) = out1 W c t ((cfg1.win 12).xinj (grid1.coords t) x : S32x8192.Idx)
  generalize ((cfg1.win 12).xinj (grid1.coords t) x : S32x8192.Idx) = j at hx ⊢
  have hj : (j 1).val < 8192 := (j 1).isLt
  unfold out1
  refine oTile_loc hL _ _ _ _ _ _ _ _ _ _ _ j (fun k => ?_) ?_
  · rcases (by omega : (j 1).val / 2048 = 0 ∨ (j 1).val / 2048 = 1 ∨ (j 1).val / 2048 = 2 ∨ (j 1).val / 2048 = 3) with h | h | h | h
    · rw [h]
      exact blk1_agree W c 7 t d7 (ValueIdx.ix2 k ⟨(j 1).val % 2048, Nat.mod_lt _ (by omega)⟩ : S256x2048.Idx) (Fin.forall_fin_two.2
        ⟨lt_of_lt_of_le k.isLt r0, lt_of_lt_of_le (show (j 1).val % 2048 < min 2048 ((cfg1.win 12).xsize (grid1.coords t) 1 - 0 * 2048) by omega) s0⟩)
    · rw [h]
      exact blk1_agree W c 8 t d8 (ValueIdx.ix2 k ⟨(j 1).val % 2048, Nat.mod_lt _ (by omega)⟩ : S256x2048.Idx) (Fin.forall_fin_two.2
        ⟨lt_of_lt_of_le k.isLt r1, lt_of_lt_of_le (show (j 1).val % 2048 < min 2048 ((cfg1.win 12).xsize (grid1.coords t) 1 - 1 * 2048) by omega) s1⟩)
    · rw [h]
      exact blk1_agree W c 9 t d9 (ValueIdx.ix2 k ⟨(j 1).val % 2048, Nat.mod_lt _ (by omega)⟩ : S256x2048.Idx) (Fin.forall_fin_two.2
        ⟨lt_of_lt_of_le k.isLt r2, lt_of_lt_of_le (show (j 1).val % 2048 < min 2048 ((cfg1.win 12).xsize (grid1.coords t) 1 - 2 * 2048) by omega) s2⟩)
    · rw [h]
      exact blk1_agree W c 10 t d10 (ValueIdx.ix2 k ⟨(j 1).val % 2048, Nat.mod_lt _ (by omega)⟩ : S256x2048.Idx) (Fin.forall_fin_two.2
        ⟨lt_of_lt_of_le k.isLt r3, lt_of_lt_of_le (show (j 1).val % 2048 < min 2048 ((cfg1.win 12).xsize (grid1.coords t) 1 - 3 * 2048) by omega) s3⟩)
  · exact blk1_agree W c 11 t d11 (ValueIdx.ix2 0 (j 1) : S1x8192.Idx) (Fin.forall_fin_two.2
      ⟨lt_of_lt_of_le Nat.zero_lt_one r4, lt_of_lt_of_le hx s4⟩)

/-! ## The obligation -/

/-- The window held to a relation: the output columns'. -/
def fgt1 : Fin cfg1.W → Bool := fun w => w.val == 12

/-- What is asked of it: the columns inside the array are the named ones, where products are told column by column. -/
def rel1 (w : Fin cfg1.W) (t : Fin cfg1.N) (X : (cfg1.win w).block.Idx → Elt F (cfg1.win w).elt) : Prop :=
  Loc F → (cfg1.win w).cut (cfg1.grid.coords t) X = (cfg1.win w).cut (cfg1.grid.coords t) ((dat1 W c).after w t)

section Leave

variable {cfg : Cfg sig Λ₀} {c : Dev nD} (dat : Dat τ (Elt F) Unit ℕ (UU nD τ) ℕ cfg c) (fgt : Fin cfg.W → Bool)
  (Rl : (w : Fin cfg.W) → Fin cfg.N → ((cfg.win w).block.Idx → Elt F (cfg.win w).elt) → Prop) (w : Fin cfg.W) (t : Fin cfg.N)
  (X : (cfg.win w).block.Idx → Elt F (cfg.win w).elt)

/-- What the body may leave in a window. -/
def leavesRel : sProp 𝕄 := match fgt w with
  | true => iprop(∃ X, ⌜Rl w t X⌝ ∗ owns (c : Thread nD τ) ((cfg.win w).stage (cfg.slots t w)) fullShare X)
  | false => dat.leaves w t

/-- What the body finds in a window. -/
def findsRel : sProp 𝕄 := match fgt w with
  | true => iprop(∃ Y, ⌜(dat.toRRel fgt Rl).Finds w t Y⌝ ∗ owns (c : Thread nD τ) ((cfg.win w).stage (cfg.slots t w)) fullShare Y)
  | false => iprop(∃ d, owns (c : Thread nD τ) ((cfg.win w).stage (cfg.slots t w)) fullShare (dat.before w t d))

theorem finds_exact (h : fgt w = false) : findsRel dat fgt Rl w t
    ⊢ iprop(∃ d, owns (c : Thread nD τ) ((cfg.win w).stage (cfg.slots t w)) fullShare (dat.before w t d)) := by
  unfold findsRel; rw [h]

theorem finds_any (h : fgt w = true) : findsRel dat fgt Rl w t
    ⊢ iprop(∃ Y, owns (c : Thread nD τ) ((cfg.win w).stage (cfg.slots t w)) fullShare Y) := by
  unfold findsRel; rw [h]
  iintro ⟨%Y, %_h, H⟩; iexists Y; iexact H

theorem rel_marked (h : fgt w = true) (hX : Rl w t X) :
    (owns (c : Thread nD τ) ((cfg.win w).stage (cfg.slots t w)) fullShare X : sProp 𝕄) ⊢ leavesRel dat fgt Rl w t := by
  unfold leavesRel; rw [h]
  iintro H; iexists X; isplitr; · ipureintro; exact hX
  iexact H

theorem rel_live (h : fgt w = false) (hl : cfg.loose w = false) (hi : cfg.idle w (cfg.grid.coords t) = false) (hX : X = dat.after w t) :
    (owns (c : Thread nD τ) ((cfg.win w).stage (cfg.slots t w)) fullShare X : sProp 𝕄) ⊢ leavesRel dat fgt Rl w t := by
  subst hX; unfold leavesRel Dat.leaves; rw [h, hi, hl]

theorem rel_flush (h : fgt w = false) (hl : cfg.loose w = false) (hi : cfg.idle w (cfg.grid.coords t) = true)
    (hf : (cfg.win w).flush t = true) (hX : X = dat.after w t) :
    (owns (c : Thread nD τ) ((cfg.win w).stage (cfg.slots t w)) fullShare X : sProp 𝕄) ⊢ leavesRel dat fgt Rl w t := by
  subst hX; unfold leavesRel Dat.leaves; rw [h, hi, hf, hl]

theorem rel_idle (h : fgt w = false) (d) (hi : cfg.idle w (cfg.grid.coords t) = true)
    (hf : (cfg.win w).flush t = false) (hX : X = dat.before w t d) :
    (owns (c : Thread nD τ) ((cfg.win w).stage (cfg.slots t w)) fullShare X : sProp 𝕄) ⊢ leavesRel dat fgt Rl w t := by
  subst hX; unfold leavesRel Dat.leaves; rw [h, hi, hf]
  iintro H; iexists d; iexact H

theorem rel_loose (h : fgt w = false) (d) (hl : cfg.loose w = true) (hi : cfg.idle w (cfg.grid.coords t) = false)
    (hX : X = (cfg.win w).fill (cfg.grid.coords t) d ((cfg.win w).cut (cfg.grid.coords t) (dat.after w t))) :
    (owns (c : Thread nD τ) ((cfg.win w).stage (cfg.slots t w)) fullShare X : sProp 𝕄) ⊢ leavesRel dat fgt Rl w t := by
  subst hX; unfold leavesRel Dat.leaves; rw [h, hi, hl]
  iintro H; iexists d; iexact H

end Leave

/-- The body as the pipeline calls it at a point. -/
theorem row1 (t : Fin grid1.N) : defs₀ (F := F) .tc cfg1.body (cfg1.bodyArgs t (cfg1.slots t))
    = body1 (grid1.coords t) (st1_0 t) (st1_1 t) (st1_2 t) (st1_3 t) (st1_4 t) (st1_5 t) (st1_6 t) (st1_7 t) (st1_8 t) (st1_9 t)
        (st1_10 t) (st1_11 t) (st1_12 t) (st1_13 t) (st1_14 t) (Memref.whole cc1_scratch0) :=
  body1_eq ..

/-- What the body owes the pipeline at a point. -/
abbrev post1 (t : Fin grid1.N) : sProp 𝕄 :=
  iprop((dat1 W c).Φ t.succ ∗ (dat1 W c).owesAt () t.succ ∗ bigSep Finset.univ fun w => leavesRel (dat1 W c) fgt1 (rel1 W c) w t)

theorem leave1_13 (t : Fin grid1.N) (d : S32x256.Idx → F .f32) :
    (owns (c : Thread nD τ) (st1_13 t) fullShare (hn1 W c) : sProp 𝕄) ⊢ leavesRel (dat1 W c) fgt1 (rel1 W c) (13 : Fin 15) t := by
  by_cases h0 : t.val = 0
  · exact rel_live (dat1 W c) fgt1 (rel1 W c) (13 : Fin 15) t _ rfl rfl
      (by rw [← Bool.not_eq_true]; exact fun hh => (idle1_13 t).1 hh h0) rfl
  · by_cases h12 : t.val = 12
    · exact rel_flush (dat1 W c) fgt1 (rel1 W c) (13 : Fin 15) t _ rfl rfl ((idle1_13 t).2 h0) ((flush1_13 t).2 (by omega)) rfl
    · exact rel_idle (dat1 W c) fgt1 (rel1 W c) (13 : Fin 15) t _ rfl d ((idle1_13 t).2 h0)
        (by rw [← Bool.not_eq_true, flush1_13]; have := lt13 t; omega) (before1_13 W c t h0 d).symm

theorem leave1_14 (t : Fin grid1.N) (d : S512x32.Idx → F .f32) :
    (owns (c : Thread nD τ) (st1_14 t) fullShare (att1 W c t) : sProp 𝕄) ⊢ leavesRel (dat1 W c) fgt1 (rel1 W c) (14 : Fin 15) t := by
  by_cases h0 : t.val < 4
  · exact rel_live (dat1 W c) fgt1 (rel1 W c) (14 : Fin 15) t _ rfl rfl
      (by rw [← Bool.not_eq_true]; exact fun hh => (idle1_14 t).1 hh h0) rfl
  · by_cases h12 : t.val = 12
    · exact rel_flush (dat1 W c) fgt1 (rel1 W c) (14 : Fin 15) t _ rfl rfl ((idle1_14 t).2 h0) ((flush1_14 t).2 (by omega)) rfl
    · exact rel_idle (dat1 W c) fgt1 (rel1 W c) (14 : Fin 15) t _ rfl d ((idle1_14 t).2 h0)
        (by rw [← Bool.not_eq_true, flush1_14]; omega) (before1_14 W c t h0 d).symm

theorem leave1_12 (t : Fin grid1.N) (d7 d8 d9 d10 : S256x2048.Idx → F .f32) (d11 : S1x8192.Idx → F .f32) :
    (owns (c : Thread nD τ) (st1_12 t) fullShare (oTile (hsPay (hn1 W c)) ((cfg1.win 7).fill (grid1.coords t) d7 (part1 W c 7 t))
        ((cfg1.win 8).fill (grid1.coords t) d8 (part1 W c 8 t)) ((cfg1.win 9).fill (grid1.coords t) d9 (part1 W c 9 t))
        ((cfg1.win 10).fill (grid1.coords t) d10 (part1 W c 10 t)) ((cfg1.win 11).fill (grid1.coords t) d11 (part1 W c 11 t))) : sProp 𝕄)
      ⊢ leavesRel (dat1 W c) fgt1 (rel1 W c) (12 : Fin 15) t :=
  rel_marked (dat1 W c) fgt1 (rel1 W c) (12 : Fin 15) t _ rfl (fun hL => out1_cut W c hL t d7 d8 d9 d10 d11)

theorem leave1_loose (w : Fin 15) (hf : fgt1 w = false) (hl : cfg1.loose w = true) (hi : ∀ i, cfg1.idle w i = false) (t : Fin grid1.N)
    (hp : (cfg1.win w).cut (grid1.coords t) ((dat1 W c).after w t) = part1 W c w t) (d) :
    (owns (c : Thread nD τ) ((cfg1.win w).stage (cfg1.slots t w)) fullShare ((cfg1.win w).fill (grid1.coords t) d (part1 W c w t)) : sProp 𝕄)
      ⊢ leavesRel (dat1 W c) fgt1 (rel1 W c) w t :=
  rel_loose (dat1 W c) fgt1 (rel1 W c) w t _ hf d hl (hi _) (congrArg _ hp.symm)

/-- The output columns at a point, the state and the attention weights standing. -/
theorem finish1 (t : Fin grid1.N) (d7 d8 d9 d10 : S256x2048.Idx → F .f32) (d11 : S1x8192.Idx → F .f32) (Y12 : S32x8192.Idx → F .f32)
    (d13 : S32x256.Idx → F .f32) (d14 : S512x32.Idx → F .f32) :
    iprop(owns (c : Thread nD τ) (Memref.whole cc1_scratch0) fullShare (hsPay (hn1 W c)) ∗ fixed1 c ∗ (∃ W, owes (c : Thread nD τ) 0 W)
      ∗ owns (c : Thread nD τ) (st1_0 t) fullShare (blk1 W c 0 t) ∗ owns (c : Thread nD τ) (st1_1 t) fullShare (blk1 W c 1 t)
      ∗ owns (c : Thread nD τ) (st1_2 t) fullShare (blk1 W c 2 t) ∗ owns (c : Thread nD τ) (st1_3 t) fullShare (blk1 W c 3 t)
      ∗ owns (c : Thread nD τ) (st1_4 t) fullShare (blk1 W c 4 t) ∗ owns (c : Thread nD τ) (st1_5 t) fullShare (blk1 W c 5 t)
      ∗ owns (c : Thread nD τ) (st1_6 t) fullShare (blk1 W c 6 t)
      ∗ owns (c : Thread nD τ) (st1_7 t) fullShare ((cfg1.win 7).fill (grid1.coords t) d7 (part1 W c 7 t))
      ∗ owns (c : Thread nD τ) (st1_8 t) fullShare ((cfg1.win 8).fill (grid1.coords t) d8 (part1 W c 8 t))
      ∗ owns (c : Thread nD τ) (st1_9 t) fullShare ((cfg1.win 9).fill (grid1.coords t) d9 (part1 W c 9 t))
      ∗ owns (c : Thread nD τ) (st1_10 t) fullShare ((cfg1.win 10).fill (grid1.coords t) d10 (part1 W c 10 t))
      ∗ owns (c : Thread nD τ) (st1_11 t) fullShare ((cfg1.win 11).fill (grid1.coords t) d11 (part1 W c 11 t))
      ∗ owns (c : Thread nD τ) (st1_12 t) fullShare Y12
      ∗ owns (c : Thread nD τ) (st1_13 t) fullShare (hn1 W c) ∗ owns (c : Thread nD τ) (st1_14 t) fullShare (att1 W c t))
    ⊢ wp frame (wpE (defs₀ (F := F)) 𝒱₀ (c : Thread nD τ) none) Set.univ
        (columns (st1_7 t) (st1_8 t) (st1_9 t) (st1_10 t) (st1_11 t) (st1_12 t) (Memref.whole cc1_scratch0)) (fun _ => post1 W c t) := by
  iintro ⟨HS, HF, ⟨%W', HO⟩, H0, H1, H2, H3, H4, H5, H6, H7, H8, H9, H10, H11, H12, H13, H14⟩
  iapply (columns_run 𝒱₀ c none Set.univ (st1_7 t) (st1_8 t) (st1_9 t) (st1_10 t) (st1_11 t) (st1_12 t) (Memref.whole cc1_scratch0)
    ((cfg1.win 7).fill (grid1.coords t) d7 (part1 W c 7 t)) ((cfg1.win 8).fill (grid1.coords t) d8 (part1 W c 8 t))
    ((cfg1.win 9).fill (grid1.coords t) d9 (part1 W c 9 t)) ((cfg1.win 10).fill (grid1.coords t) d10 (part1 W c 10 t))
    ((cfg1.win 11).fill (grid1.coords t) d11 (part1 W c 11 t)) Y12 (hsPay (hn1 W c)) (fun _ => post1 W c t))
  isplitl [HS]; · iexact HS
  isplitl [H7 H8 H9 H10 H11]
  · unfold columnsRead
    isplitl [H7]; · iexact H7
    isplitl [H8]; · iexact H8
    isplitl [H9]; · iexact H9
    isplitl [H10]; · iexact H10
    iexact H11
  isplitl [H12]; · iexact H12
  unfold columnsRead
  iintro ⟨HS, ⟨H7, H8, H9, H10, H11⟩, H12⟩
  isplitl [HS HF]
  · rw [show (dat1 W c).Φ t.succ = iprop(owns (c : Thread nD τ) (Memref.whole cc1_scratch0) fullShare (hsPay (hn1 W c)) ∗ fixed1 c) from rfl]
    isplitl [HS]; · iexact HS
    iexact HF
  isplitl [HO]
  · unfold Dat.owesAt Pipeline.owesWithin
    iexists W'; isplitr; · ipureintro; exact fun _ _ => Or.inl trivial
    iexact HO
  rw [bigSep_W1]
  ihave H0 := (rel_live (dat1 W c) fgt1 (rel1 W c) (0 : Fin 15) t (blk1 W c 0 t) rfl rfl rfl rfl) $$ H0
  ihave H1 := (rel_live (dat1 W c) fgt1 (rel1 W c) (1 : Fin 15) t (blk1 W c 1 t) rfl rfl rfl rfl) $$ H1
  ihave H2 := (rel_live (dat1 W c) fgt1 (rel1 W c) (2 : Fin 15) t (blk1 W c 2 t) rfl rfl rfl rfl) $$ H2
  ihave H3 := (rel_live (dat1 W c) fgt1 (rel1 W c) (3 : Fin 15) t (blk1 W c 3 t) rfl rfl rfl rfl) $$ H3
  ihave H4 := (rel_live (dat1 W c) fgt1 (rel1 W c) (4 : Fin 15) t (blk1 W c 4 t) rfl rfl rfl rfl) $$ H4
  ihave H5 := (rel_live (dat1 W c) fgt1 (rel1 W c) (5 : Fin 15) t (blk1 W c 5 t) rfl rfl rfl rfl) $$ H5
  ihave H6 := (rel_live (dat1 W c) fgt1 (rel1 W c) (6 : Fin 15) t (blk1 W c 6 t) rfl rfl rfl rfl) $$ H6
  ihave H7 := (leave1_loose W c (7 : Fin 15) rfl rfl (fun _ => rfl) t (Window.cut_fill _ _ _ _) d7) $$ H7
  ihave H8 := (leave1_loose W c (8 : Fin 15) rfl rfl (fun _ => rfl) t (Window.cut_fill _ _ _ _) d8) $$ H8
  ihave H9 := (leave1_loose W c (9 : Fin 15) rfl rfl (fun _ => rfl) t (Window.cut_fill _ _ _ _) d9) $$ H9
  ihave H10 := (leave1_loose W c (10 : Fin 15) rfl rfl (fun _ => rfl) t (Window.cut_fill _ _ _ _) d10) $$ H10
  ihave H11 := (leave1_loose W c (11 : Fin 15) rfl rfl (fun _ => rfl) t (Window.cut_fill _ _ _ _) d11) $$ H11
  ihave H12 := (leave1_12 W c t d7 d8 d9 d10 d11) $$ H12
  ihave H13 := (leave1_13 W c t d13) $$ H13
  ihave H14 := (leave1_14 W c t d14) $$ H14
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body1_first (t : Fin grid1.N) (h : t.val = 0) : body1 (F := F) (grid1.coords t) (st1_0 t) (st1_1 t) (st1_2 t) (st1_3 t) (st1_4 t)
      (st1_5 t) (st1_6 t) (st1_7 t) (st1_8 t) (st1_9 t) (st1_10 t) (st1_11 t) (st1_12 t) (st1_13 t) (st1_14 t) (Memref.whole cc1_scratch0)
    = (weigh (st1_2 t) (st1_6 t) (st1_14 t) >>= fun _ =>
        recur (st1_0 t) (st1_1 t) (st1_3 t) (st1_4 t) (st1_5 t) (st1_13 t) (Memref.whole cc1_scratch0) >>= fun _ =>
          columns (st1_7 t) (st1_8 t) (st1_9 t) (st1_10 t) (st1_11 t) (st1_12 t) (Memref.whole cc1_scratch0)) := by
  unfold body1; rw [if_pos ((cond1_1 t).2 (by omega)), if_pos ((cond1_2 t).2 h)]

theorem body1_early (t : Fin grid1.N) (h : t.val ≠ 0) (h4 : t.val < 4) : body1 (F := F) (grid1.coords t) (st1_0 t) (st1_1 t) (st1_2 t) (st1_3 t) (st1_4 t)
      (st1_5 t) (st1_6 t) (st1_7 t) (st1_8 t) (st1_9 t) (st1_10 t) (st1_11 t) (st1_12 t) (st1_13 t) (st1_14 t) (Memref.whole cc1_scratch0)
    = (weigh (st1_2 t) (st1_6 t) (st1_14 t) >>= fun _ =>
        columns (st1_7 t) (st1_8 t) (st1_9 t) (st1_10 t) (st1_11 t) (st1_12 t) (Memref.whole cc1_scratch0)) := by
  unfold body1; rw [if_pos ((cond1_1 t).2 h4), if_neg (fun hh => h ((cond1_2 t).1 hh))]

theorem body1_late (t : Fin grid1.N) (h4 : ¬ t.val < 4) : body1 (F := F) (grid1.coords t) (st1_0 t) (st1_1 t) (st1_2 t) (st1_3 t) (st1_4 t)
      (st1_5 t) (st1_6 t) (st1_7 t) (st1_8 t) (st1_9 t) (st1_10 t) (st1_11 t) (st1_12 t) (st1_13 t) (st1_14 t) (Memref.whole cc1_scratch0)
    = columns (st1_7 t) (st1_8 t) (st1_9 t) (st1_10 t) (st1_11 t) (st1_12 t) (Memref.whole cc1_scratch0) := by
  unfold body1; rw [if_neg (fun hh => h4 ((cond1_1 t).1 hh)), if_neg (fun hh => h4 (by rw [(cond1_2 t).1 hh]; omega))]

theorem att1_eq (t : Fin grid1.N) (h4 : t.val < 4) : att1 W c t = aPay (blk1 W c 6 t) (blk1 W c 2 t) := by
  have e : last1 t = t := Fin.ext (Nat.min_eq_left (by omega))
  unfold att1; rw [e]

/-- The body meets the pipeline's obligation. -/
theorem body1_ok : BodyObligationRel (dat1 W c) (defs₀ (F := F)) 𝒱₀ () Set.univ fgt1 (rel1 W c) := fun t => by
  rw [row1 t]
  show iprop((dat1 W c).Φ t.castSucc ∗ (dat1 W c).owesAt () t.castSucc ∗ bigSep Finset.univ fun w => findsRel (dat1 W c) fgt1 (rel1 W c) w t)
    ⊢ wp frame (wpE (defs₀ (F := F)) 𝒱₀ (c : Thread nD τ) none) Set.univ _ (fun _ => post1 W c t)
  rw [bigSep_W1]
  rw [show (dat1 W c).Φ t.castSucc = iprop(scratch1 W c t.val ∗ fixed1 c) from rfl]
  unfold Dat.owesAt Pipeline.owesWithin
  rw [show (dat1 W c).owed t.castSucc = 0 from rfl]
  iintro ⟨⟨HS, HF⟩, ⟨%W', %hW, HO⟩, H0, H1, H2, H3, H4, H5, H6, H7, H8, H9, H10, H11, H12, H13, H14⟩
  ihave H0 := (finds_exact (dat1 W c) fgt1 (rel1 W c) (0 : Fin 15) t rfl) $$ H0
  icases H0 with ⟨%d0, H0⟩
  ihave H1 := (finds_exact (dat1 W c) fgt1 (rel1 W c) (1 : Fin 15) t rfl) $$ H1
  icases H1 with ⟨%d1, H1⟩
  ihave H2 := (finds_exact (dat1 W c) fgt1 (rel1 W c) (2 : Fin 15) t rfl) $$ H2
  icases H2 with ⟨%d2, H2⟩
  ihave H3 := (finds_exact (dat1 W c) fgt1 (rel1 W c) (3 : Fin 15) t rfl) $$ H3
  icases H3 with ⟨%d3, H3⟩
  ihave H4 := (finds_exact (dat1 W c) fgt1 (rel1 W c) (4 : Fin 15) t rfl) $$ H4
  icases H4 with ⟨%d4, H4⟩
  ihave H5 := (finds_exact (dat1 W c) fgt1 (rel1 W c) (5 : Fin 15) t rfl) $$ H5
  icases H5 with ⟨%d5, H5⟩
  ihave H6 := (finds_exact (dat1 W c) fgt1 (rel1 W c) (6 : Fin 15) t rfl) $$ H6
  icases H6 with ⟨%d6, H6⟩
  ihave H7 := (finds_exact (dat1 W c) fgt1 (rel1 W c) (7 : Fin 15) t rfl) $$ H7
  icases H7 with ⟨%d7, H7⟩
  ihave H8 := (finds_exact (dat1 W c) fgt1 (rel1 W c) (8 : Fin 15) t rfl) $$ H8
  icases H8 with ⟨%d8, H8⟩
  ihave H9 := (finds_exact (dat1 W c) fgt1 (rel1 W c) (9 : Fin 15) t rfl) $$ H9
  icases H9 with ⟨%d9, H9⟩
  ihave H10 := (finds_exact (dat1 W c) fgt1 (rel1 W c) (10 : Fin 15) t rfl) $$ H10
  icases H10 with ⟨%d10, H10⟩
  ihave H11 := (finds_exact (dat1 W c) fgt1 (rel1 W c) (11 : Fin 15) t rfl) $$ H11
  icases H11 with ⟨%d11, H11⟩
  ihave H13 := (finds_exact (dat1 W c) fgt1 (rel1 W c) (13 : Fin 15) t rfl) $$ H13
  icases H13 with ⟨%d13, H13⟩
  ihave H14 := (finds_exact (dat1 W c) fgt1 (rel1 W c) (14 : Fin 15) t rfl) $$ H14
  icases H14 with ⟨%d14, H14⟩
  ihave H12 := (finds_any (dat1 W c) fgt1 (rel1 W c) (12 : Fin 15) t rfl) $$ H12
  icases H12 with ⟨%Y12, H12⟩
  ihave H0 := (stage_eq (cfg := cfg1) c (0 : Fin 15) t (before1_in0 W c t d0)) $$ H0
  ihave H1 := (stage_eq (cfg := cfg1) c (1 : Fin 15) t (before1_in1 W c t d1)) $$ H1
  ihave H2 := (stage_eq (cfg := cfg1) c (2 : Fin 15) t (before1_in2 W c t d2)) $$ H2
  ihave H3 := (stage_eq (cfg := cfg1) c (3 : Fin 15) t (before1_in3 W c t d3)) $$ H3
  ihave H4 := (stage_eq (cfg := cfg1) c (4 : Fin 15) t (before1_in4 W c t d4)) $$ H4
  ihave H5 := (stage_eq (cfg := cfg1) c (5 : Fin 15) t (before1_in5 W c t d5)) $$ H5
  ihave H6 := (stage_eq (cfg := cfg1) c (6 : Fin 15) t (before1_in6 W c t d6)) $$ H6
  ihave H7 := (stage_eq (cfg := cfg1) c (7 : Fin 15) t (before1_in7 W c t d7)) $$ H7
  ihave H8 := (stage_eq (cfg := cfg1) c (8 : Fin 15) t (before1_in8 W c t d8)) $$ H8
  ihave H9 := (stage_eq (cfg := cfg1) c (9 : Fin 15) t (before1_in9 W c t d9)) $$ H9
  ihave H10 := (stage_eq (cfg := cfg1) c (10 : Fin 15) t (before1_in10 W c t d10)) $$ H10
  ihave H11 := (stage_eq (cfg := cfg1) c (11 : Fin 15) t (before1_in11 W c t d11)) $$ H11
  by_cases h0 : t.val = 0
  · obtain rfl : t = t1_0 := Fin.ext h0
    rw [body1_first t1_0 rfl]
    ihave HS := (show scratch1 W c (t1_0 : Fin grid1.N).val
      ⊢ (iprop(∃ f, owns (c : Thread nD τ) (Memref.whole cc1_scratch0) fullShare f) : sProp 𝕄) from Entails.refl _) $$ HS
    icases HS with ⟨%f, HS⟩
    iapply (weigh_run 𝒱₀ c none Set.univ (st1_2 t1_0) (st1_6 t1_0) (st1_14 t1_0) (blk1 W c 2 t1_0) (blk1 W c 6 t1_0)
      ((dat1 W c).before (14 : Fin 15) t1_0 d14) _ (fun _ => post1 W c t1_0))
    isplitl [H2]; · iexact H2
    isplitl [H6]; · iexact H6
    isplitl [H14]; · iexact H14
    iintro ⟨H2, H6, H14⟩
    iapply (recur_run 𝒱₀ c none Set.univ (st1_0 t1_0) (st1_1 t1_0) (st1_3 t1_0) (st1_4 t1_0) (st1_5 t1_0) (st1_13 t1_0) (Memref.whole cc1_scratch0)
      (blk1 W c 0 t1_0) (blk1 W c 1 t1_0) (blk1 W c 3 t1_0) (blk1 W c 4 t1_0) (blk1 W c 5 t1_0)
      ((dat1 W c).before (13 : Fin 15) t1_0 d13) f _ (fun _ => post1 W c t1_0))
    unfold recurRead
    isplitl [H0 H1 H3 H4 H5]
    · isplitl [H0]; · iexact H0
      isplitl [H1]; · iexact H1
      isplitl [H3]; · iexact H3
      isplitl [H4]; · iexact H4
      iexact H5
    isplitl [H13]; · iexact H13
    isplitl [HS]; · iexact HS
    iintro ⟨⟨H0, H1, H3, H4, H5⟩, H13, HS⟩
    ihave H14 := (stage_eq (cfg := cfg1) c (14 : Fin 15) t1_0 (att1_eq W c t1_0 (by decide)).symm) $$ H14
    iapply (finish1 W c t1_0 d7 d8 d9 d10 d11 Y12 d13 d14)
    isplitl [HS]; · iexact HS
    isplitl [HF]; · iexact HF
    isplitl [HO]; · iexists W'; iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · have hs : scratch1 W c t.val = (owns (c : Thread nD τ) (Memref.whole cc1_scratch0) fullShare (hsPay (hn1 W c)) : sProp 𝕄) := by
      obtain ⟨k, hk⟩ := Nat.exists_eq_succ_of_ne_zero h0
      rw [hk]; rfl
    ihave HS := (Entails.of_eq hs) $$ HS
    ihave H13 := (stage_eq (cfg := cfg1) c (13 : Fin 15) t (before1_13 W c t h0 d13)) $$ H13
    by_cases h4 : t.val < 4
    · rw [body1_early t h0 h4]
      iapply (weigh_run 𝒱₀ c none Set.univ (st1_2 t) (st1_6 t) (st1_14 t) (blk1 W c 2 t) (blk1 W c 6 t)
        ((dat1 W c).before (14 : Fin 15) t d14) _ (fun _ => post1 W c t))
      isplitl [H2]; · iexact H2
      isplitl [H6]; · iexact H6
      isplitl [H14]; · iexact H14
      iintro ⟨H2, H6, H14⟩
      ihave H14 := (stage_eq (cfg := cfg1) c (14 : Fin 15) t (att1_eq W c t h4).symm) $$ H14
      iapply (finish1 W c t d7 d8 d9 d10 d11 Y12 d13 d14)
      isplitl [HS]; · iexact HS
      isplitl [HF]; · iexact HF
      isplitl [HO]; · iexists W'; iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · rw [body1_late t h4]
      ihave H14 := (stage_eq (cfg := cfg1) c (14 : Fin 15) t (before1_14 W c t h4 d14)) $$ H14
      iapply (finish1 W c t d7 d8 d9 d10 d11 Y12 d13 d14)
      isplitl [HS]; · iexact HS
      isplitl [HF]; · iexact HF
      isplitl [HO]; · iexists W'; iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14

end Cert.KernelIdeal.Hand
-- ==== Proof.Vals.lean ====
/-
  What every buffer holds between the host's operations and the two grids.
-/
module

public import proofs.«01_k».proof.Proof.Region0
public import proofs.«01_k».proof.Proof.Region1
public import proofs.«01_k».proof.Proof.Gen.KernelIdeal.Regions
public import Idealize.ShloMosaic.Lib.Pipeline.RegionArraysT
public import Idealize.ShloMosaic.Lib.Pipeline.RegionsLoop

@[expose] public section

set_option maxRecDepth 16384

noncomputable section

namespace Cert.KernelIdeal.Hand

open Facts₀ Facts
open Cert.KernelIdeal.Gen

open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (UU nD τ) ℕ

variable (m : (ℓ : Idealize.ShloMosaic.Loc nD τ sig) → Buf (Elt F) ℓ)

/-- The buffers when the attention grid is entered. -/
abbrev in0 : Entry F := fun c => V1 m c

/-- The launch's index words name rows of the table they index. -/
abbrev Rows : Prop := ∀ c, RowsIn (in0 m) c

variable (hT : Rows m)

/-- The attention grid's data at this launch. -/
abbrev d0 (c : Dev nD) : Dat τ (Elt F) Unit ℕ (UU nD τ) ℕ (cfg0 (tab0 (in0 m))) c := dat0 (in0 m) (tab0 (in0 m)) c hT

/-- The buffers after the attention grid. -/
def mid0 (c : Dev nD) : Valuation τ sig (Elt F) :=
  Function.update (Function.update (Function.update (Function.update (V1 m c)
    main_v4_0 ((d0 m hT c).arrAt (7 : Fin 11) 8)) main_v4_1 ((d0 m hT c).arrAt (8 : Fin 11) 8))
    main_v4_2 ((d0 m hT c).arrAt (9 : Fin 11) 8)) main_v4_3 ((d0 m hT c).arrAt (10 : Fin 11) 8)

/-- The buffers when the second grid is entered. -/
abbrev in1 : Entry F := fun c => V3 m (fun _ r c => mid0 m hT c r) c

/-- The second grid's data at this launch. -/
abbrev d1 (c : Dev nD) : Dat τ (Elt F) Unit ℕ (UU nD τ) ℕ cfg1 c := dat1 (in1 m hT) c

/-- The buffers after the second grid. -/
def mid1 (c : Dev nD) : Valuation τ sig (Elt F) :=
  Function.update (Function.update (Function.update (in1 m hT c)
    main_v7_0 ((d1 m hT c).arrAt (12 : Fin 15) 13)) main_v7_1 ((d1 m hT c).arrAt (13 : Fin 15) 13))
    main_v7_2 ((d1 m hT c).arrAt (14 : Fin 15) 13)

/-- What the grids leave. -/
def left (J : ℕ) (r : Ref sig .tc) (c : Dev nD) : Buf (Elt F) ((c : Thread nD τ).loc r) :=
  match J with
  | 2 => mid0 m hT c r
  | _ => mid1 m hT c r

theorem upd_ne {V : Valuation τ sig (Elt F)} {r r' : Ref sig .tc} (h : r ≠ r') {x : (Proc.devRef (τ := τ) .tc r').ty.Idx → Elt F (Proc.devRef (τ := τ) .tc r').ty.elt} :
    Function.update V (Proc.devRef .tc r') x (Proc.devRef .tc r) = V (Proc.devRef .tc r) :=
  Function.update_of_ne (StableHlo.devRef_ne_of_ne h) _ _

theorem mid0_0 (c : Dev nD) : mid0 m hT c main_v4_0 = (d0 m hT c).arrAt (7 : Fin 11) 8 :=
  (upd_ne (by decide)).trans <| (upd_ne (by decide)).trans <| (upd_ne (by decide)).trans (Function.update_self _ _ _)
theorem mid0_1 (c : Dev nD) : mid0 m hT c main_v4_1 = (d0 m hT c).arrAt (8 : Fin 11) 8 :=
  (upd_ne (by decide)).trans <| (upd_ne (by decide)).trans (Function.update_self _ _ _)
theorem mid0_2 (c : Dev nD) : mid0 m hT c main_v4_2 = (d0 m hT c).arrAt (9 : Fin 11) 8 :=
  (upd_ne (by decide)).trans (Function.update_self _ _ _)
theorem mid0_3 (c : Dev nD) : mid0 m hT c main_v4_3 = (d0 m hT c).arrAt (10 : Fin 11) 8 := Function.update_self _ _ _

theorem mid1_0 (c : Dev nD) : mid1 m hT c main_v7_0 = (d1 m hT c).arrAt (12 : Fin 15) 13 :=
  (upd_ne (by decide)).trans <| (upd_ne (by decide)).trans (Function.update_self _ _ _)
theorem mid1_1 (c : Dev nD) : mid1 m hT c main_v7_1 = (d1 m hT c).arrAt (13 : Fin 15) 13 :=
  (upd_ne (by decide)).trans (Function.update_self _ _ _)
theorem mid1_2 (c : Dev nD) : mid1 m hT c main_v7_2 = (d1 m hT c).arrAt (14 : Fin 15) 13 := Function.update_self _ _ _

/-- The valuations of the launch, read over what the grids leave. -/
abbrev W2 (c : Dev nD) : Valuation τ sig (Elt F) := V2 m (left m hT) c
abbrev W4 (c : Dev nD) : Valuation τ sig (Elt F) := V4 m (left m hT) c
abbrev W5 (c : Dev nD) : Valuation τ sig (Elt F) := V5 m (left m hT) c

theorem V3_left (c : Dev nD) : V3 m (left m hT) c = in1 m hT c := rfl

theorem W2_0 (c : Dev nD) : W2 m hT c main_v4_0 = (d0 m hT c).arrAt (7 : Fin 11) 8 :=
  ((upd_ne (by decide)).trans <| (upd_ne (by decide)).trans <| (upd_ne (by decide)).trans (Function.update_self _ _ _)).trans (mid0_0 m hT c)
theorem W2_1 (c : Dev nD) : W2 m hT c main_v4_1 = (d0 m hT c).arrAt (8 : Fin 11) 8 :=
  ((upd_ne (by decide)).trans <| (upd_ne (by decide)).trans (Function.update_self _ _ _)).trans (mid0_1 m hT c)
theorem W2_2 (c : Dev nD) : W2 m hT c main_v4_2 = (d0 m hT c).arrAt (9 : Fin 11) 8 :=
  ((upd_ne (by decide)).trans (Function.update_self _ _ _)).trans (mid0_2 m hT c)
theorem W2_3 (c : Dev nD) : W2 m hT c main_v4_3 = (d0 m hT c).arrAt (10 : Fin 11) 8 :=
  (Function.update_self _ _ _).trans (mid0_3 m hT c)

theorem W4_0 (c : Dev nD) : W4 m hT c main_v7_0 = (d1 m hT c).arrAt (12 : Fin 15) 13 :=
  ((upd_ne (by decide)).trans <| (upd_ne (by decide)).trans (Function.update_self _ _ _)).trans (mid1_0 m hT c)
theorem W4_1 (c : Dev nD) : W4 m hT c main_v7_1 = (d1 m hT c).arrAt (13 : Fin 15) 13 :=
  ((upd_ne (by decide)).trans (Function.update_self _ _ _)).trans (mid1_1 m hT c)
theorem W4_2 (c : Dev nD) : W4 m hT c main_v7_2 = (d1 m hT c).arrAt (14 : Fin 15) 13 :=
  (Function.update_self _ _ _).trans (mid1_2 m hT c)

/-- An input window of the attention grid still has its array as it was. -/
theorem W2_in (c : Dev nD) (w : Fin 11) (hw : ((cfg0 (tab0 (in0 m))).win w).isOut = false)
    (hr : arrRef spec0 w ∉ ([main_v4_0, main_v4_1, main_v4_2, main_v4_3] : List (Ref sig .tc))) :
    (d0 m hT c).arrAt w 8 = W2 m hT c (arrRef spec0 w) :=
  ((d0 m hT c).arrAt_in w hw 8).trans ((A0_eq (in0 m) _ c hT w).trans (V2_of m (left m hT) c _ hr).symm)

theorem W2_arr (c : Dev nD) (w : Fin 11) : (d0 m hT c).arrAt w 8 = W2 m hT c (arrRef spec0 w) := match w with
  | ⟨0, _⟩ => W2_in m hT c 0 rfl (by decide)
  | ⟨1, _⟩ => W2_in m hT c 1 rfl (by decide)
  | ⟨2, _⟩ => W2_in m hT c 2 rfl (by decide)
  | ⟨3, _⟩ => W2_in m hT c 3 rfl (by decide)
  | ⟨4, _⟩ => W2_in m hT c 4 rfl (by decide)
  | ⟨5, _⟩ => W2_in m hT c 5 rfl (by decide)
  | ⟨6, _⟩ => W2_in m hT c 6 rfl (by decide)
  | ⟨7, _⟩ => (W2_0 m hT c).symm
  | ⟨8, _⟩ => (W2_1 m hT c).symm
  | ⟨9, _⟩ => (W2_2 m hT c).symm
  | ⟨10, _⟩ => (W2_3 m hT c).symm

/-- An input window of the second grid still has its array as it was. -/
theorem W4_in (c : Dev nD) (w : Fin 15) (hw : (cfg1.win w).isOut = false)
    (hr : arrRef spec1 w ∉ ([main_v7_0, main_v7_1, main_v7_2] : List (Ref sig .tc))) :
    (d1 m hT c).arrAt w 13 = W4 m hT c (arrRef spec1 w) :=
  ((d1 m hT c).arrAt_in w hw 13).trans ((A1_eq (in1 m hT) c w).trans (V4_of m (left m hT) c _ hr).symm)

theorem W4_arr (c : Dev nD) (w : Fin 15) : (d1 m hT c).arrAt w 13 = W4 m hT c (arrRef spec1 w) := match w with
  | ⟨0, _⟩ => W4_in m hT c 0 rfl (by decide)
  | ⟨1, _⟩ => W4_in m hT c 1 rfl (by decide)
  | ⟨2, _⟩ => W4_in m hT c 2 rfl (by decide)
  | ⟨3, _⟩ => W4_in m hT c 3 rfl (by decide)
  | ⟨4, _⟩ => W4_in m hT c 4 rfl (by decide)
  | ⟨5, _⟩ => W4_in m hT c 5 rfl (by decide)
  | ⟨6, _⟩ => W4_in m hT c 6 rfl (by decide)
  | ⟨7, _⟩ => W4_in m hT c 7 rfl (by decide)
  | ⟨8, _⟩ => W4_in m hT c 8 rfl (by decide)
  | ⟨9, _⟩ => W4_in m hT c 9 rfl (by decide)
  | ⟨10, _⟩ => W4_in m hT c 10 rfl (by decide)
  | ⟨11, _⟩ => W4_in m hT c 11 rfl (by decide)
  | ⟨12, _⟩ => (W4_0 m hT c).symm
  | ⟨13, _⟩ => (W4_1 m hT c).symm
  | ⟨14, _⟩ => (W4_2 m hT c).symm

end Cert.KernelIdeal.Hand
-- ==== Proof.Seg0.lean ====
/-
  The attention grid as a segment of the launch.
-/
module

public import proofs.«01_k».proof.Proof.Vals

@[expose] public section

set_option maxRecDepth 16384

noncomputable section

namespace Cert.KernelIdeal.Hand

open Facts₀ Facts
open Cert.KernelIdeal.Gen

open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (UU nD τ) ℕ

variable (m : (ℓ : Idealize.ShloMosaic.Loc nD τ sig) → Buf (Elt F) ℓ) (hT : Rows m)

/-- No core owes another anything: no level is assigned. -/
abbrev L : GSem nD τ sig → Finset Unit := fun _ => ∅
abbrev lv : GSem nD τ sig → Unit → ℕ := fun _ _ => 0

/-- The tables' contents: the index words for the attention grid, no table for the second. -/
def adm : (p : Fin 2) → (pcfgs (F := F) p).Adm := fun
  | 0 => tab0 (in0 m)
  | 1 => cfg1.toPCfg_adm

/-- The grids' data with every buffer's contents named. -/
def dats : (p : Fin 2) → (c : Dev nD) → Dat τ (Elt F) Unit ℕ (UU nD τ) ℕ (Pipeline.pin (pcfgs (F := F)) (adm m) p) c := fun
  | 0 => fun c => d0 m hT c
  | 1 => fun c => d1 m hT c

/-- The grids' data, the second's output block held to what the launch can say of it. -/
def rdats : (p : Fin 2) → (c : Dev nD) → RDat τ (Elt F) Unit ℕ (UU nD τ) ℕ (Pipeline.pin (pcfgs (F := F)) (adm m) p) c := fun
  | 0 => fun c => (d0 m hT c).toR
  | 1 => fun c => (d1 m hT c).toRRel fgt1 (rel1 (in1 m hT) c)

/-- What rides beside the buffers: the core owes nothing. -/
abbrev R (c : Dev nD) : sProp 𝕄 := iprop(∃ W, owes (c : Thread nD τ) (0 : CellTallies nD τ sig Unit) W)

/-- The counter of the attention grid's own transfers. -/
abbrev osem0 : Fin 1 → SemLoc sig := fun _ => .dma cc0_scratch3.sem

theorem ownSemFacts0 : Pipeline.OwnSemFacts spec0 osem0 := by decide

omit [FloatOps F] in
theorem ownSems0_one (c : Dev nD) : (Pipeline.ownSems0 (Ix := Unit) (Name := ℕ) (U := UU nD τ) (Lvl := ℕ) (Val := Elt F) (τ := τ) osem0 c : sProp 𝕄)
    = semVal ((c : Thread nD τ), .dma cc0_scratch3.sem) 0 :=
  Pipeline.ownSems0_eq_of_list c osem0 [0] (by decide) (by decide)

/-- The embedding table's buffer, alone. -/
abbrev embRef : Finset (DevRef τ sig) := {Proc.devRef .tc main_arg3}
/-- The buffers the attention grid does not touch. -/
abbrev rest0 : Finset (DevRef τ sig) := ((ucRefs τ sig \ arrRefs spec0) \ tblRefs pre0) \ embRef

theorem embRef_sub : embRef ⊆ (ucRefs τ sig \ arrRefs spec0) \ tblRefs pre0 := by
  intro b hb
  obtain rfl := Finset.mem_singleton.mp hb
  refine Finset.mem_sdiff.mpr ⟨Finset.mem_sdiff.mpr ⟨Finset.mem_filter.mpr ⟨StableHlo.devRef_mem_tcRefs main_arg3, by decide⟩, ?_⟩, ?_⟩
  · intro h
    obtain ⟨r, hr, e⟩ := Finset.mem_map.mp h
    obtain rfl := Proc.devRef_injective _ e
    revert hr; decide
  · intro h
    obtain ⟨r, hr, e⟩ := Finset.mem_map.mp h
    obtain rfl := Proc.devRef_injective _ e
    revert hr; decide

set_option backward.isDefEq.respectTransparency.types false in
/-- The launch's buffers, sorted for the attention grid. -/
theorem split0 (c : Dev nD) (G : (w : Fin (Pipeline.pin (pcfgs (F := F)) (adm m) 0).W) → Buf (Elt F) (((Pipeline.pin (pcfgs (F := F)) (adm m) 0).win w).arr.view.loc (c.tc : Thread nD τ)))
    (V : Valuation τ sig (Elt F)) (hG : ∀ w, G w = V (Proc.devRef .tc (arrRef spec0 w)))
    (hV : V main_v0 = in0 m 0 main_v0) :
    (StableHlo.held (c : Thread nD τ) (ucRefs τ sig) V : sProp 𝕄)
      = iprop((dats m hT 0 c).arrays G ∗ prefHeld pre0 c (fun _ => fullShare) (adm m 0).1
        ∗ StableHlo.held (c : Thread nD τ) embRef V ∗ StableHlo.held (c : Thread nD τ) rest0 V) := by
  refine (StableHlo.held_sub_split _ (arrRefs_sub_ucRefs spec0 winFacts0.arr_unscoped) V).trans (congrArg₂ _
    (arrays_held (pcfgs (F := F)) (adm m) (dats m hT) 0 launch0 c ((dats m hT 0 c).share_full fun _ => rfl) G V hG).symm ?_)
  refine (StableHlo.held_sub_split _ (tblRefs_sub_ucRefs_sdiff spec0 pre0 preFacts0.unscoped preFacts0.disj) V).trans (congrArg₂ _
    (prefHeld_held pre0 preFacts0.inj c (adm m 0).1 V (fun | ⟨0, _⟩ => hV.symm)).symm ?_)
  exact StableHlo.held_sub_split _ embRef_sub V

/-- The index words' buffer, as the table the region was given. -/
theorem table_owns (c : Dev nD) : (prefHeld pre0 c (fun _ => fullShare) (adm m 0).1 : sProp 𝕄)
    = owns (c : Thread nD τ) (Memref.whole main_v0) fullShare (in0 m c main_v0) := by
  obtain rfl : c = 0 := Subsingleton.elim _ _
  rw [owns_whole]
  exact BI.bigSep_singleton (Φ := fun k : Fin 1 => iprop((((0 : Dev nD) : Thread nD τ).loc (pre0.ref k)) ↦{fullShare} (adm m 0).1 k))

/-- The embedding table's buffer, held alone. -/
theorem emb_held (c : Dev nD) (V : Valuation τ sig (Elt F)) : (StableHlo.held (c : Thread nD τ) embRef V : sProp 𝕄)
    = ((Memref.whole main_arg3).view.loc (c : Thread nD τ) ↦[(Memref.whole main_arg3).view.set]{fullShare} V main_arg3) := by
  rw [show (Memref.whole main_arg3).view.set = Finset.univ from View.set_whole main_arg3]
  exact BI.bigSep_singleton

/-- A scratch buffer at something. -/
theorem some_owns (c : Dev nD) (b : Ref sig .tc) : (iprop(∃ f, owns (c : Thread nD τ) (Memref.whole b) fullShare f) : sProp 𝕄)
    = iprop(∃ f : Buf (Elt F) ((c : Thread nD τ).loc b), ((c : Thread nD τ).loc b) ↦{fullShare} f) :=
  congrArg (fun P : Buf (Elt F) ((c : Thread nD τ).loc b) → sProp 𝕄 => iprop(∃ f, P f)) (funext fun f => owns_whole _ _ _ _)

/-- What the attention grid's body holds before the first point. -/
theorem hin0 (c : Dev nD) : iprop((StableHlo.held (c : Thread nD τ) embRef (in0 m c) ∗ semVal ((c : Thread nD τ), .dma cc0_scratch3.sem) 0)
      ∗ prefHeld pre0 c (fun _ => fullShare) (adm m 0).1 ∗ Pipeline.scopedRest (Ix := Unit) (Name := ℕ) (U := UU nD τ) (Lvl := ℕ) (Val := Elt F) spec0 c)
    ⊢ (iprop(scratch0 (in0 m) (tab0 (in0 m)) c 0 ∗ fixed0 (in0 m) c) : sProp 𝕄) := by
  rw [table_owns, emb_held, scopedRest0_split]
  unfold scratch0 fixed0
  rw [some_owns, some_owns, some_owns]
  iintro ⟨⟨HE, HS⟩, HT, HR, HB⟩
  isplitl [HR]; · iexact HR
  isplitl [HT]; · iexact HT
  isplitl [HE]; · iexact HE
  isplitl [HS] <;> iassumption

/-- What it gives back after the last. -/
theorem hout0 (c : Dev nD) : (iprop(scratch0 (in0 m) (tab0 (in0 m)) c 8 ∗ fixed0 (in0 m) c) : sProp 𝕄)
    ⊢ iprop((prefHeld pre0 c (fun _ => fullShare) (adm m 0).1 ∗ StableHlo.held (c : Thread nD τ) embRef (in0 m c))
      ∗ semVal ((c : Thread nD τ), .dma cc0_scratch3.sem) 0 ∗ Pipeline.scopedRest (Ix := Unit) (Name := ℕ) (U := UU nD τ) (Lvl := ℕ) (Val := Elt F) spec0 c) := by
  rw [table_owns, emb_held, scopedRest0_split, ← some_owns, ← some_owns, ← some_owns]
  unfold fixed0
  rw [show scratch0 (in0 m) (tab0 (in0 m)) c 8 = iprop(owns (c : Thread nD τ) (Memref.whole cc0_scratch0) fullShare (qs0 (in0 m) (tab0 (in0 m)) c)
      ∗ owns (c : Thread nD τ) (Memref.whole cc0_scratch1) fullShare (cAt (in0 m) (tab0 (in0 m)) c 8)
      ∗ owns (c : Thread nD τ) (Memref.whole cc0_scratch2) fullShare (lAt (in0 m) (tab0 (in0 m)) c 8)) from rfl]
  iintro ⟨⟨H1, H2, H3⟩, HT, HE, HS, HB⟩
  isplitl [HT HE]; · isplitl [HT] <;> iassumption
  isplitl [HS]; · iexact HS
  isplitr [HB]
  · isplitl [H1]; · iexists _; iexact H1
    isplitl [H2]; · iexists _; iexact H2
    iexists _; iexact H3
  iexact HB

theorem W2_rest (c : Dev nD) (b : DevRef τ sig) (hb : b ∈ ucRefs τ sig \ arrRefs spec0) : W2 m hT c b = in0 m c b := by
  obtain ⟨hu, hn⟩ := Finset.mem_sdiff.mp hb
  obtain ⟨ht, -⟩ := Finset.mem_filter.mp hu
  obtain ⟨r, -, rfl⟩ := Finset.mem_map.mp ht
  refine V2_of m (left m hT) c r fun h => hn (Finset.mem_map.mpr ⟨r, ?_, rfl⟩)
  revert h; revert r; decide

set_option backward.isDefEq.respectTransparency.types false in
/-- The attention grid, entered from the buffers as the host's first stretch left them. -/
def reg0 : Pipeline.RDat.RegionSeg (pcfgs (F := F)) (adm m) (rdats m hT) () defs₀ 𝒱₀ L lv 0 where
  win := (launch0 (F := F)).win.to₀
  block_pos := (launch0 (F := F)).block_pos
  stage_whole := (launch0 (F := F)).stage_whole
  K := Fin 1
  osem := osem0
  ho := ownSemFacts0
  hbody c := (body0 (in0 m) (tab0 (in0 m)) c hT).loose.toR
  hwaits := Pipeline.RDat.hwaits_of_owed_zero (pcfgs (F := F)) (adm m) (rdats m hT) () L lv 0 fun _ _ => rfl
  pre c := iprop(StableHlo.held (c : Thread nD τ) (ucRefs τ sig) (in0 m c) ∗ R c)
  post c := iprop(StableHlo.held (c : Thread nD τ) (ucRefs τ sig) (W2 m hT c) ∗ R c)
  X c := iprop(StableHlo.held (c : Thread nD τ) embRef (in0 m c) ∗ semVal ((c : Thread nD τ), .dma cc0_scratch3.sem) 0)
  Y c := iprop(prefHeld pre0 c (fun _ => fullShare) (adm m 0).1 ∗ StableHlo.held (c : Thread nD τ) embRef (in0 m c))
  Z c := StableHlo.held (c : Thread nD τ) rest0 (in0 m c)
  hentry c := by
    have hs : (StableHlo.held (c : Thread nD τ) (ucRefs τ sig) (in0 m c) : sProp 𝕄)
        ⊢ iprop((rdats m hT 0 c).arrays (rdats m hT 0 c).A ∗ prefHeld pre0 c (fun _ => fullShare) (adm m 0).1
          ∗ StableHlo.held (c : Thread nD τ) embRef (in0 m c) ∗ StableHlo.held (c : Thread nD τ) rest0 (in0 m c)) :=
      Entails.of_eq (split0 m hT c (d0 m hT c).A (in0 m c) (fun w => A0_eq (in0 m) _ c hT w) (by rw [Subsingleton.elim c 0]))
    rw [ownSems0_one]
    iintro ⟨⟨Hub, HO⟩, Hos, -⟩
    ihave H := hs $$ Hub
    icases H with ⟨Ha, HT, HE, HR⟩
    imodintro
    isplitl [Ha]; · iexact Ha
    isplitl [HT]; · iexact HT
    isplitl [HO]
    · icases HO with ⟨%W, HO⟩; iexists W; isplitr; · ipureintro; exact fun _ _ => Or.inl trivial
      iexact HO
    isplitr [HR]
    · isplitl [HE] <;> iassumption
    iexact HR
  hin c := hin0 m c
  hout c := (hout0 m c).trans (by rw [ownSems0_one]; exact Entails.refl _)
  hexit c := by
    have hs := Entails.of_eq (split0 m hT c (fun w => (d0 m hT c).arrAt w 8) (W2 m hT c) (fun w => W2_arr m hT c w)
      ((V2_of m (left m hT) c main_v0 (by decide)).trans (by rw [Subsingleton.elim c 0]))).symm
    have hE : StableHlo.held (c : Thread nD τ) embRef (in0 m c) = (StableHlo.held (c : Thread nD τ) embRef (W2 m hT c) : sProp 𝕄) :=
      StableHlo.held_congr _ fun b hb => (W2_rest m hT c b (Finset.mem_sdiff.mp (embRef_sub hb)).1).symm
    have hR : StableHlo.held (c : Thread nD τ) rest0 (in0 m c) = (StableHlo.held (c : Thread nD τ) rest0 (W2 m hT c) : sProp 𝕄) :=
      StableHlo.held_congr _ fun b hb => (W2_rest m hT c b (Finset.mem_sdiff.mp (Finset.mem_sdiff.mp hb).1).1).symm
    have hA : (rdats m hT 0 c).arraysAt (Pipeline.pin (pcfgs (F := F)) (adm m) 0).N ⊢ (dats m hT 0 c).arrays (fun w => (d0 m hT c).arrAt w 8) :=
      Entails.of_eq ((d0 m hT c).toR_arraysAt_eq 8)
    rw [hE, hR]
    iintro ⟨Ha, HO, ⟨HT, HE⟩, HR⟩
    ihave Ha := hA $$ Ha
    imodintro
    isplitr [HO]
    · iapply hs
      isplitl [Ha]; · iexact Ha
      isplitl [HT]; · iexact HT
      isplitl [HE] <;> iassumption
    · icases HO with ⟨%W, -, HO⟩; iexists W; iexact HO

end Cert.KernelIdeal.Hand
-- ==== Proof.Seg1.lean ====
/-
  The second grid as a segment of the launch.
-/
module

public import proofs.«01_k».proof.Proof.Seg0

@[expose] public section

set_option maxRecDepth 16384

noncomputable section

namespace Cert.KernelIdeal.Hand

open Facts₀ Facts
open Cert.KernelIdeal.Gen

open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (UU nD τ) ℕ

section Kept

variable {cfg : Cfg sig Λ₀} {c : Dev nD} (dat : Dat τ (Elt F) Unit ℕ (UU nD τ) ℕ cfg c) (fgt : Fin cfg.W → Bool)
  (Rl : (w : Fin cfg.W) → Fin cfg.N → ((cfg.win w).block.Idx → Elt F (cfg.win w).elt) → Prop) (w : Fin cfg.W)

/-- An array none of whose blocks is left free ends at the named contents. -/
theorem kept_exact (h : fgt w = false) (n : ℕ) (G) (hG : (dat.toRRel fgt Rl).ArrAt w n G) : G = dat.arrAt w n :=
  dat.toR_arrAt w n G ((RDat.override_arrAt dat.toR (by rw [h]) n G).1 hG)

/-- An array whose blocks are written back with the named contents ends at them. -/
theorem kept_rel (h : fgt w = true)
    (hc : ∀ t X, Rl w t X → (cfg.win w).cut (cfg.grid.coords t) X = (cfg.win w).cut (cfg.grid.coords t) (dat.after w t)) :
    ∀ (n : ℕ) (G), (dat.toRRel fgt Rl).ArrAt w n G → G = dat.arrAt w n
  | 0, _, hG => hG
  | n + 1, G, hG => by
    by_cases hn : n < cfg.N
    · have hR := (dat.toRRel fgt Rl).ArrAt_succ w ⟨n, hn⟩
      have hD := dat.arrAt_succ w ⟨n, hn⟩
      dsimp only at hR hD
      rw [hR] at hG; rw [hD]
      by_cases hfl : (cfg.win w).flush ⟨n, hn⟩ = true
      · rw [if_pos hfl] at hG ⊢
        obtain ⟨G₀, X, hG₀, hX, rfl⟩ := hG
        rw [kept_rel h hc n G₀ hG₀, hc _ _ (dat.toRRel_leaves h hX),
          Dat.Leaves.cut_eq dat (dat.leaves_after_of_flush w ⟨n, hn⟩ hfl) hfl]
      · rw [if_neg hfl] at hG ⊢; exact kept_rel h hc n G hG
    · have hN : cfg.N ≤ n := Nat.not_lt.mp hn
      rw [(dat.toRRel fgt Rl).ArrAt_stable w (n + 1) (by omega), ← (dat.toRRel fgt Rl).ArrAt_stable w n hN] at hG
      rw [dat.arrAt_stable w (n + 1) (by omega), ← dat.arrAt_stable w n hN]
      exact kept_rel h hc n G hG

end Kept

variable (m : (ℓ : Idealize.ShloMosaic.Loc nD τ sig) → Buf (Elt F) ℓ) (hT : Rows m)

/-- The result the second grid writes block by block, alone. -/
abbrev outRef : Finset (DevRef τ sig) := {Proc.devRef .tc main_v7_0}
/-- Every other buffer. -/
abbrev rest1 : Finset (DevRef τ sig) := ucRefs τ sig \ outRef

theorem outRef_sub : outRef ⊆ ucRefs τ sig := by
  intro b hb
  obtain rfl := Finset.mem_singleton.mp hb
  exact Finset.mem_filter.mpr ⟨StableHlo.devRef_mem_tcRefs main_v7_0, by decide⟩

/-- The first result at the end. -/
abbrev outEnd (c : Dev nD) : sProp 𝕄 :=
  iprop(∃ X : Buf (Elt F) ((c : Thread nD τ).loc main_v7_0), ⌜Loc F → X = (d1 m hT c).arrAt (12 : Fin 15) 13⌝
    ∗ ((c : Thread nD τ).loc main_v7_0) ↦{fullShare} X)

/-- The buffers after the second grid, the first result at `X`. -/
def W4x (c : Dev nD) (X : Buf (Elt F) ((c : Thread nD τ).loc main_v7_0)) : Valuation τ sig (Elt F) :=
  Function.update (W4 m hT c) (Proc.devRef .tc main_v7_0) X

theorem W4x_out (c : Dev nD) (X) : W4x m hT c X main_v7_0 = X := Function.update_self _ _ _

theorem W4x_rest (c : Dev nD) (X) (b : DevRef τ sig) (hb : b ∈ rest1) : W4x m hT c X b = W4 m hT c b :=
  Function.update_of_ne (fun h => (Finset.mem_sdiff.mp hb).2 (Finset.mem_singleton.mpr h)) _ _

/-- The arrays' contents after the second grid, the first result at `X`. -/
def G1 (c : Dev nD) (X : Buf (Elt F) ((c : Thread nD τ).loc main_v7_0)) (w : Fin cfg1.W) : Buf (Elt F) ((cfg1.win w).arr.view.loc (c.tc : Thread nD τ)) :=
  W4x m hT c X (arrRef spec1 w)

theorem G1_eq (c : Dev nD) (Gs : (w : Fin cfg1.W) → Buf (Elt F) ((cfg1.win w).arr.view.loc (c.tc : Thread nD τ)))
    (h : ∀ w, ((d1 m hT c).toRRel fgt1 (rel1 (in1 m hT) c)).ArrAt w 13 (Gs w)) (w : Fin cfg1.W) : Gs w = G1 m hT c (Gs (12 : Fin 15)) w := by
  by_cases hw : w = (12 : Fin 15)
  · subst hw; exact (W4x_out m hT c _).symm
  · have hf : fgt1 w = false := by
      revert hw; revert w; decide
    refine (kept_exact _ _ _ w hf 13 _ (h w)).trans ((W4_arr m hT c w).trans (W4x_rest m hT c _ _ ?_).symm)
    refine Finset.mem_sdiff.mpr ⟨Finset.mem_filter.mpr ⟨StableHlo.devRef_mem_tcRefs _, ?_⟩, ?_⟩
    · revert hw; clear hf h; revert w; decide
    · intro hm
      have := Proc.devRef_injective _ (Finset.mem_singleton.mp hm)
      revert this hw; clear hf h hm; revert w; decide

theorem G1_out (c : Dev nD) (X) (h : ((d1 m hT c).toRRel fgt1 (rel1 (in1 m hT) c)).ArrAt (12 : Fin 15) 13 X) (hL : Loc F) :
    X = (d1 m hT c).arrAt (12 : Fin 15) 13 :=
  kept_rel (d1 m hT c) fgt1 (rel1 (in1 m hT) c) (12 : Fin 15) rfl (fun t X hX => hX hL) 13 X h

set_option backward.isDefEq.respectTransparency.types false in
/-- The arrays as the second grid leaves them. -/
theorem exit1 (c : Dev nD) : (rdats m hT 1 c).arraysAt (Pipeline.pin (pcfgs (F := F)) (adm m) 1).N
    ⊢ (iprop(∃ X : Buf (Elt F) ((c : Thread nD τ).loc main_v7_0), ⌜Loc F → X = (d1 m hT c).arrAt (12 : Fin 15) 13⌝ ∗ (dats m hT 1 c).arrays (G1 m hT c X)) : sProp 𝕄) := by
  unfold RDat.arraysAt
  iintro Ha
  ihave Ha' := (BI.bigSep_exists_pi Finset.univ (fun w G => iprop(⌜(rdats m hT 1 c).ArrAt w (Pipeline.pin (pcfgs (F := F)) (adm m) 1).N G⌝
      ∗ ((Pipeline.pin (pcfgs (F := F)) (adm m) 1).win w).arr.view.loc (c.tc : Thread nD τ) ↦[((Pipeline.pin (pcfgs (F := F)) (adm m) 1).win w).arr.view.set]{(rdats m hT 1 c).share w} G))) $$ Ha
  icases Ha' with ⟨%Gs, Ha⟩
  ihave Ha2 := (BI.bigSep_pure_sep Finset.univ (fun w => (rdats m hT 1 c).ArrAt w (Pipeline.pin (pcfgs (F := F)) (adm m) 1).N (Gs w))
      (fun w => ((Pipeline.pin (pcfgs (F := F)) (adm m) 1).win w).arr.view.loc (c.tc : Thread nD τ) ↦[((Pipeline.pin (pcfgs (F := F)) (adm m) 1).win w).arr.view.set]{(rdats m hT 1 c).share w} Gs w)) $$ Ha
  icases Ha2 with ⟨%hGs, Ha⟩
  have hG : ∀ w, ((d1 m hT c).toRRel fgt1 (rel1 (in1 m hT) c)).ArrAt w 13 (Gs w) := fun w => hGs w (Finset.mem_univ w)
  have hA : (bigSep Finset.univ fun w => ((Pipeline.pin (pcfgs (F := F)) (adm m) 1).win w).arr.view.loc (c.tc : Thread nD τ) ↦[((Pipeline.pin (pcfgs (F := F)) (adm m) 1).win w).arr.view.set]{(rdats m hT 1 c).share w} Gs w)
      ⊢ ((dats m hT 1 c).arrays (G1 m hT c (Gs (12 : Fin 15))) : sProp 𝕄) := by
    rw [← show Gs = G1 m hT c (Gs (12 : Fin 15)) from funext fun w => G1_eq m hT c Gs hG w]
    exact Entails.refl _
  iexists (Gs (12 : Fin 15))
  isplitr
  · ipureintro; exact G1_out m hT c _ (hG (12 : Fin 15))
  iapply hA
  iexact Ha

theorem held_outRef (c : Dev nD) (V : Valuation τ sig (Elt F)) : (StableHlo.held (c : Thread nD τ) outRef V : sProp 𝕄)
    = iprop(((c : Thread nD τ).loc main_v7_0) ↦{fullShare} V main_v7_0) := BI.bigSep_singleton

/-- What the body holds before the first point. -/
theorem hin1 (c : Dev nD) : (Pipeline.scopedRest (Ix := Unit) (Name := ℕ) (U := UU nD τ) (Lvl := ℕ) (Val := Elt F) spec1 c : sProp 𝕄)
    ⊢ iprop(scratch1 (in1 m hT) c 0 ∗ fixed1 c) := by
  rw [Pipeline.scopedRest_split_of_list spec1 c [cc1_scratch0] (by decide) (by decide)]
  unfold fixed1
  rw [show scratch1 (in1 m hT) c 0 = iprop(∃ f, owns (c : Thread nD τ) (Memref.whole cc1_scratch0) fullShare f) from rfl, some_owns]
  exact Entails.refl _

/-- What it gives back after the last. -/
theorem hout1 (c : Dev nD) : (iprop(scratch1 (in1 m hT) c 13 ∗ fixed1 c) : sProp 𝕄)
    ⊢ Pipeline.scopedRest (Ix := Unit) (Name := ℕ) (U := UU nD τ) (Lvl := ℕ) (Val := Elt F) spec1 c := by
  have hsplit : iprop((∃ f : Buf (Elt F) ((c : Thread nD τ).loc cc1_scratch0), ((c : Thread nD τ).loc cc1_scratch0) ↦{fullShare} f)
      ∗ Pipeline.scopedRestBut (Ix := Unit) (Name := ℕ) (U := UU nD τ) (Lvl := ℕ) (Val := Elt F) spec1 c [cc1_scratch0])
      ⊢ (Pipeline.scopedRest (Ix := Unit) (Name := ℕ) (U := UU nD τ) (Lvl := ℕ) (Val := Elt F) spec1 c : sProp 𝕄) :=
    Entails.of_eq (Pipeline.scopedRest_split_of_list spec1 c [cc1_scratch0] (by decide) (by decide)).symm
  unfold fixed1
  have hsome := Entails.of_eq (some_owns (F := F) c cc1_scratch0)
  rw [show scratch1 (in1 m hT) c 13 = owns (c : Thread nD τ) (Memref.whole cc1_scratch0) fullShare (hsPay (hn1 (in1 m hT) c)) from rfl]
  iintro ⟨H, HB⟩
  iapply hsplit
  isplitr [HB]
  · iapply hsome; iexists _; iexact H
  iexact HB

theorem image_out (r : Ref sig .tc) (h : r ∈ ([main_v7_0, main_v7_1, main_v7_2] : List (Ref sig .tc))) :
    r ∈ Finset.univ.image (arrRef spec1) := by revert h; revert r; decide

set_option backward.isDefEq.respectTransparency.types false in
/-- The second grid, entered from the buffers as the host's second stretch left them. -/
def reg1 : Pipeline.RDat.RegionSeg (pcfgs (F := F)) (adm m) (rdats m hT) () defs₀ 𝒱₀ L lv 1 where
  win := (launch₀1 (F := F)).win
  block_pos := (launch₀1 (F := F)).block_pos
  stage_whole := (launch₀1 (F := F)).stage_whole
  K := PEmpty
  osem k := k.elim
  ho := OwnSemFacts.none _
  hbody c := (body1_ok (in1 m hT) c).toRRel
  hwaits := Pipeline.RDat.hwaits_of_owed_zero (pcfgs (F := F)) (adm m) (rdats m hT) () L lv 1 fun _ _ => rfl
  pre c := iprop(StableHlo.held (c : Thread nD τ) (ucRefs τ sig) (in1 m hT c) ∗ R c)
  post c := iprop(StableHlo.held (c : Thread nD τ) rest1 (W4 m hT c) ∗ outEnd m hT c ∗ R c)
  X _ := iprop(emp)
  Y _ := iprop(emp)
  Z c := Pipeline.unscopedRest (Ix := Unit) (Name := ℕ) (U := UU nD τ) (Lvl := ℕ) (Val := Elt F) spec1 c (fun b => in1 m hT c b)
  hentry c := by
    have hs : (StableHlo.held (c : Thread nD τ) (ucRefs τ sig) (in1 m hT c) : sProp 𝕄)
        ⊢ iprop((rdats m hT 1 c).arrays (rdats m hT 1 c).A ∗ Pipeline.unscopedRest (Ix := Unit) (Name := ℕ) (U := UU nD τ) (Lvl := ℕ) (Val := Elt F) spec1 c (fun b => in1 m hT c b)) :=
      (Entails.of_eq (unscopedBufs_held c (in1 m hT c)).symm).trans
        (arrays_of_unscopedBufs_shared (pcfgs (F := F)) (adm m) (dats m hT) (p := 1) (launch₀1 (F := F)).win (launch₀1 (F := F)).sharedIn
          (launch₀1 (F := F)).arr_whole c (fun _ _ => rfl) (fun b => in1 m hT c b) (fun w => A1_eq (in1 m hT) c w))
    iintro ⟨⟨Hub, HO⟩, -, -⟩
    ihave H := hs $$ Hub
    icases H with ⟨Ha, HR⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitr; · iempintro
    iexact HR
  hin c := by
    have h : _ ⊢ (rdats m hT 1 c).Φ 0 := hin1 m hT c
    iintro ⟨-, -, H⟩
    iapply h
    iexact H
  hout c := by
    rw [ownSems0_none]
    have h : (rdats m hT 1 c).Φ (Fin.last (Pipeline.pin (pcfgs (F := F)) (adm m) 1).N) ⊢ _ := hout1 m hT c
    iintro H
    ihave H := h $$ H
    isplitr; · iempintro
    isplitr; · iempintro
    iexact H
  hexit c := by
    have hs (X : Buf (Elt F) ((c : Thread nD τ).loc main_v7_0)) : (iprop((dats m hT 1 c).arrays (G1 m hT c X)
          ∗ Pipeline.unscopedRest (Ix := Unit) (Name := ℕ) (U := UU nD τ) (Lvl := ℕ) (Val := Elt F) spec1 c (fun b => in1 m hT c b)) : sProp 𝕄)
        ⊢ iprop((((c : Thread nD τ).loc main_v7_0) ↦{fullShare} X) ∗ StableHlo.held (c : Thread nD τ) rest1 (W4 m hT c)) := by
      refine (unscopedBufs_of_arrays_shared (pcfgs (F := F)) (adm m) (p := 1) (launch₀1 (F := F)).win (launch₀1 (F := F)).sharedIn
          (launch₀1 (F := F)).arr_whole c (dats m hT) (fun _ _ => rfl) (fun b => in1 m hT c b) (fun b => W4x m hT c X b) (G1 m hT c X) (fun w => rfl) ?_).trans ?_
      · intro b hb
        refine (Function.update_of_ne (fun e => ?_) _ _).trans (V4_of m (left m hT) c b fun h => hb (image_out b h))
        exact hb (image_out b (by rw [Proc.devRef_injective _ e]; decide))
      · refine (Entails.of_eq ((unscopedBufs_held c (W4x m hT c X)).trans (StableHlo.held_sub_split _ outRef_sub (W4x m hT c X)))).trans ?_
        rw [held_outRef, W4x_out, StableHlo.held_congr _ fun b hb => W4x_rest m hT c X b hb]
    have he := exit1 m hT c
    iintro ⟨Ha, HO, -, HR⟩
    ihave Ha := he $$ Ha
    icases Ha with ⟨%X, %hX, Ha⟩
    ihave H := (hs X) $$ [Ha HR]
    · isplitl [Ha] <;> iassumption
    icases H with ⟨HX, Hh⟩
    imodintro
    isplitl [Hh]; · iexact Hh
    isplitr [HO]
    · iexists X
      isplitr; · ipureintro; exact hX
      iexact HX
    · icases HO with ⟨%W, -, HO⟩; iexists W; iexact HO

end Cert.KernelIdeal.Hand
-- ==== Proof.Run.lean ====
/-
  The launch: the host's operations and the two grids in order, and what every buffer holds at the end.
-/
module

public import proofs.«01_k».proof.Proof.Seg1

@[expose] public section

set_option maxRecDepth 16384

noncomputable section

namespace Cert.KernelIdeal.Hand

open Facts₀ Facts
open Cert.KernelIdeal.Gen

open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (UU nD τ) ℕ

variable (m : (ℓ : Idealize.ShloMosaic.Loc nD τ sig) → Buf (Elt F) ℓ) (ρ : Dev nD → PrngReg) (hT : Rows m)

abbrev EP : Emb (UR sig nD τ) (MT nD τ sig Unit (Elt F) ℕ (UU nD τ) ℕ) := embL

/-- The launch element: the staging cells' and nothing of the transfers' counters yet. -/
def u₀ : UU nD τ := (initOf (Pipeline.cells (Pipeline.pin (pcfgs (F := F)) (adm m)) (cellOf_inj (adm m)))
  (Pipeline.launchToks (Pipeline.pin (pcfgs (F := F)) (adm m)) (cellOf_inj (adm m))), 1)

theorem hostOps2_keep : (hostOps2 : List (HloOp τ sig (Elt F))).Forall fun op => (Proc.devRef .tc main_v7_0 : DevRef τ sig) ∉ op.bufs :=
  ⟨show (Proc.devRef .tc main_v7_0 : DevRef τ sig) ∉ ({Proc.devRef .tc main_v7_2, Proc.devRef .tc main_v8} : Finset (DevRef τ sig)) by decide,
    show (Proc.devRef .tc main_v7_0 : DevRef τ sig) ∉ ({Proc.devRef .tc main_v8, Proc.devRef .tc main_v9} : Finset (DevRef τ sig)) by decide⟩

theorem hostOps2_rest (op : HloOp τ sig (Elt F)) (h : op ∈ (hostOps2 : List (HloOp τ sig (Elt F)))) : op.bufs ⊆ rest1 := fun b hb =>
  Finset.mem_sdiff.mpr ⟨Pipeline.sub_ucRefs op ((List.forall_iff_forall_mem.mp hostOps2_sub) op h) hb, fun hm =>
    (List.forall_iff_forall_mem.mp hostOps2_keep) op h (Finset.mem_singleton.mp hm ▸ hb)⟩

/-- The host's stretches. -/
abbrev host0 : Pipeline.HostSeg (Name := ℕ) (U := UU nD τ) (pcfgs (F := F)) defs₀ 𝒱₀ L lv :=
  Pipeline.HostSeg.ofOps _ _ _ _ _ (ucRefs τ sig) hostOps0 (fun op h => Pipeline.sub_ucRefs op ((List.forall_iff_forall_mem.mp hostOps0_sub) op h))
    (fun op h => (List.forall_iff_forall_mem.mp hostOps0_fresh) op h) (V0 m) R
abbrev host1 : Pipeline.HostSeg (Name := ℕ) (U := UU nD τ) (pcfgs (F := F)) defs₀ 𝒱₀ L lv :=
  Pipeline.HostSeg.ofOps _ _ _ _ _ (ucRefs τ sig) hostOps1 (fun op h => Pipeline.sub_ucRefs op ((List.forall_iff_forall_mem.mp hostOps1_sub) op h))
    (fun op h => (List.forall_iff_forall_mem.mp hostOps1_fresh) op h) (W2 m hT) R
abbrev host2 : Pipeline.HostSeg (Name := ℕ) (U := UU nD τ) (pcfgs (F := F)) defs₀ 𝒱₀ L lv :=
  Pipeline.HostSeg.ofOps _ _ _ _ _ rest1 hostOps2 hostOps2_rest
    (fun op h => (List.forall_iff_forall_mem.mp hostOps2_fresh) op h) (W4 m hT) (fun c => iprop(outEnd m hT c ∗ R c))

abbrev segs : List (Pipeline.RDat.Seg (pcfgs (F := F)) (adm m) (rdats m hT) () defs₀ 𝒱₀ L lv) :=
  [.host (host0 m), .region (reg0 m hT), .host (host1 m hT), .region (reg1 m hT), .host (host2 m hT)]

/-- What the launch leaves on a core. -/
abbrev Tend (c : Dev nD) : sProp 𝕄 := iprop(StableHlo.held (c : Thread nD τ) rest1 (W5 m hT c) ∗ outEnd m hT c)

/-- What every final memory holds. -/
def Ends (c : Dev nD) (s : MemSt nD τ sig (Elt F)) : Prop :=
  (∀ b ∈ rest1, s.mem (c, b) = W5 m hT c b) ∧ (Loc F → s.mem ((c : Thread nD τ).loc main_v7_0) = (d1 m hT c).arrAt (12 : Fin 15) 13)

theorem read_end (c : Dev nD) (s' : Phys nD τ sig (Elt F)) : (iprop(Tend m hT c ∗ SI s') : sProp 𝕄) ⊢ iprop(⌜Ends m hT c s'.mem⌝ ∗ SI s') := by
  unfold Tend StableHlo.held
  iintro ⟨⟨Hh, %X, %hX, H⟩, HSI⟩
  icombine HSI H gives %hx
  ihave Hr := (pointsTo_read_all rest1 (fun b => ((c : Thread nD τ).1, b)) (W5 m hT c) s') $$ [Hh HSI]
  · isplitl [Hh] <;> iassumption
  icases Hr with ⟨%h, HSI⟩
  isplitr
  · ipureintro
    exact ⟨h, fun hL => (Buf.eq_of_forall_mem_univ hx).trans (hX hL)⟩
  iexact HSI

set_option backward.isDefEq.respectTransparency.types false in
/-- From any memory whose index words name rows of the table, with every counter at zero: every execution ends, with
    every buffer as named and every counter at zero. -/
theorem run_main : θ_run defs (onTc (τ := τ) (main (F := F))) ⟨m, fun _ => 0, ρ⟩ (fun r => (∀ c, Ends m hT c r.2) ∧ r.2.sem = fun _ => 0) :=
  Pipeline.RDat.θ_run_regions_kit_sems (pcfgs (F := F)) (adm m) (rdats m hT) () (cellOf_inj (adm m)) EP defs₀ 𝒱₀ L lv m ρ main (segs m hT)
    (fun c Q => by
      rewrite [main_chain c, Pipeline.RDat.Seg.run_eq_chain,
        show (segs m hT).map Pipeline.RDat.Seg.prog = [StableHlo.seq hostOps0, Prog.lift (.customCall (Pipeline.entry 0) ()),
          StableHlo.seq hostOps1, Prog.lift (.customCall (Pipeline.entry 1) ()), StableHlo.seq hostOps2] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ R c)) (Tₙ := Tend m hT)
    (hch := ⟨fun _ => .rfl, fun _ => .rfl, fun _ => .rfl, fun _ => .rfl, fun _ => .rfl, fun c => by
      show iprop(StableHlo.held (c : Thread nD τ) rest1 (W5 m hT c) ∗ outEnd m hT c ∗ R c) ⊢ iprop(Tend m hT c ∗ R c)
      iintro ⟨H1, H2, H3⟩
      isplitr [H3]
      · isplitl [H1] <;> iassumption
      iexact H3⟩)
    (hinit := by
      refine Pipeline.initEach L lv fun c => ?_
      rw [show unscopedBufs c (fun b => m ((c : Thread nD τ).loc b)) = StableHlo.held (c : Thread nD τ) (ucRefs τ sig) (V0 m c) from unscopedBufs_held c (V0 m c)]
      iintro ⟨⟨Hh, -, HO, -, -, -⟩, -⟩
      imodintro
      isplitl [Hh]; · iexact Hh
      iexists ∅; iexact HO)
    (QY := fun c s => Ends m hT c s)
    (hfin := fun c s' => by
      have h := read_end m hT c s'
      iintro H
      imodintro
      iapply h
      iexact H)
    (hQ := fun _ h hz => ⟨h, funext fun g => hz g (.inr (regions_no_unscoped g.2))⟩)

end Cert.KernelIdeal.Hand
-- ==== Proof.Pre.lean ====
/-
  What the two preconditions say: every index word is below the table's height, and (for the value claim) the
  weights that score a position are finite.
-/
module

public import proofs.«01_k».proof.Proof.Run
public import proofs.«01_k».proof.Proof.Gen.Pre_rows_named
public import proofs.«01_k».proof.Proof.Gen.Pre_rows_named_scores_finite
public import Idealize.ShloMosaic.Lib.ReduceAll
public import Idealize.ShloMosaic.PureOps.Ideal.Laws

@[expose] public section

set_option maxRecDepth 16384

noncomputable section

namespace Cert.KernelIdeal.Hand

open Idealize.ShloMosaic
open Idealize.ShloMosaic.TcCoe

theorem below_of_words (v : BitVec 32)
    (e : IntOp.andi (IntOp.cmpi .sge v 0#32) (IntOp.cmpi .slt v 100000#32) = 1#1) : v.toNat < 100000 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, both, one, Bool.and_eq_true, BitVec.sle_eq_decide, BitVec.slt_eq_decide, decide_eq_true_eq,
    BitVec.toInt_eq_toNat_cond, BitVec.toNat_ofNat, Nat.reducePow, Nat.reduceMod] at e
  omega

theorem and_parts (a b : BitVec 1) (e : IntOp.andi a b = 1#1) : a = 1#1 ∧ b = 1#1 := by
  revert a b; decide

instance : Subsingleton (Cert.Pre_rows_named.S_).Idx := ⟨fun i j => funext fun a => a.elim0⟩
instance : Subsingleton (Cert.Pre_rows_named_scores_finite.S_).Idx := ⟨fun i j => funext fun a => a.elim0⟩

variable {F : FTy → Type} [FloatOps F]

theorem rows_of_named {x0 : IVec Cert.Pre_rows_named.S32x1 32} {x1 x2 x3 x4 x5 x6 x7 x8 x9 x10 x11 x12 x13 x14}
    (h : Cert.Pre_rows_named.fn (F := F) x0 x1 x2 x3 x4 x5 x6 x7 x8 x9 x10 x11 x12 x13 x14 = fun _ => 1#1)
    (i : Cert.Pre_rows_named.S32x1.Idx) : (x0 i).toNat < 100000 := by
  have e := congrFun h (fun a => a.elim0)
  dsimp only [Cert.Pre_rows_named.fn] at e
  exact below_of_words _ (Host.reduce_andi_all _ _ _ _ _ e i)

/-- Magnitude below the infinite word: finite, at the extended reals. -/
theorem finite_of_cmp (x : EReal) (e : FloatOps.cmpf (F := Ideal) (φ := .f32) .olt (FloatOps.absf (F := Ideal) (φ := .f32) x)
    (FloatOps.ofBits (F := Ideal) .f32 0x7F800000#32) = 1#1) : x ≠ ⊤ ∧ x ≠ ⊥ := by
  rw [Ideal.cmpf_def, Ideal.absf_def] at e
  have ht : (FloatOps.ofBits (F := Ideal) .f32 0x7F800000#32 : EReal) = ⊤ := by
    show Ideal.ofBits .f32 0x7F800000#32 = ⊤
    simp [Ideal.ofBits, Ideal.ieee]
  rw [ht] at e
  constructor
  · rintro rfl
    revert e; simp [Ideal.cmp]
  · rintro rfl
    revert e; simp [Ideal.cmp]

theorem rows_of_finite {x0 : IVec Cert.Pre_rows_named_scores_finite.S32x1 32} {x1 x2 x3 x4 x5 x6 x7 x8 x9 x10 x11 x12 x13 x14}
    (h : Cert.Pre_rows_named_scores_finite.fn (F := F) x0 x1 x2 x3 x4 x5 x6 x7 x8 x9 x10 x11 x12 x13 x14 = fun _ => 1#1)
    (i : Cert.Pre_rows_named_scores_finite.S32x1.Idx) : (x0 i).toNat < 100000 := by
  have e := congrFun h (fun a => a.elim0)
  dsimp only [Cert.Pre_rows_named_scores_finite.fn] at e
  exact below_of_words _ (Host.reduce_andi_all _ _ _ _ _ (and_parts _ _ (and_parts _ _ e).1).1 i)

theorem weights_of_finite {x0 : IVec Cert.Pre_rows_named_scores_finite.S32x1 32} {x1 x2 x3 x4 x5 x6 x7 x8 x9 x10 x11 x12 x13 x14}
    (h : Cert.Pre_rows_named_scores_finite.fn (F := Ideal) x0 x1 x2 x3 x4 x5 x6 x7 x8 x9 x10 x11 x12 x13 x14 = fun _ => 1#1) :
    (∀ i, (x8 i : EReal) ≠ ⊤ ∧ (x8 i : EReal) ≠ ⊥) ∧ ∀ i, (x9 i : EReal) ≠ ⊤ ∧ (x9 i : EReal) ≠ ⊥ := by
  have e := congrFun h (fun a => a.elim0)
  dsimp only [Cert.Pre_rows_named_scores_finite.fn] at e
  have e1 := and_parts _ _ e
  exact ⟨fun i => finite_of_cmp _ (Host.reduce_andi_all _ _ _ _ _ (and_parts _ _ e1.1).2 i),
    fun i => finite_of_cmp _ (Host.reduce_andi_all _ _ _ _ _ e1.2 i)⟩

/-- Words below the table's height name rows of it. -/
theorem rows_of_words (m : (ℓ : Idealize.ShloMosaic.Loc nD τ sig) → Buf (Elt F) ℓ)
    (h : ∀ (c : Dev nD) (i : S32x1.Idx), ((m (((c : Thread nD τ)).loc main_arg0) : IVec S32x1 32) i).toNat < 100000) : Rows m := by
  intro c r hr _ a
  have hw : (word (F := F) (in0 m c main_v0) r hr).toNat < 100000 := h c _
  fin_cases a
  · show (word (F := F) (in0 m c main_v0) r hr).toNat + 1 ≤ 100000
    omega
  · show 0 + 64 ≤ 64
    omega

end Cert.KernelIdeal.Hand

end
-- ==== Proof.Frames.lean ====
/-
  The frames: every execution of the idealized kernel, and of the reference, ends with the arguments unchanged and every
  counter at zero.
-/
module

public import proofs.«01_k».proof.Defs
public import proofs.«01_k».proof.Proof.Pre
public import proofs.«01_k».proof.Proof.Gen.ReferenceIdeal.Run

@[expose] public section

set_option maxRecDepth 16384

noncomputable section

namespace Cert.KernelIdeal.Hand

open Facts₀ Facts
open Cert.KernelIdeal.Gen

open Idealize.ShloMosaic Idealize.ShloMosaic.Pipeline
open Idealize.ShloMosaic.TcCoe Idealize.SL.Sem

variable {F : FTy → Type} [FloatOps F]

variable (m : (ℓ : Idealize.ShloMosaic.Loc nD τ sig) → Buf (Elt F) ℓ) (hT : Rows m)

theorem mem_rest1 (r : Ref sig .tc) (hs : (Proc.devRef .tc r : DevRef τ sig).isScoped = false) (hr : r ≠ main_v7_0) :
    (Proc.devRef .tc r : DevRef τ sig) ∈ rest1 :=
  Finset.mem_sdiff.mpr ⟨Finset.mem_filter.mpr ⟨StableHlo.devRef_mem_tcRefs r, by simp [hs]⟩,
    fun h => hr (Proc.devRef_injective _ (Finset.mem_singleton.mp h))⟩

theorem arg_kept {c : Dev nD} {s : MemSt nD τ sig (Elt F)} (h : Ends m hT c s) (r : Ref sig .tc)
    (hs : (Proc.devRef .tc r : DevRef τ sig).isScoped = false) (hr : r ≠ main_v7_0) (x : Buf (Elt F) ((c.tc : Thread nD τ).loc r))
    (hV : W5 m hT c (Proc.devRef .tc r) = x) : s.mem ((c.tc : Thread nD τ).loc r) = x :=
  (h.1 _ (mem_rest1 r hs hr)).trans hV

set_option maxHeartbeats 2000000 in
/-- The arguments of @main are unchanged in a memory that ends as named. -/
theorem args_kept {c : Dev nD} {s : MemSt nD τ sig (Elt F)} (h : Ends m hT c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14) :=
  ⟨arg_kept m hT h main_arg0 rfl (by decide) _ (V5_main_arg0 m (left m hT) c),
    arg_kept m hT h main_arg1 rfl (by decide) _ (V5_main_arg1 m (left m hT) c),
    arg_kept m hT h main_arg2 rfl (by decide) _ (V5_main_arg2 m (left m hT) c),
    arg_kept m hT h main_arg3 rfl (by decide) _ (V5_main_arg3 m (left m hT) c),
    arg_kept m hT h main_arg4 rfl (by decide) _ (V5_main_arg4 m (left m hT) c),
    arg_kept m hT h main_arg5 rfl (by decide) _ (V5_main_arg5 m (left m hT) c),
    arg_kept m hT h main_arg6 rfl (by decide) _ (V5_main_arg6 m (left m hT) c),
    arg_kept m hT h main_arg7 rfl (by decide) _ (V5_main_arg7 m (left m hT) c),
    arg_kept m hT h main_arg8 rfl (by decide) _ (V5_main_arg8 m (left m hT) c),
    arg_kept m hT h main_arg9 rfl (by decide) _ (V5_main_arg9 m (left m hT) c),
    arg_kept m hT h main_arg10 rfl (by decide) _ (V5_main_arg10 m (left m hT) c),
    arg_kept m hT h main_arg11 rfl (by decide) _ (V5_main_arg11 m (left m hT) c),
    arg_kept m hT h main_arg12 rfl (by decide) _ (V5_main_arg12 m (left m hT) c),
    arg_kept m hT h main_arg13 rfl (by decide) _ (V5_main_arg13 m (left m hT) c),
    arg_kept m hT h main_arg14 rfl (by decide) _ (V5_main_arg14 m (left m hT) c)⟩

end Cert.KernelIdeal.Hand

namespace Cert.Proof

open Idealize.ShloMosaic Idealize.SL.Sem

theorem rows_Kernel (m : (ℓ : Loc Cert.Kernel.nD Cert.Kernel.τ Cert.Kernel.sig) → Buf (Elt Bits) ℓ) (h : Cert.Pre_Kernel m) :
    Cert.KernelIdeal.Hand.Rows (F := Bits) m :=
  Cert.KernelIdeal.Hand.rows_of_words (F := Bits) m fun c i => Cert.KernelIdeal.Hand.rows_of_named (h c) i

theorem rows_KernelIdeal (m : (ℓ : Loc Cert.KernelIdeal.nD Cert.KernelIdeal.τ Cert.KernelIdeal.sig) → Buf (Elt Ideal) ℓ) (h : Cert.Pre_KernelIdeal m) :
    Cert.KernelIdeal.Hand.Rows (F := Ideal) m :=
  Cert.KernelIdeal.Hand.rows_of_words (F := Ideal) m fun c i => Cert.KernelIdeal.Hand.rows_of_named (h c) i

theorem rows_finite (m : (ℓ : Loc Cert.KernelIdeal.nD Cert.KernelIdeal.τ Cert.KernelIdeal.sig) → Buf (Elt Ideal) ℓ)
    (h : Cert.Pre_KernelIdeal_rows_named_scores_finite m) : Cert.KernelIdeal.Hand.Rows (F := Ideal) m :=
  Cert.KernelIdeal.Hand.rows_of_words (F := Ideal) m fun c i => Cert.KernelIdeal.Hand.rows_of_finite (h c) i

theorem frame_ideal : Cert.quiescent_KernelIdeal := fun m ρ hp =>
  (θ_run Cert.KernelIdeal.defs _ _).mono (fun _ h => ⟨fun c => Cert.KernelIdeal.Hand.args_kept (F := Ideal) m (rows_KernelIdeal m hp) (h.1 c), h.2⟩)
    (Cert.KernelIdeal.Hand.run_main (F := Ideal) m ρ (rows_KernelIdeal m hp))

theorem frame_finite : Cert.quiescent_KernelIdeal_pre_rows_named_scores_finite := fun m ρ hp =>
  (θ_run Cert.KernelIdeal.defs _ _).mono (fun _ h => ⟨fun c => Cert.KernelIdeal.Hand.args_kept (F := Ideal) m (rows_finite m hp) (h.1 c), h.2⟩)
    (Cert.KernelIdeal.Hand.run_main (F := Ideal) m ρ (rows_finite m hp))

theorem frame_reference : Cert.quiescent_ReferenceIdeal := fun m ρ _ =>
  (θ_run Cert.ReferenceIdeal.defs _ _).mono (fun r h => ⟨fun c => (h c).2.2.2, sem_eq_zero_of_no_sems rfl r.2⟩)
    (Cert.ReferenceIdeal.Value.run (F := Ideal) m ρ)

theorem frame_reference_finite : Cert.quiescent_ReferenceIdeal_pre_rows_named_scores_finite := fun m ρ _ =>
  (θ_run Cert.ReferenceIdeal.defs _ _).mono (fun r h => ⟨fun c => (h c).2.2.2, sem_eq_zero_of_no_sems rfl r.2⟩)
    (Cert.ReferenceIdeal.Value.run (F := Ideal) m ρ)

end Cert.Proof

end
-- ==== Proof.Twin0.lean ====
/-
  The two printings of the attention body agree at the first tile.
-/
module

public import proofs.«01_k».proof.Kernel
public import proofs.«01_k».proof.KernelIdeal
public import proofs.«01_k».proof.Proof.Gen.Kernel
public import proofs.«01_k».proof.Proof.Gen.KernelIdeal
public import proofs.«01_k».proof.Proof.BodyEq

@[expose] public section

noncomputable section

namespace Cert.Kernel.Twin

open Idealize.ShloMosaic Idealize.SL.Sem
open Cert.KernelIdeal.Hand (op_congr)

variable {F : FTy → Type} [FloatOps F]

theorem sig_eq : Cert.Kernel.sig = Cert.KernelIdeal.sig := rfl

set_option maxRecDepth 65536 in
set_option maxHeartbeats 40000000 in
theorem attn_first (i : grid0.Coords) (h1 : k0_cond1 i = 1#1) (arg1 : Memref sig .tc .smem S32 .i32) (harg1 : arg1.IsWhole) (arg2 : Memref sig .tc .vmem S32x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S32x256x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x1 .f32) (harg8 : arg8.IsWhole) (arg9 : Memref sig .tc .hbm S100000x64 .f32) (harg9 : arg9.IsWhole) (arg10 : Memref sig .tc .vmem S256x32 .f32) (harg10 : arg10.IsWhole) (arg11 : Memref sig .tc .vmem S32x256 .f32) (harg11 : arg11.IsWhole) (arg12 : Memref sig .tc .vmem S32x1 .f32) (harg12 : arg12.IsWhole) (arg13 : Memref sig .tc .vmem S32x64 .f32) (harg13 : arg13.IsWhole) (arg14 : Memref sig .tc .vmem S32x256 .f32) (harg14 : arg14.IsWhole) (arg15 : Memref sig .tc .vmem S32x256 .f32) (harg15 : arg15.IsWhole) (arg16 : Memref sig .tc .vmem S32x1 .f32) (harg16 : arg16.IsWhole) (arg17 : DmaSems sig S_) :
    Cert.Kernel.cc0__attn_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 = Cert.KernelIdeal.cc0__attn_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 := by
  unfold Cert.Kernel.cc0__attn_kernel Cert.KernelIdeal.cc0__attn_kernel Cert.Kernel.k0_part42 Cert.KernelIdeal.k0_part42 Cert.Kernel.k0_part10 Cert.KernelIdeal.k0_part10
  rw [dif_pos h1, dif_pos (show Cert.KernelIdeal.k0_cond1 i = 1#1 from h1)]
  repeat refine op_congr rfl fun _ => ?_
  rfl

end Cert.Kernel.Twin

end
-- ==== Proof.Twin0b.lean ====
/-
  The two printings of the attention body agree at the later tiles.
-/
module

public import proofs.«01_k».proof.Kernel
public import proofs.«01_k».proof.KernelIdeal
public import proofs.«01_k».proof.Proof.Gen.Kernel
public import proofs.«01_k».proof.Proof.Gen.KernelIdeal
public import proofs.«01_k».proof.Proof.BodyEq

@[expose] public section

noncomputable section

namespace Cert.Kernel.Twin

open Idealize.ShloMosaic Idealize.SL.Sem
open Cert.KernelIdeal.Hand (op_congr)

variable {F : FTy → Type} [FloatOps F]

set_option maxRecDepth 65536 in
set_option maxHeartbeats 40000000 in
theorem attn_later (i : grid0.Coords) (h1 : ¬k0_cond1 i = 1#1) (arg1 : Memref sig .tc .smem S32 .i32) (harg1 : arg1.IsWhole) (arg2 : Memref sig .tc .vmem S32x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S32x256x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x1 .f32) (harg8 : arg8.IsWhole) (arg9 : Memref sig .tc .hbm S100000x64 .f32) (harg9 : arg9.IsWhole) (arg10 : Memref sig .tc .vmem S256x32 .f32) (harg10 : arg10.IsWhole) (arg11 : Memref sig .tc .vmem S32x256 .f32) (harg11 : arg11.IsWhole) (arg12 : Memref sig .tc .vmem S32x1 .f32) (harg12 : arg12.IsWhole) (arg13 : Memref sig .tc .vmem S32x64 .f32) (harg13 : arg13.IsWhole) (arg14 : Memref sig .tc .vmem S32x256 .f32) (harg14 : arg14.IsWhole) (arg15 : Memref sig .tc .vmem S32x256 .f32) (harg15 : arg15.IsWhole) (arg16 : Memref sig .tc .vmem S32x1 .f32) (harg16 : arg16.IsWhole) (arg17 : DmaSems sig S_) :
    Cert.Kernel.cc0__attn_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 = Cert.KernelIdeal.cc0__attn_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 := by
  unfold Cert.Kernel.cc0__attn_kernel Cert.KernelIdeal.cc0__attn_kernel Cert.Kernel.k0_part42 Cert.KernelIdeal.k0_part42 Cert.Kernel.k0_part10 Cert.KernelIdeal.k0_part10
  rw [dif_neg h1, dif_neg (show ¬Cert.KernelIdeal.k0_cond1 i = 1#1 from h1)]
  repeat refine op_congr rfl fun _ => ?_
  rfl

end Cert.Kernel.Twin

end
-- ==== Proof.Twin1.lean ====
/-
  The two printings of the recurrent body agree.
-/
module

public import proofs.«01_k».proof.Kernel
public import proofs.«01_k».proof.KernelIdeal
public import proofs.«01_k».proof.Proof.Gen.Kernel
public import proofs.«01_k».proof.Proof.Gen.KernelIdeal
public import proofs.«01_k».proof.Proof.BodyEq

@[expose] public section

noncomputable section

namespace Cert.Kernel.Twin

open Idealize.ShloMosaic Idealize.SL.Sem
open Cert.KernelIdeal.Hand (op_congr)

variable {F : FTy → Type} [FloatOps F]

set_option maxRecDepth 65536 in
set_option maxHeartbeats 8000000 in
theorem gru (i : grid1.Coords) (arg1 : Memref sig .tc .vmem S32x256 .f32) (harg1 : arg1.IsWhole) (arg2 : Memref sig .tc .vmem S32x1 .f32) (harg2 : arg2.IsWhole) (arg3 : Memref sig .tc .vmem S1x32 .f32) (harg3 : arg3.IsWhole) (arg4 : Memref sig .tc .vmem S32x64 .f32) (harg4 : arg4.IsWhole) (arg5 : Memref sig .tc .vmem S320x768 .f32) (harg5 : arg5.IsWhole) (arg6 : Memref sig .tc .vmem S2x768 .f32) (harg6 : arg6.IsWhole) (arg7 : Memref sig .tc .vmem S512x32 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S1x8192 .f32) (harg12 : arg12.IsWhole) (arg13 : Memref sig .tc .vmem S32x8192 .f32) (harg13 : arg13.IsWhole) (arg14 : Memref sig .tc .vmem S32x256 .f32) (harg14 : arg14.IsWhole) (arg15 : Memref sig .tc .vmem S512x32 .f32) (harg15 : arg15.IsWhole) (arg16 : Memref sig .tc .vmem S32x256 .f32) (harg16 : arg16.IsWhole) :
    Cert.Kernel.cc1__gru_fc_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = Cert.KernelIdeal.cc1__gru_fc_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 := by
  rfl

end Cert.Kernel.Twin

end
-- ==== Proof.FrameKernel.lean ====
/-
  The kernel's own frame: its two bodies are the idealized kernel's over the unidealized elements, so its run is too.
-/
module

public import proofs.«01_k».proof.Proof.Gen.Kernel
public import proofs.«01_k».proof.Proof.Frames
public import proofs.«01_k».proof.Proof.Twin0
public import proofs.«01_k».proof.Proof.Twin0b
public import proofs.«01_k».proof.Proof.Twin1

@[expose] public section

set_option maxRecDepth 65536
set_option maxHeartbeats 40000000

noncomputable section

namespace Cert.Kernel.Twin

open Idealize.ShloMosaic Idealize.SL.Sem

variable {F : FTy → Type} [FloatOps F]

theorem attn (i : grid0.Coords) (arg1 : Memref sig .tc .smem S32 .i32) (harg1 : arg1.IsWhole) (arg2 : Memref sig .tc .vmem S32x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S32x256x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x1 .f32) (harg8 : arg8.IsWhole) (arg9 : Memref sig .tc .hbm S100000x64 .f32) (harg9 : arg9.IsWhole) (arg10 : Memref sig .tc .vmem S256x32 .f32) (harg10 : arg10.IsWhole) (arg11 : Memref sig .tc .vmem S32x256 .f32) (harg11 : arg11.IsWhole) (arg12 : Memref sig .tc .vmem S32x1 .f32) (harg12 : arg12.IsWhole) (arg13 : Memref sig .tc .vmem S32x64 .f32) (harg13 : arg13.IsWhole) (arg14 : Memref sig .tc .vmem S32x256 .f32) (harg14 : arg14.IsWhole) (arg15 : Memref sig .tc .vmem S32x256 .f32) (harg15 : arg15.IsWhole) (arg16 : Memref sig .tc .vmem S32x1 .f32) (harg16 : arg16.IsWhole) (arg17 : DmaSems sig S_) :
    Cert.Kernel.cc0__attn_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 = Cert.KernelIdeal.cc0__attn_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 := by
  by_cases h1 : k0_cond1 i = 1#1
  · exact attn_first i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17
  · exact attn_later i h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17

/-- The two printings of the kernels' body table agree. -/
theorem table_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | ⟨0, _⟩, (t, s) => exact attn _ _ _ _ _ _ _ _ _ _ _ _ _ _ _ _ _ _ _ _ _ _ _ _ _ _ _ _ _ _ _ _ _ _
  | ⟨1, _⟩, (t, s) => exact gru _ _ _ _ _ _ _ _ _ _ _ _ _ _ _ _ _ _ _ _ _ _ _ _ _ _ _ _ _ _ _ _ _

theorem main_eq : Cert.Kernel.main (F := F) = Cert.KernelIdeal.main (F := F) := by
  unfold Cert.Kernel.main Cert.KernelIdeal.main
  rfl

end Cert.Kernel.Twin

namespace Cert.Proof

open Idealize.ShloMosaic Idealize.SL.Sem

theorem defs_eq : Cert.Kernel.defs (F := Bits) = Cert.KernelIdeal.defs (F := Bits) :=
  congrArg (Pipeline.defs (Cert.KernelIdeal.pcfgs (F := Bits))) (Cert.Kernel.Twin.table_eq (F := Bits))

theorem frame_kernel : Cert.quiescent_Kernel := fun m ρ hp => by
  rw [defs_eq, Cert.Kernel.Twin.main_eq]
  exact (θ_run Cert.KernelIdeal.defs _ _).mono (fun _ h => ⟨fun c => Cert.KernelIdeal.Hand.args_kept (F := Bits) m (rows_Kernel m hp) (h.1 c), h.2⟩)
    (Cert.KernelIdeal.Hand.run_main (F := Bits) m ρ (rows_Kernel m hp))

end Cert.Proof

end
-- ==== Proof.KPay.lean ====
/-
  The payloads of the two grids read at an index, the float operations being those of the extended reals.
-/
module

public import proofs.«01_k».proof.Proof.Pass
public import proofs.«01_k».proof.Proof.Body1
public import proofs.«01_k».proof.Proof.Loc
public import Idealize.ShloMosaic.Lib.Pointwise

@[expose] public section

set_option maxRecDepth 16384

noncomputable section

namespace Cert.KernelIdeal.Hand

open Facts₀ Facts
open Idealize.ShloMosaic

theorem wPay_at (v : Vec Ideal S256x256 .f32) (k u : Fin 256) : wPay (F := Ideal) v (ix2 k u) = v (ix2 k u) := by
  pointwise [wPay]

theorem ePay_at (v : Vec Ideal S1x256x256 .f32) (t u : Fin 256) : ePay (F := Ideal) v (ix2 t u) = v (ix3 0 t u) := by
  pointwise [ePay]

theorem pPay_at (v4 : FVec Ideal S256x256 .bf16) (v40 : Vec Ideal S1x256x256 .f32) (v44 : Vec Ideal S1x256 .f32)
    (v48 : Vec Ideal S256x1 .f32) (v50 : Vec Ideal S1x1 .f32) (t : Fin 256) :
    pPay (F := Ideal) v4 v40 v44 v48 v50 (ix2 t 0)
      = Ideal.exp ((∑ u : Fin 256, Ideal.tanh ((∑ k : Fin 256, v40 (ix3 0 t k) * v4 (ix2 k u)) + v44 (ix2 0 u)) * v48 (ix2 u 0)) + v50 (ix2 0 0)) := by
  pointwise [pPay, ePay]

theorem lPay_at (p : FVec Ideal S256x1 .f32) (v : Vec Ideal S1x1 .f32) :
    lPay (F := Ideal) p v (ix2 0 0) = v (ix2 0 0) + ∑ t : Fin 256, p (ix2 t 0) := by
  pointwise [lPay]
  simp

theorem cPay_at (e : FVec Ideal S256x256 .f32) (p : FVec Ideal S256x1 .f32) (v : Vec Ideal S1x256 .f32) (u : Fin 256) :
    cPay (F := Ideal) e p v (ix2 0 u) = v (ix2 0 u) + ∑ t : Fin 256, p (ix2 t 0) * e (ix2 t u) := by
  pointwise [cPay]

theorem qPay_at (a : Vec Ideal S32x256 .f32) (w : Vec Ideal S256x256 .f32) (b : Vec Ideal S1x256 .f32) (r : Fin 32) (u : Fin 256) :
    qPay (F := Ideal) a w b (ix2 r u) = (∑ k : Fin 256, a (ix2 r k) * w (ix2 k u)) + b (ix2 0 u) := by
  pointwise [qPay]

theorem cZero_at (r : Fin 32) (u : Fin 256) : cZero (F := Ideal) (ix2 r u) = 0 := by
  pointwise [cZero]

theorem lZero_at (r : Fin 32) : lZero (F := Ideal) (ix2 r 0) = 0 := by
  pointwise [lZero]

theorem aPay_at (p : Vec Ideal S512x32 .f32) (l : Vec Ideal S1x32 .f32) (t : Fin 512) (r : Fin 32) :
    aPay (F := Ideal) p l (ix2 t r) = Ideal.div (p (ix2 t r)) (l (ix2 0 r)) := by
  pointwise [aPay]

theorem xPay_at (ct : Vec Ideal S32x256 .f32) (l : Vec Ideal S32x1 .f32) (w : Vec Ideal S256x768 .f32) (e : Vec Ideal S32x64 .f32)
    (w' : Vec Ideal S64x768 .f32) (b : Vec Ideal S1x768 .f32) (r : Fin 32) (j : Fin 768) :
    xPay (F := Ideal) ct l w e w' b (ix2 r j)
      = (∑ k : Fin 256, Ideal.div (ct (ix2 r k)) (l (ix2 r 0)) * w (ix2 k j)) + (∑ k : Fin 64, e (ix2 r k) * w' (ix2 k j)) + b (ix2 0 j) := by
  pointwise [xPay]

theorem hPay_at (x : FVec Ideal S32x768 .f32) (b : Vec Ideal S1x768 .f32) (r : Fin 32) (u : Fin 256) :
    hPay (F := Ideal) x b (ix2 r u)
      = (1 - Ideal.logistic (x (ix2 r ⟨u.val, by omega⟩) + b (ix2 0 ⟨u.val, by omega⟩)))
        * Ideal.tanh (x (ix2 r ⟨512 + u.val, by omega⟩)
          + Ideal.logistic (x (ix2 r ⟨256 + u.val, by omega⟩) + b (ix2 0 ⟨256 + u.val, by omega⟩)) * b (ix2 0 ⟨512 + u.val, by omega⟩)) := by
  pointwise [hPay]

theorem hsPay_at (h : FVec Ideal S32x256 .f32) (r : Fin 32) (u : Fin 256) : hsPay (F := Ideal) h (ix2 r u) = h (ix2 r u) := by
  pointwise [hsPay]

theorem oPay_at (h : Vec Ideal S32x256 .f32) (w : Vec Ideal S256x2048 .f32) (b : Vec Ideal S1x2048 .f32) (r : Fin 32) (j : Fin 2048) :
    oPay (F := Ideal) h w b (ix2 r j) = (∑ k : Fin 256, h (ix2 r k) * w (ix2 k j)) + b (ix2 0 j) := by
  pointwise [oPay]

theorem loc_ideal : Loc Ideal := by
  intro A V V' acc j h
  obtain ⟨r, q, rfl⟩ : ∃ (r : Fin 32) (q : Fin 2048), j = ix2 r q := ⟨j 0, j 1, by funext a; match a with | ⟨0, _⟩ => rfl | ⟨1, _⟩ => rfl⟩
  have h' : ∀ k : Fin 256, V (ix2 k q) = V' (ix2 k q) := h
  pointwise
  simp only [h']

/-! ## Whole tiles -/

theorem ix2_of {a b : ℕ} (j : (⟨2, ![a, b]⟩ : Shape).Idx) : ∃ (r : Fin a) (q : Fin b), j = ix2 r q :=
  ⟨j 0, j 1, by funext i; match i with | ⟨0, _⟩ => rfl | ⟨1, _⟩ => rfl⟩

theorem ix3_of {a b d : ℕ} (j : (⟨3, ![a, b, d]⟩ : Shape).Idx) : ∃ (r : Fin a) (q : Fin b) (s : Fin d), j = ix3 r q s :=
  ⟨j 0, j 1, j 2, by funext i; match i with | ⟨0, _⟩ => rfl | ⟨1, _⟩ => rfl | ⟨2, _⟩ => rfl⟩

section Tiles

variable (v4 : FVec Ideal S256x256 .bf16) (En : S32x256x256.Idx → EReal) (Qs : S32x256.Idx → EReal) (V : S256x1.Idx → EReal)
  (B : S1x1.Idx → EReal)

theorem ld_row3 (r : ℕ) (h : r < 32) (a : Fin 1) (t u : Fin 256) :
    View.ld (Val := Elt Ideal) (e' := .f32) En (rEnc r h) (ix3 a t u) = En (ix3 ⟨r, h⟩ t u) := by
  refine congrArg En (funext fun i => Fin.ext ((ValueKit.rect_emb_unit_val _ _ _ _ _).trans ?_))
  match i with
  | ⟨0, _⟩ => show r + a.val = r; omega
  | ⟨1, _⟩ => show 0 + t.val = t.val; omega
  | ⟨2, _⟩ => show 0 + u.val = u.val; omega

theorem ld_row2 (r : ℕ) (h : r < 32) (a : Fin 1) (u : Fin 256) :
    View.ld (Val := Elt Ideal) (e' := .f32) Qs (rVec r h) (ix2 a u) = Qs (ix2 ⟨r, h⟩ u) := by
  refine congrArg Qs (funext fun i => Fin.ext ((ValueKit.rect_emb_unit_val _ _ _ _ _).trans ?_))
  match i with
  | ⟨0, _⟩ => show r + a.val = r; omega
  | ⟨1, _⟩ => show 0 + u.val = u.val; omega

theorem ld_row1 (L : S32x1.Idx → EReal) (r : ℕ) (h : r < 32) (a b : Fin 1) :
    View.ld (Val := Elt Ideal) (e' := .f32) L (rOne r h) (ix2 a b) = L (ix2 ⟨r, h⟩ 0) := by
  refine congrArg L (funext fun i => Fin.ext ((ValueKit.rect_emb_unit_val _ _ _ _ _).trans ?_))
  match i with
  | ⟨0, _⟩ => show r + a.val = r; omega
  | ⟨1, _⟩ => show 0 + b.val = 0; omega

/-- A score, exponentiated. -/
def expo (r : Fin 32) (t : Fin 256) : EReal :=
  Ideal.exp ((∑ u : Fin 256, Ideal.tanh ((∑ k : Fin 256, En (ix3 r t k) * v4 (ix2 k u)) + Qs (ix2 r u)) * V (ix2 u 0)) + B (ix2 0 0))

theorem rowP_at (r : Fin 32) (t : Fin 256) : rowP (F := Ideal) v4 En Qs V B r.val r.isLt (ix2 t 0) = expo v4 En Qs V B r t := by
  refine (pPay_at v4 _ _ V B t).trans ?_
  exact congrArg Ideal.exp (congrArg (· + B (ix2 0 0)) (Finset.sum_congr rfl fun u _ => congrArg (fun z => Ideal.tanh z * V (ix2 u 0))
    (congrArg₂ (· + ·) (Finset.sum_congr rfl fun k _ => congrArg (· * v4 (ix2 k u)) (ld_row3 En r.val r.isLt 0 t k))
      (ld_row2 Qs r.val r.isLt 0 u))))

theorem pTile_at (t : Fin 256) (r : Fin 32) : pTile (F := Ideal) v4 En Qs V B (ix2 t r) = expo v4 En Qs V B r t := by
  refine Eq.trans ?_ (rowP_at v4 En Qs V B r t)
  rw [ix2_eq_valueIdx t (0 : Fin 1)]
  rfl

theorem lTile_at (L : S32x1.Idx → EReal) (r : Fin 32) :
    lTile (F := Ideal) v4 En Qs V B L (ix2 r 0) = L (ix2 r 0) + ∑ t : Fin 256, expo v4 En Qs V B r t := by
  refine Eq.trans (b := lPay (F := Ideal) (rowP v4 En Qs V B r.val r.isLt) (View.ld (Val := Elt Ideal) L (rOne r.val r.isLt)) (ix2 0 0)) ?_ ?_
  · rw [ix2_eq_valueIdx (0 : Fin 1) (0 : Fin 1)]; rfl
  · rw [lPay_at, ld_row1]
    simp only [rowP_at]

theorem cTile_at (C : S32x256.Idx → EReal) (r : Fin 32) (u : Fin 256) :
    cTile (F := Ideal) v4 En Qs V B C (ix2 r u) = C (ix2 r u) + ∑ t : Fin 256, expo v4 En Qs V B r t * En (ix3 r t u) := by
  refine Eq.trans (b := cPay (F := Ideal) (ePay (View.ld (Val := Elt Ideal) En (rEnc r.val r.isLt))) (rowP v4 En Qs V B r.val r.isLt)
    (View.ld (Val := Elt Ideal) C (rVec r.val r.isLt)) (ix2 0 u)) ?_ ?_
  · rw [ix2_eq_valueIdx (0 : Fin 1) u]; rfl
  · rw [cPay_at, ld_row2]
    simp only [rowP_at, ePay_at]
    exact congrArg (C (ix2 r u) + ·) (Finset.sum_congr rfl fun t _ => congrArg (expo v4 En Qs V B r t * ·) (ld_row3 En r.val r.isLt 0 t u))

end Tiles

/-- The recurrent step's input projection at an element. -/
def proj (C : Fin 32 → Fin 256 → EReal) (l : Fin 32 → EReal) (E : Fin 32 → Fin 64 → EReal) (K : S320x768.Idx → EReal) (b : S2x768.Idx → EReal)
    (r : Fin 32) (j : Fin 768) : EReal :=
  (∑ k : Fin 256, Ideal.div (C r k) (l r) * K (ix2 ⟨k.val, by omega⟩ j)) + (∑ k : Fin 64, E r k * K (ix2 ⟨256 + k.val, by omega⟩ j)) + b (ix2 0 j)

/-- The new state at an element, from the input projection. -/
def cell (x : Fin 32 → Fin 768 → EReal) (b : S2x768.Idx → EReal) (r : Fin 32) (u : Fin 256) : EReal :=
  (1 - Ideal.logistic (x r ⟨u.val, by omega⟩ + b (ix2 1 ⟨u.val, by omega⟩)))
    * Ideal.tanh (x r ⟨512 + u.val, by omega⟩
      + Ideal.logistic (x r ⟨256 + u.val, by omega⟩ + b (ix2 1 ⟨256 + u.val, by omega⟩)) * b (ix2 1 ⟨512 + u.val, by omega⟩))

theorem state1_at (X1 : S32x256.Idx → EReal) (X2 : S32x1.Idx → EReal) (X4 : S32x64.Idx → EReal) (X5 : S320x768.Idx → EReal)
    (X6 : S2x768.Idx → EReal) (r : Fin 32) (u : Fin 256) :
    state1 (F := Ideal) X1 X2 X4 X5 X6 (ix2 r u)
      = cell (proj (fun r k => X1 (ix2 r k)) (fun r => X2 (ix2 r 0)) (fun r k => X4 (ix2 r k)) X5 X6) X6 r u := by
  have h5 : ∀ (k : Fin 256) (j : Fin 768), View.ld (Val := Elt Ideal) (e' := .f32) X5
      (Rect.unit (s := S320x768) ![0, 0] S256x768.size inb_S320x768_S256x768_0_0) (ix2 k j) = X5 (ix2 ⟨k.val, by omega⟩ j) := fun k j => by
    refine congrArg X5 (funext fun i => Fin.ext ((ValueKit.rect_emb_unit_val _ _ _ _ _).trans ?_))
    match i with
    | ⟨0, _⟩ => show 0 + k.val = k.val; omega
    | ⟨1, _⟩ => show 0 + j.val = j.val; omega
  have h5' : ∀ (k : Fin 64) (j : Fin 768), View.ld (Val := Elt Ideal) (e' := .f32) X5
      (Rect.unit (s := S320x768) ![256, 0] S64x768.size inb_S320x768_S64x768_256_0) (ix2 k j) = X5 (ix2 ⟨256 + k.val, by omega⟩ j) := fun k j => by
    refine congrArg X5 (funext fun i => Fin.ext ((ValueKit.rect_emb_unit_val _ _ _ _ _).trans ?_))
    match i with
    | ⟨0, _⟩ => rfl
    | ⟨1, _⟩ => show 0 + j.val = j.val; omega
  have h6 : ∀ (a : Fin 1) (j : Fin 768), View.ld (Val := Elt Ideal) (e' := .f32) X6
      (Rect.unit (s := S2x768) ![0, 0] S1x768.size inb_S2x768_S1x768_0_0) (ix2 a j) = X6 (ix2 0 j) := fun a j => by
    refine congrArg X6 (funext fun i => Fin.ext ((ValueKit.rect_emb_unit_val _ _ _ _ _).trans ?_))
    match i with
    | ⟨0, _⟩ => show 0 + a.val = 0; omega
    | ⟨1, _⟩ => show 0 + j.val = j.val; omega
  have h6' : ∀ (a : Fin 1) (j : Fin 768), View.ld (Val := Elt Ideal) (e' := .f32) X6
      (Rect.unit (s := S2x768) ![1, 0] S1x768.size inb_S2x768_S1x768_1_0) (ix2 a j) = X6 (ix2 1 j) := fun a j => by
    refine congrArg X6 (funext fun i => Fin.ext ((ValueKit.rect_emb_unit_val _ _ _ _ _).trans ?_))
    match i with
    | ⟨0, _⟩ => show 1 + a.val = 1; omega
    | ⟨1, _⟩ => show 0 + j.val = j.val; omega
  unfold state1
  rw [hPay_at]
  simp only [xPay_at, h5, h5', h6, h6']
  rfl

theorem oTile_at (hn : S32x256.Idx → EReal) (W0 W1 W2 W3 : S256x2048.Idx → EReal) (B : S1x8192.Idx → EReal) (r : Fin 32) (j : Fin 8192) :
    oTile (F := Ideal) hn W0 W1 W2 W3 B (ix2 r j)
      = (∑ k : Fin 256, hn (ix2 r k) * pick W0 W1 W2 W3 (j.val / 2048) (ix2 k ⟨j.val % 2048, Nat.mod_lt _ (by omega)⟩)) + B (ix2 0 j) := by
  have hg : j.val / 2048 < 4 := Nat.div_lt_of_lt_mul (show j.val < 2048 * 4 from j.isLt)
  refine Eq.trans (b := oPay (F := Ideal) hn (pick W0 W1 W2 W3 (j.val / 2048)) (View.ld (Val := Elt Ideal) (e' := .f32) B (rBias (j.val / 2048) hg))
    (ix2 r ⟨j.val % 2048, Nat.mod_lt _ (by omega)⟩)) ?_ ?_
  · rw [ix2_eq_valueIdx r (⟨j.val % 2048, Nat.mod_lt _ (by omega)⟩ : Fin 2048)]; rfl
  · rw [oPay_at]
    refine congrArg (_ + ·) (congrArg B (funext fun i => Fin.ext ((ValueKit.rect_emb_unit_val _ _ _ _ _).trans ?_)))
    match i with
    | ⟨0, _⟩ => rfl
    | ⟨1, _⟩ => show j.val / 2048 * 2048 + j.val % 2048 = j.val; omega

end Cert.KernelIdeal.Hand
-- ==== Proof.KVal0.lean ====
/-
  What the attention grid leaves, read at an index over the extended reals.
-/
module

public import proofs.«01_k».proof.Proof.KPay
public import proofs.«01_k».proof.Proof.Vals

@[expose] public section

set_option maxRecDepth 16384

noncomputable section

namespace Cert.KernelIdeal.Hand

open Facts₀ Facts
open Cert.KernelIdeal.Gen
open Idealize.ShloMosaic Idealize.ShloMosaic.Pipeline
open Idealize.ShloMosaic.TcCoe

variable (W : Entry Ideal) (a : (pcfg0 (F := Ideal)).Adm) (c : Dev nD) (t : Fin grid0.N)

/-! ## What the windows stage -/

theorem blk0_0 (r : Fin 32) (k : Fin 256) : blk0 W a c 0 t (ix2 r k) = W c main_arg1 (ix2 r k) := by
  refine Eq.trans (b := W c main_arg1 ((((cfg0 a).win (0 : Fin 11)).rect t).emb (ix2 r k))) rfl (congrArg (W c main_arg1) ?_)
  funext ax
  exact Fin.ext (Window.rect_emb_val_of_index_zero ((cfg0 a).win (0 : Fin 11)) t ax (by match ax with | ⟨0, _⟩ => rfl | ⟨1, _⟩ => rfl) _)

theorem blk0_1 (k u : Fin 256) : blk0 W a c 1 t (ix2 k u) = W c main_arg4 (ix2 k u) := by
  refine Eq.trans (b := W c main_arg4 ((((cfg0 a).win (1 : Fin 11)).rect t).emb (ix2 k u))) rfl (congrArg (W c main_arg4) ?_)
  funext ax
  exact Fin.ext (Window.rect_emb_val_of_index_zero ((cfg0 a).win (1 : Fin 11)) t ax (by match ax with | ⟨0, _⟩ => rfl | ⟨1, _⟩ => rfl) _)

theorem blk0_2 (u : Fin 256) : blk0 W a c 2 t (ix2 0 u) = W c main_v2 (ix2 0 u) := by
  refine Eq.trans (b := W c main_v2 ((((cfg0 a).win (2 : Fin 11)).rect t).emb (ix2 0 u))) rfl (congrArg (W c main_v2) ?_)
  funext ax
  exact Fin.ext (Window.rect_emb_val_of_index_zero ((cfg0 a).win (2 : Fin 11)) t ax (by match ax with | ⟨0, _⟩ => rfl | ⟨1, _⟩ => rfl) _)

theorem blk0_4 (k u : Fin 256) : blk0 W a c 4 t (ix2 k u) = W c main_arg6 (ix2 k u) := by
  refine Eq.trans (b := W c main_arg6 ((((cfg0 a).win (4 : Fin 11)).rect t).emb (ix2 k u))) rfl (congrArg (W c main_arg6) ?_)
  funext ax
  exact Fin.ext (Window.rect_emb_val_of_index_zero ((cfg0 a).win (4 : Fin 11)) t ax (by match ax with | ⟨0, _⟩ => rfl | ⟨1, _⟩ => rfl) _)

theorem blk0_5 (u : Fin 256) : blk0 W a c 5 t (ix2 u 0) = W c main_arg8 (ix2 u 0) := by
  refine Eq.trans (b := W c main_arg8 ((((cfg0 a).win (5 : Fin 11)).rect t).emb (ix2 u 0))) rfl (congrArg (W c main_arg8) ?_)
  funext ax
  exact Fin.ext (Window.rect_emb_val_of_index_zero ((cfg0 a).win (5 : Fin 11)) t ax (by match ax with | ⟨0, _⟩ => rfl | ⟨1, _⟩ => rfl) _)

theorem blk0_6 : blk0 W a c 6 t (ix2 0 0) = W c main_v3 (ix2 0 0) := by
  refine Eq.trans (b := W c main_v3 ((((cfg0 a).win (6 : Fin 11)).rect t).emb (ix2 0 0))) rfl (congrArg (W c main_v3) ?_)
  funext ax
  exact Fin.ext (Window.rect_emb_val_of_index_zero ((cfg0 a).win (6 : Fin 11)) t ax (by match ax with | ⟨0, _⟩ => rfl | ⟨1, _⟩ => rfl) _)

theorem map3 (t : Fin grid0.N) : cc0_transform_3 (grid0.coords t) 1 = t.val := by revert t; decide
theorem map8 (t : Fin grid0.N) : cc0_transform_8 (grid0.coords t) 0 = t.val := by revert t; decide

/-- Position `s` of tile `t`. -/
def pos (t : Fin grid0.N) (s : Fin 256) : Fin 2048 := ⟨t.val * 256 + s.val, by have h8 : t.val < 8 := t.isLt; omega⟩

theorem blk0_3 (r : Fin 32) (s u : Fin 256) : blk0 W a c 3 t (ix3 r s u) = W c main_arg2 (ix3 r (pos t s) u) := by
  refine Eq.trans (b := W c main_arg2 ((((cfg0 a).win (3 : Fin 11)).rect t).emb (ix3 r s u))) rfl (congrArg (W c main_arg2) ?_)
  funext ax
  refine Fin.ext ((Window.rect_emb_val ((cfg0 a).win (3 : Fin 11)) t _ ax rfl).trans ?_)
  match ax with
  | ⟨0, _⟩ => show 0 * 32 + r.val = r.val; omega
  | ⟨1, _⟩ => show cc0_transform_3 (grid0.coords t) 1 * 256 + s.val = t.val * 256 + s.val; rw [map3]
  | ⟨2, _⟩ => show 0 * 256 + u.val = u.val; omega

/-! ## The mathematics -/

/-- The projected hidden state, both biases added. -/
def query (H : S32x256.Idx → EReal) (W1 : S256x256.Idx → EReal) (b : Fin 256 → EReal) (r : Fin 32) (u : Fin 256) : EReal :=
  (∑ k : Fin 256, H (ix2 r k) * W1 (ix2 k u)) + b u

/-- The score of a position of a row. -/
def score (En : S32x2048x256.Idx → EReal) (W2 : S256x256.Idx → EReal) (Q : Fin 32 → Fin 256 → EReal) (V : S256x1.Idx → EReal) (vb : EReal)
    (r : Fin 32) (t : Fin 2048) : EReal :=
  (∑ u : Fin 256, Ideal.tanh ((∑ k : Fin 256, En (ix3 r t k) * W2 (ix2 k u)) + Q r u) * V (ix2 u 0)) + vb

/-- The scores of the launch. -/
def sc0 (r : Fin 32) (t : Fin 2048) : EReal :=
  score (W c main_arg2) (W c main_arg6) (query (W c main_arg1) (W c main_arg4) fun u => W c main_v2 (ix2 0 u)) (W c main_arg8)
    (W c main_v3 (ix2 0 0)) r t

theorem qs0_at (r : Fin 32) (u : Fin 256) :
    qs0 W a c (ix2 r u) = query (W c main_arg1) (W c main_arg4) (fun u => W c main_v2 (ix2 0 u)) r u := by
  unfold qs0
  refine (qPay_at _ _ _ r u).trans ?_
  rw [blk0_2]
  simp only [blk0_0, blk0_1]
  rfl

theorem expo0_at (r : Fin 32) (s : Fin 256) :
    expo (wPay (blk0 W a c 4 t)) (blk0 W a c 3 t) (qs0 W a c) (blk0 W a c 5 t) (blk0 W a c 6 t) r s = Ideal.exp (sc0 W c r (pos t s)) := by
  unfold expo sc0 score
  refine congrArg Ideal.exp (congrArg₂ (· + ·) (Finset.sum_congr rfl fun u _ => congrArg₂ (fun z v => Ideal.tanh z * v)
    (congrArg₂ (· + ·) (Finset.sum_congr rfl fun k _ => congrArg₂ (· * ·) (blk0_3 W a c t r s k) ?_) (qs0_at W a c r u))
      (blk0_5 W a c t u)) (blk0_6 W a c t))
  exact (wPay_at _ k u).trans (blk0_4 W a c t k u)

theorem pAt_at (s : Fin 256) (r : Fin 32) : pAt W a c t (ix2 s r) = Ideal.exp (sc0 W c r (pos t s)) :=
  (pTile_at _ _ _ _ _ s r).trans (expo0_at W a c t r s)

/-- A sum over tiles. -/
theorem sum_tiles (f : Fin 2048 → EReal) (g : ℕ → EReal) (h0 : g 0 = 0) (hs : ∀ t : Fin grid0.N, g (t.val + 1) = g t.val + ∑ s : Fin 256, f (pos t s)) :
    g 8 = ∑ t : Fin 2048, f t := by
  have e : ∀ t : Fin 8, g (t.val + 1) = g t.val + ∑ s : Fin 256, f (pos t s) := hs
  rw [Fin.sum_univ_tiles 8 256 (by norm_num) f, Fin.sum_univ_eight]
  have e0 := e 0; have e1 := e 1; have e2 := e 2; have e3 := e 3; have e4 := e 4; have e5 := e 5; have e6 := e 6; have e7 := e 7
  have z : g ((0 : Fin 8)).val = 0 := h0
  rw [z, zero_add] at e0
  refine e7.trans (congrArg (· + _) (e6.trans (congrArg (· + _) (e5.trans (congrArg (· + _) (e4.trans (congrArg (· + _) (e3.trans (congrArg (· + _)
    (e2.trans (congrArg (· + _) (e1.trans (congrArg (· + _) e0)))))))))))))

theorem lAt_at (r : Fin 32) : lAt W a c 8 (ix2 r 0) = ∑ t : Fin 2048, Ideal.exp (sc0 W c r t) :=
  sum_tiles _ (fun k => lAt W a c k (ix2 r 0)) (lZero_at r) fun t => by
    show lAt W a c (t.val + 1) (ix2 r 0) = _
    rw [lAt_succ, lTile_at]
    simp only [expo0_at]

theorem cAt_at (r : Fin 32) (u : Fin 256) :
    cAt W a c 8 (ix2 r u) = ∑ t : Fin 2048, Ideal.exp (sc0 W c r t) * W c main_arg2 (ix3 r t u) :=
  sum_tiles _ (fun k => cAt W a c k (ix2 r u)) (cZero_at r u) fun t => by
    show cAt W a c (t.val + 1) (ix2 r u) = _
    rw [cAt_succ, cTile_at]
    simp only [expo0_at, blk0_3]

/-- The row of the table a word names. -/
def rowOf (w : BitVec 32) : Fin 100000 := ⟨min w.toNat 99999, by omega⟩

variable (hT : ∀ c, RowsIn W c)

theorem emb0_at (r : Fin 32) (k : Fin 64) : emb0 W c hT (ix2 r k) = W c main_arg3 (ix2 (rowOf (W c main_v0 (ix1 r))) k) := by
  have hw : word (F := Ideal) (W c main_v0) r.val r.isLt = W c main_v0 (ix1 r) := by
    refine congrArg (W c main_v0) (funext fun ax => Fin.ext ((ValueKit.rect_emb_unit_val _ _ _ _ _).trans ?_))
    match ax with
    | ⟨0, _⟩ => rfl
  have hlt : (word (F := Ideal) (W c main_v0) r.val r.isLt).toNat + 1 ≤ 100000 := hT c r.val r.isLt first_coords 0
  refine congrArg (W c main_arg3) (funext fun ax => Fin.ext ((ValueKit.rect_emb_unit_val _ _ _ _ _).trans ?_))
  match ax with
  | ⟨0, _⟩ =>
    show (word (F := Ideal) (W c main_v0) r.val r.isLt).toNat + 0 = min (W c main_v0 (ix1 r)).toNat 99999
    rw [← hw]; omega
  | ⟨1, _⟩ => show 0 + k.val = k.val; omega

/-! ## What the grid leaves -/

theorem mem_blk {G : Grid} (w : Window sig G) (t : Fin G.N) (y : (w.xblock (G.coords t)).Idx) {i} (h : (w.blk t).view.emb y = i) :
    i ∈ (w.blk t).view.set := h ▸ View.emb_mem_set (w.blk t).view y

/-- The last tile. -/
def t0_last : Fin grid0.N := ⟨7, by decide⟩

theorem emb7 (t : Fin grid0.N) (s : Fin 256) (r : Fin 32) :
    (((cfg0 a).win (7 : Fin 11)).rect t).emb (ix2 s r) = (ix2 (pos t s) r : S2048x32.Idx) := by
  funext ax
  refine Fin.ext ((Window.rect_emb_val ((cfg0 a).win (7 : Fin 11)) t _ ax rfl).trans ?_)
  match ax with
  | ⟨0, _⟩ => show cc0_transform_8 (grid0.coords t) 0 * 256 + s.val = t.val * 256 + s.val; rw [map8]
  | ⟨1, _⟩ => show 0 * 32 + r.val = r.val; omega

theorem arr0_7 : (dat0 W a c hT).arrAt (7 : Fin 11) 8 = fun j : S2048x32.Idx => Ideal.exp (sc0 W c (j 1) (j 0)) := by
  refine Dat.arrAt_eq_of_cover (dat0 W a c hT) (7 : Fin 11) (fun j : S2048x32.Idx => Ideal.exp (sc0 W c (j 1) (j 0))) (fun t _ => ?_) (fun i => ?_)
  · funext y
    obtain ⟨s, r, rfl⟩ := ix2_of (a := 256) (b := 32) y
    refine (pAt_at W a c t s r).trans ?_
    exact (congrArg (fun j : S2048x32.Idx => Ideal.exp (sc0 W c (j 1) (j 0))) (emb7 a t s r)).symm
  · obtain ⟨q, r, rfl⟩ := ix2_of (a := 2048) (b := 32) i
    let t : Fin grid0.N := ⟨q.val / 256, show q.val / 256 < 8 by omega⟩
    have hi : (((cfg0 (F := Ideal) a).win (7 : Fin 11)).blk t).view.emb (ix2 ⟨q.val % 256, Nat.mod_lt _ (by omega)⟩ r : S256x32.Idx) = ix2 q r :=
      (emb7 a t _ r).trans (congrArg (fun q : Fin 2048 => (ix2 q r : S2048x32.Idx)) (Fin.ext (by
        show q.val / 256 * 256 + q.val % 256 = q.val
        omega)))
    exact ⟨t, flush0_7 a t, mem_blk ((cfg0 a).win (7 : Fin 11)) t _ hi⟩

theorem arr0_8 : (dat0 W a c hT).arrAt (8 : Fin 11) 8 = cAt W a c 8 := by
  have e : ∀ (t : Fin grid0.N) (y : S32x256.Idx), (((cfg0 a).win (8 : Fin 11)).rect t).emb y = y := fun t y => funext fun ax => Fin.ext
    (Window.rect_emb_val_of_index_zero ((cfg0 a).win (8 : Fin 11)) t ax (by match ax with | ⟨0, _⟩ => rfl | ⟨1, _⟩ => rfl) _)
  refine Dat.arrAt_eq_of_cover (dat0 W a c hT) (8 : Fin 11) (cAt W a c 8) (fun t _ => ?_) (fun i => ?_)
  · funext y
    exact congrArg (cAt W a c 8) (e t y).symm
  · have hf : ((cfg0 (F := Ideal) a).win (8 : Fin 11)).flush t0_last = true := (flush0_8 a t0_last).2 (by decide)
    have hi : (((cfg0 (F := Ideal) a).win (8 : Fin 11)).blk t0_last).view.emb (i : S32x256.Idx) = i := e t0_last i
    exact ⟨t0_last, hf, mem_blk ((cfg0 a).win (8 : Fin 11)) t0_last i hi⟩

theorem arr0_9 : (dat0 W a c hT).arrAt (9 : Fin 11) 8 = lAt W a c 8 := by
  have e : ∀ (t : Fin grid0.N) (y : S32x1.Idx), (((cfg0 a).win (9 : Fin 11)).rect t).emb y = y := fun t y => funext fun ax => Fin.ext
    (Window.rect_emb_val_of_index_zero ((cfg0 a).win (9 : Fin 11)) t ax (by match ax with | ⟨0, _⟩ => rfl | ⟨1, _⟩ => rfl) _)
  refine Dat.arrAt_eq_of_cover (dat0 W a c hT) (9 : Fin 11) (lAt W a c 8) (fun t _ => ?_) (fun i => ?_)
  · funext y
    exact congrArg (lAt W a c 8) (e t y).symm
  · have hf : ((cfg0 (F := Ideal) a).win (9 : Fin 11)).flush t0_last = true := (flush0_9 a t0_last).2 (by decide)
    have hi : (((cfg0 (F := Ideal) a).win (9 : Fin 11)).blk t0_last).view.emb (i : S32x1.Idx) = i := e t0_last i
    exact ⟨t0_last, hf, mem_blk ((cfg0 a).win (9 : Fin 11)) t0_last i hi⟩

theorem arr0_10 : (dat0 W a c hT).arrAt (10 : Fin 11) 8 = emb0 W c hT := by
  have e : ∀ (t : Fin grid0.N) (y : S32x64.Idx), (((cfg0 a).win (10 : Fin 11)).rect t).emb y = y := fun t y => funext fun ax => Fin.ext
    (Window.rect_emb_val_of_index_zero ((cfg0 a).win (10 : Fin 11)) t ax (by match ax with | ⟨0, _⟩ => rfl | ⟨1, _⟩ => rfl) _)
  refine Dat.arrAt_eq_of_cover (dat0 W a c hT) (10 : Fin 11) (emb0 W c hT) (fun t _ => ?_) (fun i => ?_)
  · funext y
    exact congrArg (emb0 W c hT) (e t y).symm
  · have hf : ((cfg0 (F := Ideal) a).win (10 : Fin 11)).flush t0_last = true := (flush0_10 a t0_last).2 (by decide)
    have hi : (((cfg0 (F := Ideal) a).win (10 : Fin 11)).blk t0_last).view.emb (i : S32x64.Idx) = i := e t0_last i
    exact ⟨t0_last, hf, mem_blk ((cfg0 a).win (10 : Fin 11)) t0_last i hi⟩

end Cert.KernelIdeal.Hand
-- ==== Proof.KVal1.lean ====
/-
  What the second grid leaves, read at an index over the extended reals.
-/
module

public import proofs.«01_k».proof.Proof.KVal0

@[expose] public section

set_option maxRecDepth 16384

noncomputable section

namespace Cert.KernelIdeal.Hand

open Facts₀ Facts
open Cert.KernelIdeal.Gen
open Idealize.ShloMosaic Idealize.ShloMosaic.Pipeline
open Idealize.ShloMosaic.TcCoe

/-! ## Staged elements of any window -/

section Staged

variable {G : Grid} (w : Window sig G) (hk : w.kind = .blocked) (t : Fin G.N) (j : w.block.Idx) (i : w.shape.Idx)

theorem moved_of (hk : w.kind = .blocked) (h : ∀ a, (i a).val = w.index t a * w.size a + (j a).val) (a : Fin w.shape.rank) :
    (j a).val < w.xsize (G.coords t) a := by
  have h1 := w.hclip (G.coords t) a
  rw [hk] at h1
  have hi := (i a).isLt
  have h' := h a
  have hj := (j a).isLt
  show (j a).val < (w.clip (G.coords t) a).extent (w.size a)
  cases hc : w.clip (G.coords t) a with
  | none => exact hj
  | some n =>
    rw [hc] at h1
    have h3 : w.index t a * w.size a + n = w.shape.size a := h1.2.2
    show (j a).val < n
    omega

theorem rect_emb_of (hk : w.kind = .blocked) (h : ∀ a, (i a).val = w.index t a * w.size a + (j a).val) :
    (w.rect t).emb (fun a => ⟨(j a).val, moved_of w t j i hk h a⟩) = i :=
  funext fun a => Fin.ext ((w.rect_emb_val t _ a hk).trans (h a).symm)

/-- A staged element inside the array is the array's. -/
theorem staged (hk : w.kind = .blocked) {Val : EltTy → Type} (d : w.block.Idx → Val w.elt) (f : w.arr.view.ty.Idx → Val w.arr.view.ty.elt)
    (h : ∀ a, (i a).val = w.index t a * w.size a + (j a).val) :
    w.fill (G.coords t) d ((w.blk t).view.read Val f) j = w.arr.view.read Val f i := by
  unfold Window.fill
  rw [dif_pos ((w.moved_iff _ j).mpr (moved_of w t j i hk h))]
  exact congrArg (w.arr.view.read Val f) (rect_emb_of w t j i hk h)

/-- An element of the array under a point's block. -/
theorem under (hk : w.kind = .blocked) (h : ∀ a, (i a).val = w.index t a * w.size a + (j a).val) :
    w.arr.view.emb i ∈ (w.blk t).view.set :=
  mem_blk w t _ (congrArg w.arr.view.emb (rect_emb_of w t j i hk h))

end Staged

variable (W : Entry Ideal) (c : Dev nD) (t : Fin grid1.N)

theorem blk1_0 (r : Fin 32) (k : Fin 256) : blk1 W c 0 t (ix2 r k) = W c main_v4_1 (ix2 r k) :=
  staged (cfg1.win (0 : Fin 15)) t (ix2 r k) (ix2 r k) rfl _ _ fun ax => by
    match ax with
    | ⟨0, _⟩ => show r.val = 0 * 32 + r.val; omega
    | ⟨1, _⟩ => show k.val = 0 * 256 + k.val; omega

theorem blk1_1 (r : Fin 32) : blk1 W c 1 t (ix2 r 0) = W c main_v4_2 (ix2 r 0) :=
  staged (cfg1.win (1 : Fin 15)) t (ix2 r 0) (ix2 r 0) rfl _ _ fun ax => by
    match ax with
    | ⟨0, _⟩ => show r.val = 0 * 32 + r.val; omega
    | ⟨1, _⟩ => rfl

theorem blk1_2 (r : Fin 32) : blk1 W c 2 t (ix2 0 r) = W c main_v6 (ix2 0 r) :=
  staged (cfg1.win (2 : Fin 15)) t (ix2 0 r) (ix2 0 r) rfl _ _ fun ax => by
    match ax with
    | ⟨0, _⟩ => rfl
    | ⟨1, _⟩ => show r.val = 0 * 32 + r.val; omega

theorem blk1_3 (r : Fin 32) (k : Fin 64) : blk1 W c 3 t (ix2 r k) = W c main_v4_3 (ix2 r k) :=
  staged (cfg1.win (3 : Fin 15)) t (ix2 r k) (ix2 r k) rfl _ _ fun ax => by
    match ax with
    | ⟨0, _⟩ => show r.val = 0 * 32 + r.val; omega
    | ⟨1, _⟩ => show k.val = 0 * 64 + k.val; omega

theorem blk1_4 : blk1 W c 4 t = W c main_arg10 := by
  funext j
  obtain ⟨k, q, rfl⟩ := ix2_of (a := 320) (b := 768) j
  exact staged (cfg1.win (4 : Fin 15)) t (ix2 k q) (ix2 k q) rfl _ _ fun ax => by
    match ax with
    | ⟨0, _⟩ => show k.val = 0 * 320 + k.val; omega
    | ⟨1, _⟩ => show q.val = 0 * 768 + q.val; omega

theorem blk1_5 : blk1 W c 5 t = W c main_arg12 := by
  funext j
  obtain ⟨k, q, rfl⟩ := ix2_of (a := 2) (b := 768) j
  exact staged (cfg1.win (5 : Fin 15)) t (ix2 k q) (ix2 k q) rfl _ _ fun ax => by
    match ax with
    | ⟨0, _⟩ => show k.val = 0 * 2 + k.val; omega
    | ⟨1, _⟩ => show q.val = 0 * 768 + q.val; omega

theorem map1_6 (t : Fin grid1.N) : cc1_transform_6 (grid1.coords t) 0 = min t.val 3 := by revert t; decide +kernel
theorem map1_14 (t : Fin grid1.N) : cc1_transform_14 (grid1.coords t) 0 = min t.val 3 := by revert t; decide +kernel
theorem map1_7 (t : Fin grid1.N) : cc1_transform_7 (grid1.coords t) 1 = min (t.val * 4 + 0) 48 := by revert t; decide +kernel
theorem map1_8 (t : Fin grid1.N) : cc1_transform_8 (grid1.coords t) 1 = min (t.val * 4 + 1) 48 := by revert t; decide +kernel
theorem map1_9 (t : Fin grid1.N) : cc1_transform_9 (grid1.coords t) 1 = min (t.val * 4 + 2) 48 := by revert t; decide +kernel
theorem map1_10 (t : Fin grid1.N) : cc1_transform_10 (grid1.coords t) 1 = min (t.val * 4 + 3) 48 := by revert t; decide +kernel
theorem map1_11 (t : Fin grid1.N) : cc1_transform_11 (grid1.coords t) 1 = t.val := by revert t; decide +kernel
theorem map1_12 (t : Fin grid1.N) : cc1_transform_12 (grid1.coords t) 1 = t.val := by revert t; decide +kernel

theorem blk1_6 (s : Fin 512) (r : Fin 32) (p : Fin 2048) (hp : p.val = min t.val 3 * 512 + s.val) :
    blk1 W c 6 t (ix2 s r) = W c main_v4_0 (ix2 p r) :=
  staged (cfg1.win (6 : Fin 15)) t (ix2 s r) (ix2 p r) rfl _ _ fun ax => by
    match ax with
    | ⟨0, _⟩ => show p.val = cc1_transform_6 (grid1.coords t) 0 * 512 + s.val; rw [map1_6]; exact hp
    | ⟨1, _⟩ => show r.val = 0 * 32 + r.val; omega

theorem blk1_7 (k : Fin 256) (s : Fin 2048) (q : Fin 100000) (hq : q.val = min (t.val * 4 + 0) 48 * 2048 + s.val) :
    blk1 W c 7 t (ix2 k s) = W c main_arg13 (ix2 k q) :=
  staged (cfg1.win (7 : Fin 15)) t (ix2 k s) (ix2 k q) rfl _ _ fun ax => by
    match ax with
    | ⟨0, _⟩ => show k.val = 0 * 256 + k.val; omega
    | ⟨1, _⟩ => show q.val = cc1_transform_7 (grid1.coords t) 1 * 2048 + s.val; rw [map1_7]; exact hq

theorem blk1_8 (k : Fin 256) (s : Fin 2048) (q : Fin 100000) (hq : q.val = min (t.val * 4 + 1) 48 * 2048 + s.val) :
    blk1 W c 8 t (ix2 k s) = W c main_arg13 (ix2 k q) :=
  staged (cfg1.win (8 : Fin 15)) t (ix2 k s) (ix2 k q) rfl _ _ fun ax => by
    match ax with
    | ⟨0, _⟩ => show k.val = 0 * 256 + k.val; omega
    | ⟨1, _⟩ => show q.val = cc1_transform_8 (grid1.coords t) 1 * 2048 + s.val; rw [map1_8]; exact hq

theorem blk1_9 (k : Fin 256) (s : Fin 2048) (q : Fin 100000) (hq : q.val = min (t.val * 4 + 2) 48 * 2048 + s.val) :
    blk1 W c 9 t (ix2 k s) = W c main_arg13 (ix2 k q) :=
  staged (cfg1.win (9 : Fin 15)) t (ix2 k s) (ix2 k q) rfl _ _ fun ax => by
    match ax with
    | ⟨0, _⟩ => show k.val = 0 * 256 + k.val; omega
    | ⟨1, _⟩ => show q.val = cc1_transform_9 (grid1.coords t) 1 * 2048 + s.val; rw [map1_9]; exact hq

theorem blk1_10 (k : Fin 256) (s : Fin 2048) (q : Fin 100000) (hq : q.val = min (t.val * 4 + 3) 48 * 2048 + s.val) :
    blk1 W c 10 t (ix2 k s) = W c main_arg13 (ix2 k q) :=
  staged (cfg1.win (10 : Fin 15)) t (ix2 k s) (ix2 k q) rfl _ _ fun ax => by
    match ax with
    | ⟨0, _⟩ => show k.val = 0 * 256 + k.val; omega
    | ⟨1, _⟩ => show q.val = cc1_transform_10 (grid1.coords t) 1 * 2048 + s.val; rw [map1_10]; exact hq

theorem low_block (a s q : ℕ) (hq : q = a * 2048 + s) (h : q < 100000) : q = min a 48 * 2048 + s := by
  have ha : a ≤ 48 := by omega
  rw [Nat.min_eq_left ha]; exact hq

/-- An element of a staged block of the output weights' columns. -/
theorem cols_at (g : ℕ) (hg : g < 4) (k : Fin 256) (s : Fin 2048) (q : Fin 100000) (hq : q.val = (t.val * 4 + g) * 2048 + s.val) :
    pick (X := S256x2048.Idx → EReal) (blk1 W c 7 t) (blk1 W c 8 t) (blk1 W c 9 t) (blk1 W c 10 t) g (ix2 k s) = W c main_arg13 (ix2 k q) := by
  have hm := low_block _ _ _ hq q.isLt
  obtain rfl | rfl | rfl | rfl : g = 0 ∨ g = 1 ∨ g = 2 ∨ g = 3 := by omega
  · exact blk1_7 W c t k s q hm
  · exact blk1_8 W c t k s q hm
  · exact blk1_9 W c t k s q hm
  · exact blk1_10 W c t k s q hm

theorem blk1_11 (s : Fin 8192) (q : Fin 100000) (hq : q.val = t.val * 8192 + s.val) : blk1 W c 11 t (ix2 0 s) = W c main_v5 (ix2 0 q) :=
  staged (cfg1.win (11 : Fin 15)) t (ix2 0 s) (ix2 0 q) rfl _ _ fun ax => by
    match ax with
    | ⟨0, _⟩ => rfl
    | ⟨1, _⟩ => show q.val = cc1_transform_11 (grid1.coords t) 1 * 8192 + s.val; rw [map1_11]; exact hq

/-! ## What the grid leaves -/

/-- The new state. -/
def st1 : Fin 32 → Fin 256 → EReal :=
  cell (proj (fun r k => W c main_v4_1 (ix2 r k)) (fun r => W c main_v4_2 (ix2 r 0)) (fun r k => W c main_v4_3 (ix2 r k)) (W c main_arg10)
    (W c main_arg12)) (W c main_arg12)

theorem hn1_at (r : Fin 32) (u : Fin 256) : hn1 W c (ix2 r u) = st1 W c r u := by
  unfold hn1
  refine (state1_at _ _ _ _ _ r u).trans ?_
  rw [blk1_4, blk1_5]
  simp only [blk1_0, blk1_1, blk1_3]
  rfl

theorem att1_at (s : Fin 512) (r : Fin 32) (p : Fin 2048) (hp : p.val = min t.val 3 * 512 + s.val) :
    att1 W c t (ix2 s r) = Ideal.div (W c main_v4_0 (ix2 p r)) (W c main_v6 (ix2 0 r)) := by
  unfold att1
  refine (aPay_at _ _ s r).trans ?_
  rw [blk1_6 W c (last1 t) s r p (by show p.val = min (min t.val 3) 3 * 512 + s.val; omega), blk1_2]

/-- An output element. -/
def out (H : Fin 32 → Fin 256 → EReal) (K : S256x100000.Idx → EReal) (b : Fin 100000 → EReal) (r : Fin 32) (q : Fin 100000) : EReal :=
  (∑ k : Fin 256, H r k * K (ix2 k q)) + b q

theorem out1_at (r : Fin 32) (s : Fin 8192) (q : Fin 100000) (hq : q.val = t.val * 8192 + s.val) :
    out1 W c t (ix2 r s) = out (st1 W c) (W c main_arg13) (fun q => W c main_v5 (ix2 0 q)) r q := by
  unfold out1
  refine (oTile_at _ _ _ _ _ _ r s).trans ?_
  refine congrArg₂ (· + ·) (Finset.sum_congr rfl fun k _ => congrArg₂ (· * ·) ((hsPay_at _ r k).trans (hn1_at W c r k))
    (cols_at W c t _ (by omega) k _ q ?_)) (blk1_11 W c t s q hq)
  show q.val = (t.val * 4 + s.val / 2048) * 2048 + s.val % 2048
  omega

/-- The output the grid computes. -/
def outAll : S32x100000.Idx → EReal := fun j => out (st1 W c) (W c main_arg13) (fun q => W c main_v5 (ix2 0 q)) (j 0) (j 1)

theorem cut12 (y : ((cfg1.win (12 : Fin 15)).xblock (grid1.coords t)).Idx) :
    out1 W c t ((cfg1.win (12 : Fin 15)).xinj (grid1.coords t) y) = outAll W c (((cfg1.win (12 : Fin 15)).rect t).emb y) := by
  obtain ⟨r, s, hx⟩ := ix2_of (a := 32) (b := 8192) ((cfg1.win (12 : Fin 15)).xinj (grid1.coords t) y)
  obtain ⟨r', q, hi⟩ := ix2_of (a := 32) (b := 100000) (((cfg1.win (12 : Fin 15)).rect t).emb y)
  have x0 : (y 0).val = r.val := congrArg (fun j : S32x8192.Idx => (j 0).val) hx
  have x1 : (y 1).val = s.val := congrArg (fun j : S32x8192.Idx => (j 1).val) hx
  have i0 : r'.val = 0 * 32 + (y 0).val :=
    (congrArg (fun j : S32x100000.Idx => (j 0).val) hi).symm.trans (Window.rect_emb_val (cfg1.win (12 : Fin 15)) t y 0 rfl)
  have i1 : q.val = cc1_transform_12 (grid1.coords t) 1 * 8192 + (y 1).val :=
    (congrArg (fun j : S32x100000.Idx => (j 1).val) hi).symm.trans (Window.rect_emb_val (cfg1.win (12 : Fin 15)) t y 1 rfl)
  rw [map1_12] at i1
  obtain rfl : r = r' := Fin.ext (by omega)
  refine (congrArg (out1 W c t) hx).trans (Eq.trans ?_ (congrArg (outAll W c) hi).symm)
  exact out1_at W c t r s q (by omega)

theorem arr1_12 : (dat1 W c).arrAt (12 : Fin 15) 13 = outAll W c := by
  refine Dat.arrAt_eq_of_cover (dat1 W c) (12 : Fin 15) (outAll W c) (fun t _ => funext fun y => cut12 W c t y) (fun i => ?_)
  obtain ⟨r, q, rfl⟩ := ix2_of (a := 32) (b := 100000) i
  let t : Fin grid1.N := ⟨q.val / 8192, show q.val / 8192 < 13 by omega⟩
  refine ⟨t, flush1_12 t, under (cfg1.win (12 : Fin 15)) t (ix2 r ⟨q.val % 8192, Nat.mod_lt _ (by omega)⟩ : S32x8192.Idx) (ix2 r q) rfl fun ax => ?_⟩
  match ax with
  | ⟨0, _⟩ => show r.val = 0 * 32 + r.val; omega
  | ⟨1, _⟩ =>
    show q.val = cc1_transform_12 (grid1.coords t) 1 * 8192 + q.val % 8192
    rw [map1_12]
    show q.val = q.val / 8192 * 8192 + q.val % 8192
    omega

theorem arr1_13 : (dat1 W c).arrAt (13 : Fin 15) 13 = hn1 W c := by
  have e : ∀ (t : Fin grid1.N) (y : S32x256.Idx), ((cfg1.win (13 : Fin 15)).rect t).emb y = y := fun t y => funext fun ax => Fin.ext
    (Window.rect_emb_val_of_index_zero (cfg1.win (13 : Fin 15)) t ax (by match ax with | ⟨0, _⟩ => rfl | ⟨1, _⟩ => rfl) _)
  refine Dat.arrAt_eq_of_cover (dat1 W c) (13 : Fin 15) (hn1 W c) (fun t _ => funext fun y => congrArg (hn1 W c) (e t y).symm) (fun i => ?_)
  let t : Fin grid1.N := ⟨12, by decide⟩
  have hi : ((cfg1.win (13 : Fin 15)).blk t).view.emb (i : S32x256.Idx) = i := e t i
  exact ⟨t, (flush1_13 t).2 (by decide), mem_blk (cfg1.win (13 : Fin 15)) t i hi⟩

/-- The attention weights the grid computes. -/
def attAll : S2048x32.Idx → EReal := fun j => Ideal.div (W c main_v4_0 j) (W c main_v6 (ix2 0 (j 1)))

theorem cut14 (y : S512x32.Idx) : att1 W c t y = attAll W c (((cfg1.win (14 : Fin 15)).rect t).emb y) := by
  obtain ⟨s, r, rfl⟩ := ix2_of (a := 512) (b := 32) y
  obtain ⟨p, r', hi⟩ := ix2_of (a := 2048) (b := 32) (((cfg1.win (14 : Fin 15)).rect t).emb (ix2 s r))
  have i0 : p.val = cc1_transform_14 (grid1.coords t) 0 * 512 + s.val :=
    (congrArg (fun j : S2048x32.Idx => (j 0).val) hi).symm.trans (Window.rect_emb_val (cfg1.win (14 : Fin 15)) t (ix2 s r) 0 rfl)
  have i1 : r'.val = 0 * 32 + r.val :=
    (congrArg (fun j : S2048x32.Idx => (j 1).val) hi).symm.trans (Window.rect_emb_val (cfg1.win (14 : Fin 15)) t (ix2 s r) 1 rfl)
  rw [map1_14] at i0
  obtain rfl : r = r' := Fin.ext (by omega)
  exact (att1_at W c t s r p i0).trans (congrArg (attAll W c) hi).symm

theorem arr1_14 : (dat1 W c).arrAt (14 : Fin 15) 13 = attAll W c := by
  refine Dat.arrAt_eq_of_cover (dat1 W c) (14 : Fin 15) (attAll W c) (fun t _ => funext fun y => cut14 W c t y) (fun i => ?_)
  obtain ⟨q, r, rfl⟩ := ix2_of (a := 2048) (b := 32) i
  obtain ⟨t, ht, hq⟩ : ∃ t : Fin grid1.N, (t.val < 3 ∨ t.val = 12) ∧ min t.val 3 = q.val / 512 := by
    by_cases h : q.val / 512 < 3
    · exact ⟨⟨q.val / 512, show q.val / 512 < 13 by omega⟩, .inl h, by show min (q.val / 512) 3 = _; omega⟩
    · exact ⟨⟨12, by decide⟩, .inr rfl, by show min 12 3 = _; omega⟩
  refine ⟨t, (flush1_14 t).2 ht, under (cfg1.win (14 : Fin 15)) t (ix2 ⟨q.val % 512, Nat.mod_lt _ (by omega)⟩ r : S512x32.Idx) (ix2 q r) rfl fun ax => ?_⟩
  match ax with
  | ⟨0, _⟩ =>
    show q.val = cc1_transform_14 (grid1.coords t) 0 * 512 + q.val % 512
    rw [map1_14, hq]; omega
  | ⟨1, _⟩ => show r.val = 0 * 32 + r.val; omega

end Cert.KernelIdeal.Hand
-- ==== Proof.KRes.lean ====
/-
  The kernel's three results at an index, as functions of the arguments alone, over the extended reals.
-/
module

public import proofs.«01_k».proof.Proof.KVal1
public import proofs.«01_k».proof.Proof.Vals

@[expose] public section

set_option maxRecDepth 16384

noncomputable section

namespace Cert.KernelIdeal.Hand

open Facts₀ Facts
open Cert.KernelIdeal.Gen

open Idealize.ShloMosaic Idealize.ShloMosaic.Pipeline
open Idealize.ShloMosaic.TcCoe Idealize.ShloMosaic.Tactic

/-- The arguments of a launch. -/
structure Args where
  x0 : S32x1.Idx → BitVec 32
  x1 : S32x256.Idx → EReal
  x2 : S32x2048x256.Idx → EReal
  x3 : S100000x64.Idx → EReal
  x4 : S256x256.Idx → EReal
  x5 : S256.Idx → EReal
  x6 : S256x256.Idx → EReal
  x7 : S256.Idx → EReal
  x8 : S256x1.Idx → EReal
  x9 : S1.Idx → EReal
  x10 : S320x768.Idx → EReal
  x11 : S256x768.Idx → EReal
  x12 : S2x768.Idx → EReal
  x13 : S256x100000.Idx → EReal
  x14 : S100000.Idx → EReal

namespace Args

variable (A : Args)

/-- The score of a position of a row. -/
def sco (r : Fin 32) (t : Fin 2048) : EReal :=
  score A.x2 A.x6 (query A.x1 A.x4 fun u => A.x5 (ix1 u) + A.x7 (ix1 u)) A.x8 (A.x9 (ix1 0)) r t

/-- The sum of a row's exponentials. -/
def den (r : Fin 32) : EReal := ∑ t : Fin 2048, Ideal.exp (A.sco r t)

/-- The exponentials' mixture of a row's encodings. -/
def mix (r : Fin 32) (u : Fin 256) : EReal := ∑ t : Fin 2048, Ideal.exp (A.sco r t) * A.x2 (ix3 r t u)

/-- The embedding a row's word names. -/
def emb (r : Fin 32) (k : Fin 64) : EReal := A.x3 (ix2 (rowOf (A.x0 (ix2 r 0))) k)

/-- The state. -/
def sta : Fin 32 → Fin 256 → EReal := cell (proj A.mix A.den A.emb A.x10 A.x12) A.x12

/-- The logits. -/
def log (r : Fin 32) (q : Fin 100000) : EReal := out A.sta A.x13 (fun q => A.x14 (ix1 q)) r q

/-- The attention weights. -/
def att (r : Fin 32) (t : Fin 2048) : EReal := Ideal.div (Ideal.exp (A.sco r t)) (A.den r)

end Args

variable (m : (ℓ : Idealize.ShloMosaic.Loc nD τ sig) → Buf (Elt Ideal) ℓ) (hT : Rows m) (c : Dev nD)

/-- The arguments a memory holds. -/
def argsOf : Args where
  x0 := V0 m c main_arg0
  x1 := V0 m c main_arg1
  x2 := V0 m c main_arg2
  x3 := V0 m c main_arg3
  x4 := V0 m c main_arg4
  x5 := V0 m c main_arg5
  x6 := V0 m c main_arg6
  x7 := V0 m c main_arg7
  x8 := V0 m c main_arg8
  x9 := V0 m c main_arg9
  x10 := V0 m c main_arg10
  x11 := V0 m c main_arg11
  x12 := V0 m c main_arg12
  x13 := V0 m c main_arg13
  x14 := V0 m c main_arg14

theorem v0_at (r : Fin 32) : in0 m c main_v0 (ix1 r) = (argsOf m c).x0 (ix2 r 0) := by
  show shapeCast S32 (V0 m c main_arg0 : IVec S32x1 32) Gen.shapeCasts_S32x1_S32 (ix1 r) = V0 m c main_arg0 (ix2 r 0)
  pointwise

theorem v2_at (u : Fin 256) : in0 m c main_v2 (ix2 0 u) = (argsOf m c).x5 (ix1 u) + (argsOf m c).x7 (ix1 u) := by
  show shapeCast S1x256 (addf (argsOf m c).x5 (argsOf m c).x7 : FVec Ideal S256 .f32) Gen.shapeCasts_S256_S1x256 (ix2 0 u) = _
  pointwise

theorem v3_at : in0 m c main_v3 (ix2 0 0) = (argsOf m c).x9 (ix1 0) := by
  show shapeCast S1x1 (V0 m c main_arg9 : FVec Ideal S1 .f32) Gen.shapeCasts_S1_S1x1 (ix2 0 0) = V0 m c main_arg9 (ix1 0)
  pointwise

theorem in0_of (r : Ref sig .tc) (h : r ∉ hostOps0_W) : in0 m c r = V0 m c r := V1_of m c r h

theorem sco_eq : sc0 (in0 m) c = (argsOf m c).sco := by
  funext r t
  unfold sc0 Args.sco
  rw [v3_at, in0_of m c main_arg2 (by decide), in0_of m c main_arg6 (by decide), in0_of m c main_arg1 (by decide),
    in0_of m c main_arg4 (by decide), in0_of m c main_arg8 (by decide)]
  rw [show (fun u => in0 m c main_v2 (ix2 0 u)) = (fun u => (argsOf m c).x5 (ix1 u) + (argsOf m c).x7 (ix1 u) : Fin 256 → EReal) from
    funext fun u => v2_at m c u]
  rfl

theorem p_at (t : Fin 2048) (r : Fin 32) : W2 m hT c main_v4_0 (ix2 t r) = Ideal.exp ((argsOf m c).sco r t) := by
  rw [W2_0]
  refine (congrFun (arr0_7 (in0 m) (tab0 (in0 m)) c hT) (ix2 t r)).trans ?_
  rw [← sco_eq]
  rfl

theorem c_at (r : Fin 32) (u : Fin 256) : W2 m hT c main_v4_1 (ix2 r u) = (argsOf m c).mix r u := by
  rw [W2_1]
  refine (congrFun (arr0_8 (in0 m) (tab0 (in0 m)) c hT) (ix2 r u)).trans ((cAt_at (in0 m) (tab0 (in0 m)) c r u).trans ?_)
  rw [sco_eq, in0_of m c main_arg2 (by decide)]
  rfl

theorem l_at (r : Fin 32) : W2 m hT c main_v4_2 (ix2 r 0) = (argsOf m c).den r := by
  rw [W2_2]
  refine (congrFun (arr0_9 (in0 m) (tab0 (in0 m)) c hT) (ix2 r 0)).trans ((lAt_at (in0 m) (tab0 (in0 m)) c r).trans ?_)
  rw [sco_eq]
  rfl

theorem e_at (r : Fin 32) (k : Fin 64) : W2 m hT c main_v4_3 (ix2 r k) = (argsOf m c).emb r k := by
  rw [W2_3]
  refine (congrFun (arr0_10 (in0 m) (tab0 (in0 m)) c hT) (ix2 r k)).trans ((emb0_at (in0 m) c hT r k).trans ?_)
  rw [v0_at, in0_of m c main_arg3 (by decide)]
  rfl

theorem in1_of (r : Ref sig .tc) (h : r ∉ hostOps1_W) : in1 m hT c r = W2 m hT c r := V3_of m (left m hT) c r h

theorem in1_arg (r : Ref sig .tc) (h : r ∉ hostOps1_W) (h' : r ∉ ([main_v4_0, main_v4_1, main_v4_2, main_v4_3] : List (Ref sig .tc)))
    (h'' : r ∉ hostOps0_W) : in1 m hT c r = V0 m c r :=
  (in1_of m hT c r h).trans ((V2_of m (left m hT) c r h').trans (V1_of m c r h''))

theorem v5_at (q : Fin 100000) : in1 m hT c main_v5 (ix2 0 q) = (argsOf m c).x14 (ix1 q) := by
  have e : W2 m hT c main_arg14 = V0 m c main_arg14 := (V2_of m (left m hT) c _ (by decide)).trans (V1_of m c _ (by decide))
  show shapeCast S1x100000 (W2 m hT c main_arg14 : FVec Ideal S100000 .f32) Gen.shapeCasts_S100000_S1x100000 (ix2 0 q) = V0 m c main_arg14 (ix1 q)
  rw [e]
  pointwise

theorem v6_at (r : Fin 32) : in1 m hT c main_v6 (ix2 0 r) = (argsOf m c).den r := by
  refine Eq.trans ?_ (l_at m hT c r)
  show shapeCast S1x32 (W2 m hT c main_v4_2 : FVec Ideal S32x1 .f32) Gen.shapeCasts_S32x1_S1x32 (ix2 0 r) = W2 m hT c main_v4_2 (ix2 r 0)
  pointwise

theorem sta_eq : st1 (in1 m hT) c = (argsOf m c).sta := by
  unfold st1 Args.sta
  rw [in1_of m hT c main_v4_1 (by decide), in1_of m hT c main_v4_2 (by decide), in1_of m hT c main_v4_3 (by decide),
    in1_arg m hT c main_arg10 (by decide) (by decide) (by decide), in1_arg m hT c main_arg12 (by decide) (by decide) (by decide)]
  rw [show (fun r k => W2 m hT c main_v4_1 (ix2 r k)) = (argsOf m c).mix from funext fun r => funext fun k => c_at m hT c r k,
    show (fun r => W2 m hT c main_v4_2 (ix2 r 0)) = (argsOf m c).den from funext fun r => l_at m hT c r,
    show (fun r k => W2 m hT c main_v4_3 (ix2 r k)) = (argsOf m c).emb from funext fun r => funext fun k => e_at m hT c r k]
  rfl

/-- The logits the second grid leaves. -/
theorem log_at (r : Fin 32) (q : Fin 100000) : (d1 m hT c).arrAt (12 : Fin 15) 13 (ix2 r q) = (argsOf m c).log r q := by
  refine (congrFun (arr1_12 (in1 m hT) c) (ix2 r q)).trans ?_
  unfold outAll Args.log
  rw [sta_eq, in1_arg m hT c main_arg13 (by decide) (by decide) (by decide)]
  rw [show (fun q => in1 m hT c main_v5 (ix2 0 q)) = (fun q => (argsOf m c).x14 (ix1 q) : Fin 100000 → EReal) from
    funext fun q => v5_at m hT c q]
  rfl

/-- The state the launch leaves. -/
theorem state_at (r : Fin 32) (u : Fin 256) : W5 m hT c main_v7_1 (ix2 r u) = (argsOf m c).sta r u := by
  have e : W5 m hT c main_v7_1 = W4 m hT c main_v7_1 := V5_of m (left m hT) c main_v7_1 (by decide)
  rw [e, W4_1]
  refine (congrFun (arr1_13 (in1 m hT) c) (ix2 r u)).trans ?_
  rw [hn1_at, sta_eq]

/-- The attention weights the launch leaves. -/
theorem weight_at (r : Fin 32) (t : Fin 2048) (o : Fin 1) : W5 m hT c main_v9 (ix3 r t o) = (argsOf m c).att r t := by
  have e : (W4 m hT c main_v7_2 : FVec Ideal S2048x32 .f32) = attAll (in1 m hT) c := (W4_2 m hT c).trans (arr1_14 (in1 m hT) c)
  have h : W5 m hT c main_v9 (ix3 r t o) = attAll (in1 m hT) c (ix2 t r) := by
    show broadcastInDim S32x2048x1 ![0, 1] Gen.bcast_S32x2048_S32x2048x1_0_1
      (transpose S32x2048 [1, 0] (W4 m hT c main_v7_2 : FVec Ideal S2048x32 .f32) Gen.transposes_S2048x32_S32x2048_1_0) (ix3 r t o) = _
    rw [e]
    pointwise
  rw [h]
  unfold attAll Args.att
  rw [in1_of m hT c main_v4_0 (by decide)]
  refine congrArg₂ Ideal.div (p_at m hT c t r) ?_
  exact v6_at m hT c r

end Cert.KernelIdeal.Hand

end
-- ==== Proof.Soft.lean ====
/-
  A softmax over real scores, shifted or not, and the mixtures it weighs, over the extended reals.
-/
module

public import Idealize.ShloMosaic.PureOps.Ideal
public import Idealize.ShloMosaic.PureOps.Ideal.Laws
public import Mathlib.Analysis.SpecialFunctions.Exp

@[expose] public section

noncomputable section

namespace Cert.Soft

open Idealize.ShloMosaic

/-- An extended real that is a real. -/
def Real' (x : EReal) : Prop := ∃ y : ℝ, x = y

theorem tanh_real (x : EReal) : Real' (Ideal.tanh x) := by
  induction x with
  | bot => exact ⟨-1, by show (-1 : EReal) = ((-1 : ℝ) : EReal); simp⟩
  | top => exact ⟨1, by show (1 : EReal) = ((1 : ℝ) : EReal); simp⟩
  | coe r => exact ⟨_, rfl⟩

theorem add_real {x y : EReal} : Real' x → Real' y → Real' (x + y)
  | ⟨a, ha⟩, ⟨b, hb⟩ => ⟨a + b, by rw [ha, hb, EReal.coe_add]⟩

theorem mul_real {x y : EReal} : Real' x → Real' y → Real' (x * y)
  | ⟨a, ha⟩, ⟨b, hb⟩ => ⟨a * b, by rw [ha, hb, EReal.coe_mul]⟩

theorem of_ne {x : EReal} (h : x ≠ ⊤) (h' : x ≠ ⊥) : Real' x := ⟨x.toReal, (EReal.coe_toReal h h').symm⟩

theorem sum_coe {ι : Type} (S : Finset ι) (f : ι → ℝ) : ∑ t ∈ S, (f t : EReal) = ((∑ t ∈ S, f t : ℝ) : EReal) := by
  classical
  induction S using Finset.induction with
  | empty => simp
  | insert a S h ih => rw [Finset.sum_insert h, Finset.sum_insert h, ih, EReal.coe_add]

theorem sum_real {ι : Type} (S : Finset ι) (f : ι → EReal) (h : ∀ t, Real' (f t)) : Real' (∑ t ∈ S, f t) := by
  choose g hg using h
  exact ⟨∑ t ∈ S, g t, by rw [← sum_coe]; exact Finset.sum_congr rfl fun t _ => hg t⟩

variable {n : ℕ} (s : Fin n → ℝ) (M : ℝ)

theorem den_pos (r : Fin n) : 0 < ∑ t : Fin n, Real.exp (s t) :=
  Finset.sum_pos (fun t _ => Real.exp_pos _) ⟨r, Finset.mem_univ r⟩

theorem den_coe : ∑ t : Fin n, Ideal.exp (s t : EReal) = ((∑ t : Fin n, Real.exp (s t) : ℝ) : EReal) :=
  sum_coe Finset.univ fun t => Real.exp (s t)

/-- The weight of a score is the same whatever real is taken from every score first. -/
theorem shift (r : Fin n) :
    Ideal.div (Ideal.exp ((s r : EReal) - M)) (∑ t : Fin n, Ideal.exp ((s t : EReal) - M))
      = Ideal.div (Ideal.exp (s r : EReal)) (∑ t : Fin n, Ideal.exp (s t : EReal)) := by
  have h1 : ∀ t, (s t : EReal) - M = ((s t - M : ℝ) : EReal) := fun t => (EReal.coe_sub _ _).symm
  simp only [h1]
  rw [den_coe s, den_coe fun t => s t - M, Ideal.div_coe (den_pos s r).ne', Ideal.div_coe (den_pos (fun t => s t - M) r).ne']
  rw [Ideal.exp_coe, Ideal.exp_coe, ← EReal.coe_mul, ← EReal.coe_mul]
  refine congrArg _ ?_
  have hd : ∑ t : Fin n, Real.exp (s t - M) = (∑ t : Fin n, Real.exp (s t)) / Real.exp M := by
    rw [Finset.sum_div]
    exact Finset.sum_congr rfl fun t _ => Real.exp_sub _ _
  have := (den_pos s r).ne'
  have := (Real.exp_pos M).ne'
  rw [hd, Real.exp_sub]
  field_simp

theorem sum_mul_coe {ι : Type} (S : Finset ι) (f : ι → EReal) (a : ℝ) (ha : 0 ≤ a) : (∑ t ∈ S, f t) * (a : EReal) = ∑ t ∈ S, f t * (a : EReal) := by
  classical
  induction S using Finset.induction with
  | empty => simp
  | insert i S h ih =>
    rw [Finset.sum_insert h, Finset.sum_insert h, ← ih]
    exact EReal.right_distrib_of_nonneg_of_ne_top (EReal.coe_nonneg.mpr ha) (EReal.coe_ne_top a) _ _

/-- Dividing a mixture by its weights' sum is mixing by the divided weights. -/
theorem mixture (x : Fin n → EReal) (h : 0 < n) :
    Ideal.div (∑ t : Fin n, Ideal.exp (s t : EReal) * x t) (∑ t : Fin n, Ideal.exp (s t : EReal))
      = ∑ t : Fin n, Ideal.div (Ideal.exp (s t : EReal)) (∑ t : Fin n, Ideal.exp (s t : EReal)) * x t := by
  have hp := den_pos s ⟨0, h⟩
  rw [den_coe s]
  simp only [Ideal.div_coe hp.ne']
  rw [sum_mul_coe _ _ _ (one_div_pos.mpr hp).le]
  exact Finset.sum_congr rfl fun t _ => mul_right_comm _ _ _

/-- A fold by the maximum from the bottom, over reals and not empty, is a real. -/
theorem fold_max_real {ι : Type} (x : ι → EReal) (hx : ∀ i, Real' (x i)) :
    ∀ (l : List ι) (a : EReal), (a ≠ ⊤) → (l ≠ [] ∨ a ≠ ⊥) → Real' (l.foldl (fun b i => max b (x i)) a)
  | [], a, h, h' => of_ne h (h'.resolve_left fun h => h rfl)
  | i :: l, a, h, _ => by
    obtain ⟨y, hy⟩ := hx i
    refine fold_max_real x hx l (max a (x i)) ?_ (.inr ?_)
    · rw [hy]; exact (max_lt (lt_top_iff_ne_top.mpr h) (EReal.coe_lt_top y)).ne
    · rw [hy]; exact ((EReal.bot_lt_coe y).trans_le (le_max_right _ _)).ne'

end Cert.Soft

end
-- ==== Proof.RVal.lean ====
/-
  The reference's three results at an index, over the extended reals.
-/
module

public import proofs.«01_k».proof.Proof.KRes
public import proofs.«01_k».proof.Proof.Soft
public import proofs.«01_k».proof.Proof.Gen.ReferenceIdeal.Read
public import Idealize.ShloMosaic.Lib.Pointwise
public import Idealize.ShloMosaic.Lib.ReduceAll

@[expose] public section

set_option maxRecDepth 16384

noncomputable section

namespace Cert.ReferenceIdeal.Hand

open Cert.ReferenceIdeal Cert.ReferenceIdeal.Gen Cert.ReferenceIdeal.Read
open Idealize.ShloMosaic
open Cert.KernelIdeal.Hand (Args query score cell proj out rowOf)
open Cert.Soft

variable (A : Args)

abbrev s15 := val_main_v15 (F := Ideal) A.x1 A.x2 A.x4 A.x5 A.x6 A.x7 A.x8 A.x9
abbrev s18 := val_main_v18 (F := Ideal) A.x1 A.x2 A.x4 A.x5 A.x6 A.x7 A.x8 A.x9
abbrev s22 := val_main_v22 (F := Ideal) A.x1 A.x2 A.x4 A.x5 A.x6 A.x7 A.x8 A.x9
abbrev s26 := val_main_v26 (F := Ideal) A.x1 A.x2 A.x4 A.x5 A.x6 A.x7 A.x8 A.x9
abbrev s29 := val_main_v29 (F := Ideal) A.x1 A.x2 A.x4 A.x5 A.x6 A.x7 A.x8 A.x9
abbrev s30 := val_main_v30 (F := Ideal) A.x0 A.x3
abbrev s34 := val_main_v34 (F := Ideal) A.x0 A.x1 A.x2 A.x3 A.x4 A.x5 A.x6 A.x7 A.x8 A.x9
abbrev s40 := val_main_v40 (F := Ideal) A.x0 A.x1 A.x2 A.x3 A.x4 A.x5 A.x6 A.x7 A.x8 A.x9 A.x10 A.x12
abbrev s74 := val_main_v74 (F := Ideal) A.x0 A.x1 A.x2 A.x3 A.x4 A.x5 A.x6 A.x7 A.x8 A.x9 A.x10 A.x11 A.x12
abbrev s78 := val_main_v78 (F := Ideal) A.x0 A.x1 A.x2 A.x3 A.x4 A.x5 A.x6 A.x7 A.x8 A.x9 A.x10 A.x11 A.x12 A.x13 A.x14

theorem pre_at (r : Fin 32) (t : Fin 2048) (u : Fin 256) :
    val_main_v10 (F := Ideal) A.x1 A.x2 A.x4 A.x5 A.x6 A.x7 (ix3 r t u)
      = (((∑ k : Fin 256, A.x1 (ix2 r k) * A.x4 (ix2 k u)) + A.x5 (ix1 u)) + ∑ k : Fin 256, A.x2 (ix3 r t k) * A.x6 (ix2 k u)) + A.x7 (ix1 u) := by
  pointwise [val_main_v10, val_main_v9, val_main_v8, val_main_v7, val_main_v6, val_main_v5, val_main_v4, val_main_v3, val_main_v2,
    val_main_v1, val_main_v0]

theorem s15_at (r : Fin 32) (t : Fin 2048) : s15 A (ix3 r t 0) = A.sco r t := by
  have h : s15 A (ix3 r t 0) = (∑ u : Fin 256, Ideal.tanh (val_main_v10 (F := Ideal) A.x1 A.x2 A.x4 A.x5 A.x6 A.x7 (ix3 r t u)) * A.x8 (ix2 u 0))
      + A.x9 (ix1 0) := by
    unfold s15 val_main_v15 val_main_v14 val_main_v13 val_main_v12 val_main_v11
    generalize val_main_v10 (F := Ideal) A.x1 A.x2 A.x4 A.x5 A.x6 A.x7 = y
    pointwise
  rw [h]
  refine congrArg (· + A.x9 (ix1 0)) (Finset.sum_congr rfl fun u _ => congrArg (fun z => Ideal.tanh z * A.x8 (ix2 u 0)) ?_)
  rw [pre_at]
  unfold query
  rw [add_assoc, add_assoc, add_left_comm (A.x5 (ix1 u)), ← add_assoc, add_comm (∑ k : Fin 256, A.x1 (ix2 r k) * A.x4 (ix2 k u)), add_assoc]

theorem s22_at (r : Fin 32) (t : Fin 2048) : s22 A (ix3 r t 0) = Ideal.exp (A.sco r t - s18 A (ix2 r 0)) := by
  rw [← s15_at]
  unfold s22 s15 s18 val_main_v22 val_main_v21 val_main_v20 val_main_v19
  generalize val_main_v18 (F := Ideal) A.x1 A.x2 A.x4 A.x5 A.x6 A.x7 A.x8 A.x9 = y
  generalize val_main_v15 (F := Ideal) A.x1 A.x2 A.x4 A.x5 A.x6 A.x7 A.x8 A.x9 = z
  pointwise

theorem s26_at (r : Fin 32) (t : Fin 2048) :
    s26 A (ix3 r t 0) = Ideal.div (s22 A (ix3 r t 0)) (∑ t' : Fin 2048, s22 A (ix3 r t' 0)) := by
  unfold s26 s22 val_main_v26 val_main_v25 val_main_v24 val_main_v23
  generalize val_main_v22 (F := Ideal) A.x1 A.x2 A.x4 A.x5 A.x6 A.x7 A.x8 A.x9 = y
  pointwise [val_main_cst_1]

theorem s29_at (r : Fin 32) (u : Fin 256) : s29 A (ix2 r u) = ∑ t : Fin 2048, s26 A (ix3 r t 0) * A.x2 (ix3 r t u) := by
  unfold s29 s26 val_main_v29 val_main_v28 val_main_v27
  generalize val_main_v26 (F := Ideal) A.x1 A.x2 A.x4 A.x5 A.x6 A.x7 A.x8 A.x9 = y
  pointwise [val_main_cst_2]

/-! ## The row maximum is a real -/

theorem s18_real (hx : ∀ r t, Real' (A.sco r t)) (r : Fin 32) : Real' (s18 A (ix2 r 0)) := by
  have hy : ∀ i : S32x2048x1.Idx, Real' (val_main_v15 (F := Ideal) A.x1 A.x2 A.x4 A.x5 A.x6 A.x7 A.x8 A.x9 i) := fun i => by
    obtain ⟨r, t, o, rfl⟩ := Cert.KernelIdeal.Hand.ix3_of (a := 32) (b := 2048) (d := 1) i
    obtain rfl : o = 0 := Subsingleton.elim _ _
    have h := hx r t
    rw [← s15_at] at h
    exact h
  have hb : (Ideal.ofBits .f32 0xFF800000#32 : EReal) = ⊥ := by simp [Ideal.ofBits, Ideal.ieee]
  have hf : Real' (val_main_v16 (F := Ideal) A.x1 A.x2 A.x4 A.x5 A.x6 A.x7 A.x8 A.x9 (ix2 r 0)) := by
    unfold val_main_v16
    rw [Host.reduce_eq_foldl]
    refine fold_max_real _ hy _ _ ?_ (.inl ?_)
    · show Ideal.ofBits .f32 0xFF800000#32 ≠ ⊤
      rw [hb]
      exact bot_ne_top
    · refine List.ne_nil_of_mem (a := (ix3 r 0 0 : S32x2048x1.Idx)) (List.mem_filter.mpr ⟨List.mem_map.mpr ⟨S32x2048x1.rowMajor (ix3 r 0 0),
        List.mem_finRange _, Equiv.symm_apply_apply _ _⟩, ?_⟩)
      refine decide_eq_true (funext fun a => Fin.ext ?_)
      match a with
      | ⟨0, _⟩ => exact Shape.ReducesTo.drop_apply_val_of_eq reducesTo_S32x2048x1_S32x1_d1 (ix3 r 0 0 : S32x2048x1.Idx) (0 : Fin 2) (0 : Fin 3)
      | ⟨1, _⟩ => exact Shape.ReducesTo.drop_apply_val_of_eq reducesTo_S32x2048x1_S32x1_d1 (ix3 r 0 0 : S32x2048x1.Idx) (1 : Fin 2) (2 : Fin 3)
  obtain ⟨y, hy⟩ := hf
  refine ⟨y, ?_⟩
  show max (Ideal.ofBits .f32 0xFF800000#32) (val_main_v16 (F := Ideal) A.x1 A.x2 A.x4 A.x5 A.x6 A.x7 A.x8 A.x9 (ix2 r 0)) = y
  rw [hb, hy]
  exact max_eq_right bot_le

/-! ## The rows the words name -/

theorem gather_at (x : S100000x64.Idx → EReal) (idx : IVec S32x1x1 32) (r : Fin 32) (k : Fin 64) :
    Host.gather gather_S100000x64_S32x1x1_S32x1x64_2_0_n_n_0_2_164 x idx (ix3 r 0 k)
      = x (ix2 ⟨min (idx (ix3 r 0 0)).toInt.toNat 99999, by omega⟩ k) := by
  refine congrArg x (funext fun a => Fin.ext ?_)
  show GatherDims.start _ (ix3 r 0 k) idx a + GatherDims.batchCoord _ (ix3 r 0 k) a + GatherDims.offCoord _ (ix3 r 0 k) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    have e : GatherDims.siIdx gather_S100000x64_S32x1x1_S32x1x64_2_0_n_n_0_2_164 (ix3 r 0 k) ⟨0, by decide⟩ = ix3 r 0 0 := by
      funext b
      match b with
      | ⟨0, _⟩ => rfl
      | ⟨1, _⟩ => rfl
      | ⟨2, _⟩ => rfl
    refine (dif_pos (List.mem_singleton.mpr rfl)).trans ?_
    exact congrArg (fun z => min (idx z).toInt.toNat 99999) e
  | ⟨1, _⟩ =>
    have e0 : GatherDims.start gather_S100000x64_S32x1x1_S32x1x64_2_0_n_n_0_2_164 (ix3 r 0 k) idx (1 : Fin 2) = 0 :=
      dif_neg (show (1 : Fin 2) ∉ ([0] : List (Fin 2)) by decide)
    refine (congrArg (· + _) e0).trans ((Nat.zero_add _).trans ?_)
    refine (dif_pos (show (1 : Fin 2) ∈ GatherDims.sKept gather_S100000x64_S32x1x1_S32x1x64_2_0_n_n_0_2_164 from
      (GatherDims.mem_sKept _ _).mpr ⟨show (1 : Fin 2) ∉ ([0] : List (Fin 2)) by decide, List.not_mem_nil⟩)).trans ?_
    rfl

theorem word_cmp (w : BitVec 32) (h : w.toNat < 100000) :
    IntOp.cmpi .slt w 0#32 = 0#1 ∧ IntOp.cmpi .sge w 0#32 = 1#1 ∧ IntOp.cmpi .sle w 99999#32 = 1#1 ∧ w.toInt.toNat = w.toNat := by
  have h1 : w.toInt = w.toNat := by rw [BitVec.toInt_eq_toNat_of_lt (by omega)]
  have h0 : ¬ (w.toNat : ℤ) < 0 := by omega
  have h9 : w.toNat ≤ 99999 := by omega
  refine ⟨?_, ?_, ?_, by omega⟩ <;> simp [IntOp.cmpi, BitVec.slt, BitVec.sle, h1, h0, h9]

theorem s30_at (hr : ∀ i, (A.x0 i).toNat < 100000) (r : Fin 32) (k : Fin 64) : s30 A (ix3 r 0 k) = A.emb r k := by
  have h4 : ∀ i, val_main_call0_v4 (F := Ideal) A.x0 i = A.x0 i := fun i => by
    rw [val_main_call0_v4_apply, val_main_call0_v1_apply, val_main_call0_v0_apply, val_main_call0_c_apply, (word_cmp _ (hr i)).1]
    rfl
  have h5 : ∀ i, val_main_call0_v5 (F := Ideal) A.x0 i = A.x0 (idx_main_call0_v5 i) := fun i => by
    rw [val_main_call0_v5_apply, h4]
  have h12 : val_main_call0_v12 (F := Ideal) A.x0 (idx_main_call0_v14 (ix3 r 0 k)) = 1#1 := by
    refine Host.reduce_andi_one _ _ _ _ _ rfl fun i => ?_
    rw [val_main_call0_v11_apply, val_main_call0_v7_apply, val_main_call0_v10_apply, h5, val_main_call0_v6_apply, val_main_call0_c_2_apply,
      val_main_call0_v9_apply, val_main_call0_v8_apply, val_main_call0_c_1_apply, (word_cmp _ (hr _)).2.1, (word_cmp _ (hr _)).2.2.1]
    rfl
  unfold s30
  rw [val_main_v30_apply, val_main_call0_v14_apply, h12]
  show val_main_call0_v13 (F := Ideal) A.x0 A.x3 (ix3 r 0 k) = _
  unfold val_main_call0_v13
  rw [gather_at]
  unfold Args.emb rowOf
  have e : val_main_call0_v5 (F := Ideal) A.x0 (ix3 r 0 0) = A.x0 (ix2 r 0) := by
    rw [h5]
    refine congrArg A.x0 (funext fun a => ?_)
    match a with
    | ⟨0, _⟩ => rfl
    | ⟨1, _⟩ => rfl
  refine congrArg A.x3 (congrArg (fun q => ix2 q k) (Fin.ext ?_))
  show min (val_main_call0_v5 (F := Ideal) A.x0 (ix3 r 0 0)).toInt.toNat 99999 = min (A.x0 (ix2 r 0)).toNat 99999
  rw [e, (word_cmp _ (hr _)).2.2.2]

/-! ## The recurrent step -/

theorem s34_left (r : Fin 32) (k : Fin 256) : s34 A (ix2 r ⟨k.val, by omega⟩) = s29 A (ix2 r k) := by
  unfold s34 s29 val_main_v34 val_main_v32 val_main_v31
  generalize val_main_v29 (F := Ideal) A.x1 A.x2 A.x4 A.x5 A.x6 A.x7 A.x8 A.x9 = y
  generalize val_main_v30 (F := Ideal) A.x0 A.x3 = z
  pointwise

theorem s34_right (r : Fin 32) (k : Fin 64) : s34 A (ix2 r ⟨256 + k.val, by omega⟩) = s30 A (ix3 r 0 k) := by
  unfold s34 s30 val_main_v34 val_main_v32 val_main_v31
  generalize val_main_v29 (F := Ideal) A.x1 A.x2 A.x4 A.x5 A.x6 A.x7 A.x8 A.x9 = y
  generalize val_main_v30 (F := Ideal) A.x0 A.x3 = z
  pointwise

theorem s40_at (r : Fin 32) (j : Fin 768) : s40 A (ix2 r j) = (∑ k : Fin 320, s34 A (ix2 r k) * A.x10 (ix2 k j)) + A.x12 (ix2 0 j) := by
  unfold s40 s34 val_main_v40 val_main_v39 val_main_v38 val_main_v37 val_main_v36 val_main_v35
  generalize val_main_v34 (F := Ideal) A.x0 A.x1 A.x2 A.x3 A.x4 A.x5 A.x6 A.x7 A.x8 A.x9 = y
  pointwise

theorem h46_at (r : Fin 32) (j : Fin 768) : val_main_v46 (F := Ideal) A.x11 A.x12 (ix2 r j) = A.x12 (ix2 1 j) := by
  pointwise [val_main_v46, val_main_v45, val_main_v44, val_main_v43, val_main_v42, val_main_v41, val_main_v33, val_main_cst_3]
  simp only [zero_mul, Finset.sum_const_zero, zero_add]

theorem s74_at (r : Fin 32) (u : Fin 256) : s74 A (ix2 r u) = cell (fun r j => s40 A (ix2 r j)) A.x12 r u := by
  have hz := h46_at A r
  unfold cell
  unfold s74 s40 val_main_v74 val_main_v73 val_main_v72 val_main_v71 val_main_v70 val_main_v69 val_main_v68 val_main_v67 val_main_v66 val_main_v65
    val_main_v64 val_main_v63 val_main_v62 val_main_v61 val_main_v60 val_main_v59 val_main_v58 val_main_v57 val_main_v56 val_main_v55
    val_main_v54 val_main_v53 val_main_v52 val_main_v51 val_main_v50 val_main_v49 val_main_v48 val_main_v47
  generalize val_main_v40 (F := Ideal) A.x0 A.x1 A.x2 A.x3 A.x4 A.x5 A.x6 A.x7 A.x8 A.x9 A.x10 A.x12 = y
  generalize val_main_v46 (F := Ideal) A.x11 A.x12 = z at hz ⊢
  pointwise [val_main_cst_4, val_main_cst_5, val_main_cst_6, val_main_cst_7, val_main_cst_8, val_main_v33, val_main_cst_3]
  rw [mul_zero, zero_add]
  simp only [hz]
  rfl

theorem s78_at (r : Fin 32) (q : Fin 100000) : s78 A (ix2 r q) = out (fun r u => s74 A (ix2 r u)) A.x13 (fun q => A.x14 (ix1 q)) r q := by
  unfold out s78 s74 val_main_v78 val_main_v77 val_main_v76 val_main_v75
  generalize val_main_v74 (F := Ideal) A.x0 A.x1 A.x2 A.x3 A.x4 A.x5 A.x6 A.x7 A.x8 A.x9 A.x10 A.x11 A.x12 = y
  pointwise

end Cert.ReferenceIdeal.Hand

end
-- ==== Proof.Match.lean ====
/-
  Where the scores are real and the words name rows, the reference's results are the kernel's.
-/
module

public import proofs.«01_k».proof.Proof.RVal

@[expose] public section

set_option maxRecDepth 16384

noncomputable section

namespace Cert.ReferenceIdeal.Hand

open Cert.ReferenceIdeal
open Idealize.ShloMosaic
open Cert.KernelIdeal.Hand (Args query score cell proj out rowOf)
open Cert.Soft

variable (A : Args)

/-- Finite weights of the last score layer make every score real. -/
theorem sco_real (h8 : ∀ i, Real' (A.x8 i)) (h9 : ∀ i, Real' (A.x9 i)) (r : Fin 32) (t : Fin 2048) : Real' (A.sco r t) :=
  add_real (sum_real _ _ fun u => mul_real (tanh_real _) (h8 _)) (h9 _)

variable (hx : ∀ r t, Real' (A.sco r t))

include hx

theorem s26_eq (r : Fin 32) (t : Fin 2048) : s26 A (ix3 r t 0) = A.att r t := by
  obtain ⟨M, hM⟩ := s18_real A hx r
  choose s hs using hx r
  rw [s26_at]
  simp only [s22_at, hM, hs]
  refine (shift s M t).trans ?_
  unfold Args.att Args.den
  simp only [hs]

theorem s29_eq (r : Fin 32) (u : Fin 256) : s29 A (ix2 r u) = Ideal.div (A.mix r u) (A.den r) := by
  rw [s29_at]
  simp only [s26_eq A hx]
  choose s hs using hx r
  unfold Args.att Args.mix Args.den
  simp only [hs]
  exact (mixture s (fun t => A.x2 (ix3 r t u)) (by decide)).symm

variable (hr : ∀ i, (A.x0 i).toNat < 100000)

include hr

theorem s40_eq (r : Fin 32) (j : Fin 768) : s40 A (ix2 r j) = proj A.mix A.den A.emb A.x10 A.x12 r j := by
  rw [s40_at]
  unfold proj
  refine congrArg (· + A.x12 (ix2 0 j)) ?_
  rw [Fin.sum_univ_add (a := 256) (b := 64) fun k : Fin (256 + 64) => s34 A (ix2 r k) * A.x10 (ix2 k j)]
  refine congrArg₂ (· + ·) (Finset.sum_congr rfl fun k _ => ?_) (Finset.sum_congr rfl fun k _ => ?_)
  · exact congrArg (· * _) ((s34_left A r k).trans (s29_eq A hx r k))
  · exact congrArg (· * _) ((s34_right A r k).trans (s30_at A hr r k))

theorem s74_eq (r : Fin 32) (u : Fin 256) : s74 A (ix2 r u) = A.sta r u := by
  rw [s74_at, show (fun r j => s40 A (ix2 r j)) = proj A.mix A.den A.emb A.x10 A.x12 from
    funext fun r => funext fun j => s40_eq A hx hr r j]
  rfl

theorem s78_eq (r : Fin 32) (q : Fin 100000) : s78 A (ix2 r q) = A.log r q := by
  rw [s78_at, show (fun r u => s74 A (ix2 r u)) = A.sta from funext fun r => funext fun u => s74_eq A hx hr r u]
  rfl

end Cert.ReferenceIdeal.Hand

end
-- ==== Proof.Algebra.lean ====
/-
  The value claim: from memories agreeing on the arguments, the idealized kernel and the reference end with equal
  results.
-/
module

public import proofs.«01_k».proof.Proof.Frames
public import proofs.«01_k».proof.Proof.Match

@[expose] public section

set_option maxRecDepth 16384

noncomputable section

namespace Cert.KernelIdeal.Hand

open Cert.KernelIdeal.Gen
open Idealize.ShloMosaic Idealize.ShloMosaic.Pipeline
open Idealize.ShloMosaic.TcCoe Idealize.SL.Sem

variable (m : (ℓ : Idealize.ShloMosaic.Loc nD τ sig) → Buf (Elt Ideal) ℓ) (hT : Rows m)

/-- The three results of a memory that ends as named. -/
theorem results {c : Dev nD} {s : MemSt nD τ sig (Elt Ideal)} (h : Ends m hT c s) :
    (s.mem ((c.tc : Thread nD τ).loc main_v7_0) : S32x100000.Idx → EReal) = (fun j => (argsOf m c).log (j 0) (j 1))
      ∧ (s.mem ((c.tc : Thread nD τ).loc main_v7_1) : S32x256.Idx → EReal) = (fun j => (argsOf m c).sta (j 0) (j 1))
      ∧ (s.mem ((c.tc : Thread nD τ).loc main_v9) : S32x2048x1.Idx → EReal) = (fun j => (argsOf m c).att (j 0) (j 1)) := by
  refine ⟨funext fun j => ?_, funext fun j => ?_, funext fun j => ?_⟩
  · obtain ⟨r, q, rfl⟩ := ix2_of (a := 32) (b := 100000) j
    exact (congrFun (h.2 loc_ideal) (ix2 r q)).trans (log_at m hT c r q)
  · obtain ⟨r, u, rfl⟩ := ix2_of (a := 32) (b := 256) j
    exact (congrFun (arg_kept m hT h main_v7_1 rfl (by decide) _ rfl) (ix2 r u)).trans (state_at m hT c r u)
  · obtain ⟨r, t, o, rfl⟩ := ix3_of (a := 32) (b := 2048) (d := 1) j
    exact (congrFun (arg_kept m hT h main_v9 rfl (by decide) _ rfl) (ix3 r t o)).trans (weight_at m hT c r t o)

end Cert.KernelIdeal.Hand

namespace Cert.Proof

open Idealize.ShloMosaic Idealize.SL.Sem
open Cert.KernelIdeal.Hand (argsOf Args)
open Cert.ReferenceIdeal.Hand Cert.Soft

set_option maxHeartbeats 4000000 in
theorem algebraic : Cert.algebraic_KernelIdeal_ReferenceIdeal_pre_rows_named_scores_finite := by
  intro m g m' g' hp hm
  refine ⟨fun c => fun j => (argsOf m c).log (j 0) (j 1), fun c => fun j => (argsOf m c).sta (j 0) (j 1),
    fun c => fun j => (argsOf m c).att (j 0) (j 1), ?_, ?_⟩
  · refine (θ_run Cert.KernelIdeal.defs _ _).mono (fun r h c => ?_) (Cert.KernelIdeal.Hand.run_main (F := Ideal) m g (rows_finite m hp))
    have e := Cert.KernelIdeal.Hand.results m (rows_finite m hp) (h.1 c)
    exact ⟨e.1, e.2.1, e.2.2, Cert.KernelIdeal.Hand.args_kept (F := Ideal) m (rows_finite m hp) (h.1 c)⟩
  · refine (θ_run Cert.ReferenceIdeal.defs _ _).mono (fun r h c => ?_) (Cert.ReferenceIdeal.Value.run (F := Ideal) m' g')
    obtain ⟨a0, a1, a2, a3, a4, a5, a6, a7, a8, a9, a10, a11, a12, a13, a14⟩ := hm c
    have hr : ∀ i, ((argsOf m c).x0 i).toNat < 100000 := fun i => Cert.KernelIdeal.Hand.rows_of_finite (hp c) i
    have hw := Cert.KernelIdeal.Hand.weights_of_finite (hp c)
    have hx := sco_real (argsOf m c) (fun i => of_ne (hw.1 i).1 (hw.1 i).2) (fun i => of_ne (hw.2 i).1 (hw.2 i).2)
    refine ⟨(h c).1.trans ?_, (h c).2.1.trans ?_, (h c).2.2.1.trans ?_, (h c).2.2.2⟩
    · rw [Cert.ReferenceIdeal.Read.val_main_v78_eq, a0, a1, a2, a3, a4, a5, a6, a7, a8, a9, a10, a11, a12, a13, a14]
      funext j
      obtain ⟨r, q, rfl⟩ := Cert.KernelIdeal.Hand.ix2_of (a := 32) (b := 100000) j
      exact s78_eq (argsOf m c) hx hr r q
    · rw [Cert.ReferenceIdeal.Read.val_main_v74_eq, a0, a1, a2, a3, a4, a5, a6, a7, a8, a9, a10, a11, a12]
      funext j
      obtain ⟨r, u, rfl⟩ := Cert.KernelIdeal.Hand.ix2_of (a := 32) (b := 256) j
      exact s74_eq (argsOf m c) hx hr r u
    · rw [Cert.ReferenceIdeal.Read.val_main_v26_eq, a1, a2, a4, a5, a6, a7, a8, a9]
      funext j
      obtain ⟨r, t, o, rfl⟩ := Cert.KernelIdeal.Hand.ix3_of (a := 32) (b := 2048) (d := 1) j
      obtain rfl : o = 0 := Subsingleton.elim _ _
      exact s26_eq (argsOf m c) hx r t

end Cert.Proof

end
-- ==== Proof.lean ====
/-
  The claim: the frames of the kernel, of the idealized kernel and of the reference, and the equality of the results of
  the latter two.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_rows_named
public import proofs.«01_k».proof.Proof.Gen.Pre_rows_named_scores_finite
public import proofs.«01_k».proof.Proof.FrameKernel
public import proofs.«01_k».proof.Proof.Algebra
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_rows_named.Gen.facts,
    Cert.Pre_rows_named_scores_finite.Gen.facts, frame_kernel, frame_ideal, frame_finite, frame_reference,
    frame_reference_finite, trivial, algebraic⟩

end Cert.Proof

end
